-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores2 [hPre_finite_scores2 : Cert.Pre_finite_scores2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))).1 = (fun _ => 1#1)
    ∧ (Cert.Pre_finite_scores2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))).2.1 = (fun _ => 1#1)
    ∧ (Cert.Pre_finite_scores2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))).2.2.1 = (fun _ => 1#1)
    ∧ (Cert.Pre_finite_scores2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores2 [hPre_finite_scores2 : Cert.Pre_finite_scores2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))).1 = (fun _ => 1#1)
    ∧ (Cert.Pre_finite_scores2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))).2.1 = (fun _ => 1#1)
    ∧ (Cert.Pre_finite_scores2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))).2.2.1 = (fun _ => 1#1)
    ∧ (Cert.Pre_finite_scores2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Kernel2Ideal_pre_finite_scores2 [hKernel2Ideal : Cert.Kernel2Ideal.Facts] [hPre_finite_scores2 : Cert.Pre_finite_scores2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Reference2Ideal_pre_finite_scores2 [hReference2Ideal : Cert.Reference2Ideal.Facts] [hPre_finite_scores2 : Cert.Pre_finite_scores2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  IdealRules.named_const.Statement Cert.Kernel2Ideal.κ "log2e" .f32 0x3FB8AA3B#32 (((Real.log 2)⁻¹ : ℝ) : EReal)
  ∧ IdealRules.named_const.Statement Cert.Kernel2Ideal.κ "mask" .f32 0xF149F2CA#32 ⊥

def algebraic_Kernel2Ideal_Reference2Ideal_pre_finite_scores2 [hKernel2Ideal : Cert.Kernel2Ideal.Facts] [hReference2Ideal : Cert.Reference2Ideal.Facts] [hPre_finite_scores2 : Cert.Pre_finite_scores2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_finite_scores2 : Cert.Pre_finite_scores2.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_scores2 (hKernel2Ideal := hKernel2Ideal) (hPre_finite_scores2 := hPre_finite_scores2)
    ∧ quiescent_Reference2Ideal (hReference2Ideal := hReference2Ideal)
    ∧ quiescent_Reference2Ideal_pre_finite_scores2 (hReference2Ideal := hReference2Ideal) (hPre_finite_scores2 := hPre_finite_scores2)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_scores2 (hKernel2Ideal := hKernel2Ideal) (hReference2Ideal := hReference2Ideal) (hPre_finite_scores2 := hPre_finite_scores2)
-- ==== Pre_finite_scores.lean ====
abbrev S8 : Shape := ⟨1, ![8]⟩
abbrev S8192x512 : Shape := ⟨2, ![8192, 512]⟩
abbrev S256x8192 : Shape := ⟨2, ![256, 8192]⟩
abbrev S8192x256 : Shape := ⟨2, ![8192, 256]⟩
abbrev S8192x1024 : Shape := ⟨2, ![8192, 1024]⟩
abbrev S16x6144 : Shape := ⟨2, ![16, 6144]⟩
abbrev S8192x2048 : Shape := ⟨2, ![8192, 2048]⟩
abbrev S1x1024 : Shape := ⟨2, ![1, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S8192x512 : S_.BroadcastsInDim S8192x512 (![] : Fin 0 → Fin S8192x512.rank)
  bcast_S_S256x8192 : S_.BroadcastsInDim S256x8192 (![] : Fin 0 → Fin S256x8192.rank)

variable [Facts]

def fn {F : FTy → Type} [FloatOps F] (main_arg0 : FVec F S8 .f32) (main_arg1 : FVec F S8192x512 .bf16) (main_arg2 : FVec F S256x8192 .bf16) (main_arg3 : FVec F S8192x256 .bf16) (main_arg4 : FVec F S8192x1024 .f32) (main_arg5 : FVec F S16x6144 .f32) (main_arg6 : FVec F S8192x512 .bf16) (main_arg7 : FVec F S8192x2048 .bf16) (main_arg8 : FVec F S1x1024 .f32) (main_arg9 : FVec F S512x1024 .bf16) (main_arg10 : FVec F S512x1024 .bf16) (main_arg11 : FVec F S1024x1024 .bf16) (main_arg12 : FVec F S1024x5632 .bf16) (main_arg13 : FVec F S2816x1024 .bf16) : IVec S8 1 × IVec S8192x512 1 × IVec S256x8192 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8192x512 .f32 := (extf .f32 · bitsLt_bf16_f32) main_arg1
  let main_v4 : FVec F S8192x512 .f32 := Host.absf main_v3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S256x8192 .f32 := (extf .f32 · bitsLt_bf16_f32) main_arg2
  let main_v8 : FVec F S256x8192 .f32 := Host.absf main_v7
  let main_cst_1 : FVec F S_ .f32 := constant S_ .f32 0x7F800000#32
  let main_v9 : FVec F S256x8192 .f32 := broadcastInDim S256x8192 ![] bcast_S_S256x8192 main_cst_1
  let main_v10 : IVec S256x8192 1 := cmpf .olt main_v8 main_v9
  (main_v2, main_v6, main_v10)
-- ==== Pre_finite_scores2.lean ====
abbrev S8 : Shape := ⟨1, ![8]⟩
abbrev S8192x512 : Shape := ⟨2, ![8192, 512]⟩
abbrev S256x8192 : Shape := ⟨2, ![256, 8192]⟩
abbrev S8192x256 : Shape := ⟨2, ![8192, 256]⟩
abbrev S8x128x256 : Shape := ⟨3, ![8, 128, 256]⟩
abbrev S8192x1024 : Shape := ⟨2, ![8192, 1024]⟩
abbrev S16x6144 : Shape := ⟨2, ![16, 6144]⟩
abbrev S8192x2048 : Shape := ⟨2, ![8192, 2048]⟩
abbrev S1x1024 : Shape := ⟨2, ![1, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S8192x512 : S_.BroadcastsInDim S8192x512 (![] : Fin 0 → Fin S8192x512.rank)
  bcast_S_S256x8192 : S_.BroadcastsInDim S256x8192 (![] : Fin 0 → Fin S256x8192.rank)
  bcast_S_S8x128x256 : S_.BroadcastsInDim S8x128x256 (![] : Fin 0 → Fin S8x128x256.rank)

variable [Facts]

def fn {F : FTy → Type} [FloatOps F] (main_arg0 : FVec F S8 .f32) (main_arg1 : FVec F S8192x512 .bf16) (main_arg2 : FVec F S256x8192 .bf16) (main_arg3 : FVec F S8192x256 .bf16) (main_arg4 : FVec F S8x128x256 .f32) (main_arg5 : FVec F S8x128x256 .f32) (main_arg6 : FVec F S8192x1024 .f32) (main_arg7 : FVec F S16x6144 .f32) (main_arg8 : FVec F S8192x512 .bf16) (main_arg9 : FVec F S8192x2048 .bf16) (main_arg10 : FVec F S1x1024 .f32) (main_arg11 : FVec F S512x1024 .bf16) (main_arg12 : FVec F S512x1024 .bf16) (main_arg13 : FVec F S1024x1024 .bf16) (main_arg14 : FVec F S1024x5632 .bf16) (main_arg15 : FVec F S2816x1024 .bf16) : IVec S8 1 × IVec S8192x512 1 × IVec S256x8192 1 × IVec S8x128x256 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8192x512 .f32 := (extf .f32 · bitsLt_bf16_f32) main_arg1
  let main_v4 : FVec F S8192x512 .f32 := Host.absf main_v3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S256x8192 .f32 := (extf .f32 · bitsLt_bf16_f32) main_arg2
  let main_v8 : FVec F S256x8192 .f32 := Host.absf main_v7
  let main_cst_1 : FVec F S_ .f32 := constant S_ .f32 0x7F800000#32
  let main_v9 : FVec F S256x8192 .f32 := broadcastInDim S256x8192 ![] bcast_S_S256x8192 main_cst_1
  let main_v10 : IVec S256x8192 1 := cmpf .olt main_v8 main_v9
  let main_v11 : FVec F S8x128x256 .f32 := Host.absf main_arg4
  let main_cst_2 : FVec F S_ .f32 := constant S_ .f32 0x7F800000#32
  let main_v12 : FVec F S8x128x256 .f32 := broadcastInDim S8x128x256 ![] bcast_S_S8x128x256 main_cst_2
  let main_v13 : IVec S8x128x256 1 := cmpf .olt main_v11 main_v12
  (main_v2, main_v6, main_v10, main_v13)
-- ==== Kernel.lean ====
abbrev S8 : Shape := ⟨1, ![8]⟩
abbrev S8192x512 : Shape := ⟨2, ![8192, 512]⟩
abbrev S256x8192 : Shape := ⟨2, ![256, 8192]⟩
abbrev S8192x256 : Shape := ⟨2, ![8192, 256]⟩
abbrev S8192x1024 : Shape := ⟨2, ![8192, 1024]⟩
abbrev S16x6144 : Shape := ⟨2, ![16, 6144]⟩
abbrev S8192x2048 : Shape := ⟨2, ![8192, 2048]⟩
abbrev S1x1024 : Shape := ⟨2, ![1, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S512x512 : Shape := ⟨2, ![512, 512]⟩
abbrev S256x512 : Shape := ⟨2, ![256, 512]⟩
abbrev S512x256 : Shape := ⟨2, ![512, 256]⟩
abbrev S8x6144 : Shape := ⟨2, ![8, 6144]⟩
abbrev S512x2048 : Shape := ⟨2, ![512, 2048]⟩
abbrev S2x512x512 : Shape := ⟨3, ![2, 512, 512]⟩
abbrev S2x512x128 : Shape := ⟨3, ![2, 512, 128]⟩
abbrev S512x2816 : Shape := ⟨2, ![512, 2816]⟩
abbrev S256x128 : Shape := ⟨2, ![256, 128]⟩
abbrev S512x128 : Shape := ⟨2, ![512, 128]⟩
abbrev S128x256 : Shape := ⟨2, ![128, 256]⟩
abbrev S128x512 : Shape := ⟨2, ![128, 512]⟩
abbrev S1x512x512 : Shape := ⟨3, ![1, 512, 512]⟩
abbrev S1 : Shape := ⟨1, ![1]⟩
abbrev S128x128 : Shape := ⟨2, ![128, 128]⟩
abbrev S128 : Shape := ⟨1, ![128]⟩
abbrev S128x1 : Shape := ⟨2, ![128, 1]⟩
abbrev S1x128x256 : Shape := ⟨3, ![1, 128, 256]⟩
abbrev S1x512x128 : Shape := ⟨3, ![1, 512, 128]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 15
  | .vmem => 26
  | .smem => 1
  | _ => 0

abbrev bufTy : (tb : Table) → Fin (tcTables nBuf tb) → BufTy
  | .hbm, ⟨0, _⟩ => ⟨S8, .f32⟩
  | .hbm, ⟨1, _⟩ => ⟨S8192x512, .bf16⟩
  | .hbm, ⟨2, _⟩ => ⟨S256x8192, .bf16⟩
  | .hbm, ⟨3, _⟩ => ⟨S8192x256, .bf16⟩
  | .hbm, ⟨4, _⟩ => ⟨S8192x1024, .f32⟩
  | .hbm, ⟨5, _⟩ => ⟨S16x6144, .f32⟩
  | .hbm, ⟨6, _⟩ => ⟨S8192x512, .bf16⟩
  | .hbm, ⟨7, _⟩ => ⟨S8192x2048, .bf16⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S8x6144, .f32⟩
  | .local _ .vmem, ⟨9, _⟩ => ⟨S512x512, .bf16⟩
  | .local _ .vmem, ⟨10, _⟩ => ⟨S512x512, .bf16⟩
  | .local _ .vmem, ⟨11, _⟩ => ⟨S512x2048, .bf16⟩
  | .local _ .vmem, ⟨12, _⟩ => ⟨S512x2048, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x5632, .bf16⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | .local _ .vmem, ⟨21, _⟩ => ⟨S512x512, .bf16⟩
  | .local _ .vmem, ⟨22, _⟩ => ⟨S2x512x512, .f32⟩
  | .local _ .vmem, ⟨23, _⟩ => ⟨S2x512x512, .bf16⟩
  | .local _ .vmem, ⟨24, _⟩ => ⟨S2x512x128, .f32⟩
  | .local _ .vmem, ⟨25, _⟩ => ⟨S512x2816, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c16_i32_3 : BitVec 32 := 16#32
  let v8 : BitVec 1 := Scalar.cmpi .eq arg0 c16_i32_3
  let v9 : BitVec 32 := Scalar.extui v8
  let c0_i32_4 : BitVec 32 := 0#32
  let v10 : BitVec 1 := Scalar.cmpi .ne v9 c0_i32_4
  v10

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8 : Shape := ⟨1, ![8]⟩
abbrev S8192x512 : Shape := ⟨2, ![8192, 512]⟩
abbrev S256x8192 : Shape := ⟨2, ![256, 8192]⟩
abbrev S8192x256 : Shape := ⟨2, ![8192, 256]⟩
abbrev S8192x1024 : Shape := ⟨2, ![8192, 1024]⟩
abbrev S16x6144 : Shape := ⟨2, ![16, 6144]⟩
abbrev S8192x2048 : Shape := ⟨2, ![8192, 2048]⟩
abbrev S1x1024 : Shape := ⟨2, ![1, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S32x256x2x2x2x64 : Shape := ⟨6, ![32, 256, 2, 2, 2, 64]⟩
abbrev S2x2x64x32x256 : Shape := ⟨5, ![2, 2, 64, 32, 256]⟩
abbrev S32x256x2x2x64 : Shape := ⟨5, ![32, 256, 2, 2, 64]⟩
abbrev S32x2x2x256x256x2 : Shape := ⟨6, ![32, 2, 2, 256, 256, 2]⟩
abbrev S32x2x2x2x256x256 : Shape := ⟨6, ![32, 2, 2, 2, 256, 256]⟩
abbrev S_ : Shape := ⟨0, ![]⟩
abbrev S2x2x2 : Shape := ⟨3, ![2, 2, 2]⟩
abbrev S1x2x2x2x1 : Shape := ⟨5, ![1, 2, 2, 2, 1]⟩
abbrev S32x2x2x2x256 : Shape := ⟨5, ![32, 2, 2, 2, 256]⟩
abbrev S32x2x2x2x256x1 : Shape := ⟨6, ![32, 2, 2, 2, 256, 1]⟩
abbrev S32x2x2x64x2x256 : Shape := ⟨6, ![32, 2, 2, 64, 2, 256]⟩
abbrev S1x6144 : Shape := ⟨2, ![1, 6144]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 112
  | .vmem => 0
  | .smem => 0
  | _ => 0

abbrev bufTy : (tb : Table) → Fin (tcTables nBuf tb) → BufTy
  | .hbm, ⟨0, _⟩ => ⟨S8, .f32⟩
  | .hbm, ⟨1, _⟩ => ⟨S8192x512, .bf16⟩
  | .hbm, ⟨2, _⟩ => ⟨S256x8192, .bf16⟩
  | .hbm, ⟨3, _⟩ => ⟨S8192x256, .bf16⟩
  | .hbm, ⟨4, _⟩ => ⟨S8192x1024, .f32⟩
  | .hbm, ⟨5, _⟩ => ⟨S16x6144, .f32⟩
  | .hbm, ⟨6, _⟩ => ⟨S8192x512, .bf16⟩
  | .hbm, ⟨7, _⟩ => ⟨S8192x2048, .bf16⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S8192x512, .f32⟩
  | .hbm, ⟨15, _⟩ => ⟨S256x8192, .f32⟩
  | .hbm, ⟨16, _⟩ => ⟨S8192x256, .f32⟩
  | .hbm, ⟨17, _⟩ => ⟨S8192x512, .f32⟩
  | .hbm, ⟨18, _⟩ => ⟨S8192x2048, .f32⟩
  | .hbm, ⟨19, _⟩ => ⟨S512x1024, .f32⟩
  | .hbm, ⟨20, _⟩ => ⟨S512x1024, .f32⟩
  | .hbm, ⟨21, _⟩ => ⟨S1024x1024, .f32⟩
  | .hbm, ⟨22, _⟩ => ⟨S1024x5632, .f32⟩
  | .hbm, ⟨23, _⟩ => ⟨S2816x1024, .f32⟩
  | .hbm, ⟨24, _⟩ => ⟨S32x256x2x2x2x64, .f32⟩
  | .hbm, ⟨25, _⟩ => ⟨S2x2x64x32x256, .f32⟩
  | .hbm, ⟨26, _⟩ => ⟨S32x256x2x2x64, .f32⟩
  | .hbm, ⟨27, _⟩ => ⟨S32x2x2x256x256x2, .f32⟩
  | .hbm, ⟨28, _⟩ => ⟨S32x2x2x2x256x256, .f32⟩
  | .hbm, ⟨29, _⟩ => ⟨S_, .f32⟩
  | .hbm, ⟨30, _⟩ => ⟨S_, .f32⟩
  | .hbm, ⟨31, _⟩ => ⟨S32x2x2x2x256x256, .f32⟩
  | .hbm, ⟨32, _⟩ => ⟨S32x2x2x2x256x256, .f32⟩
  | .hbm, ⟨33, _⟩ => ⟨S2x2x2, .f32⟩
  | .hbm, ⟨34, _⟩ => ⟨S1x2x2x2x1, .f32⟩
  | .hbm, ⟨35, _⟩ => ⟨S_, .f32⟩
  | .hbm, ⟨36, _⟩ => ⟨S32x2x2x2x256, .f32⟩
  | .hbm, ⟨37, _⟩ => ⟨S32x2x2x2x256, .f32⟩
  | .hbm, ⟨38, _⟩ => ⟨S32x2x2x2x256, .f32⟩
  | .hbm, ⟨39, _⟩ => ⟨S32x2x2x2x256x1, .f32⟩
  | .hbm, ⟨40, _⟩ => ⟨S32x2x2x2x256x256, .f32⟩
  | .hbm, ⟨41, _⟩ => ⟨S32x2x2x2x256x256, .f32⟩
  | .hbm, ⟨42, _⟩ => ⟨S32x2x2x2x256x256, .f32⟩
  | .hbm, ⟨43, _⟩ => ⟨S_, .f32⟩
  | .hbm, ⟨44, _⟩ => ⟨S32x2x2x2x256, .f32⟩
  | .hbm, ⟨45, _⟩ => ⟨S32x2x2x2x256, .f32⟩
  | .hbm, ⟨46, _⟩ => ⟨S32x2x2x2x256, .f32⟩
  | .hbm, ⟨47, _⟩ => ⟨S32x2x2x2x256, .f32⟩
  | .hbm, ⟨48, _⟩ => ⟨S32x2x2x2x256, .f32⟩
  | .hbm, ⟨49, _⟩ => ⟨S32x2x2x2x256x1, .f32⟩
  | .hbm, ⟨50, _⟩ => ⟨S32x2x2x2x256x256, .f32⟩
  | .hbm, ⟨51, _⟩ => ⟨S32x2x2x2x256x256, .f32⟩
  | .hbm, ⟨52, _⟩ => ⟨S32x2x2x64x2x256, .f32⟩
  | .hbm, ⟨53, _⟩ => ⟨S32x256x2x2x2x64, .f32⟩
  | .hbm, ⟨54, _⟩ => ⟨S8192x512, .f32⟩
  | .hbm, ⟨55, _⟩ => ⟨S1x6144, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1x1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x5632, .f32⟩
  | .hbm, ⟨96, _⟩ => ⟨S8192x2816, .f32⟩
  | .hbm, ⟨97, _⟩ => ⟨S8192x2816, .f32⟩
  | .hbm, ⟨98, _⟩ => ⟨S8192x2816, .f32⟩
  | .hbm, ⟨99, _⟩ => ⟨S8192x2816, .f32⟩
  | .hbm, ⟨100, _⟩ => ⟨S_, .f32⟩
  | .hbm, ⟨101, _⟩ => ⟨S8192x2816, .f32⟩
  | .hbm, ⟨102, _⟩ => ⟨S8192x2816, .f32⟩
  | .hbm, ⟨103, _⟩ => ⟨S_, .f32⟩
  | .hbm, ⟨104, _⟩ => ⟨S8192x2816, .f32⟩
  | .hbm, ⟨105, _⟩ => ⟨S8192x2816, .f32⟩
  | .hbm, ⟨106, _⟩ => ⟨S8192x2816, .f32⟩
  | .hbm, ⟨107, _⟩ => ⟨S8192x2816, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_2 : Ref sig .tc := ⟨.hbm, 74, rfl⟩
abbrev main_v57 : Ref sig .tc := ⟨.hbm, 75, rfl⟩
abbrev main_v58 : Ref sig .tc := ⟨.hbm, 76, rfl⟩
abbrev main_cst_3 : Ref sig .tc := ⟨.hbm, 77, rfl⟩
abbrev main_v59 : Ref sig .tc := ⟨.hbm, 78, rfl⟩
abbrev main_v60 : Ref sig .tc := ⟨.hbm, 79, rfl⟩
abbrev main_cst_4 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_5 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== Kernel2.lean ====
abbrev S8 : Shape := ⟨1, ![8]⟩
abbrev S8192x512 : Shape := ⟨2, ![8192, 512]⟩
abbrev S256x8192 : Shape := ⟨2, ![256, 8192]⟩
abbrev S8192x256 : Shape := ⟨2, ![8192, 256]⟩
abbrev S8x128x256 : Shape := ⟨3, ![8, 128, 256]⟩
abbrev S8192x1024 : Shape := ⟨2, ![8192, 1024]⟩
abbrev S16x6144 : Shape := ⟨2, ![16, 6144]⟩
abbrev S8192x2048 : Shape := ⟨2, ![8192, 2048]⟩
abbrev S1x1024 : Shape := ⟨2, ![1, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S512x512 : Shape := ⟨2, ![512, 512]⟩
abbrev S256x1024 : Shape := ⟨2, ![256, 1024]⟩
abbrev S1024x256 : Shape := ⟨2, ![1024, 256]⟩
abbrev S1x128x256 : Shape := ⟨3, ![1, 128, 256]⟩
abbrev S8x6144 : Shape := ⟨2, ![8, 6144]⟩
abbrev S512x2048 : Shape := ⟨2, ![512, 2048]⟩
abbrev S2x256x1280 : Shape := ⟨3, ![2, 256, 1280]⟩
abbrev S2x256x128 : Shape := ⟨3, ![2, 256, 128]⟩
abbrev S4x128x384 : Shape := ⟨3, ![4, 128, 384]⟩
abbrev S256x256 : Shape := ⟨2, ![256, 256]⟩
abbrev S512x2816 : Shape := ⟨2, ![512, 2816]⟩
abbrev S128x256 : Shape := ⟨2, ![128, 256]⟩
abbrev S64x256 : Shape := ⟨2, ![64, 256]⟩
abbrev S256x128 : Shape := ⟨2, ![256, 128]⟩
abbrev S128x384 : Shape := ⟨2, ![128, 384]⟩
abbrev S1x128x384 : Shape := ⟨3, ![1, 128, 384]⟩
abbrev S128x128 : Shape := ⟨2, ![128, 128]⟩
abbrev S128x640 : Shape := ⟨2, ![128, 640]⟩
abbrev S128x1280 : Shape := ⟨2, ![128, 1280]⟩
abbrev S256x1280 : Shape := ⟨2, ![256, 1280]⟩
abbrev S1x256x1280 : Shape := ⟨3, ![1, 256, 1280]⟩
abbrev S1 : Shape := ⟨1, ![1]⟩
abbrev S384x128 : Shape := ⟨2, ![384, 128]⟩
abbrev S64x128 : Shape := ⟨2, ![64, 128]⟩
abbrev S64x384 : Shape := ⟨2, ![64, 384]⟩
abbrev S1x64x384 : Shape := ⟨3, ![1, 64, 384]⟩
abbrev S64 : Shape := ⟨1, ![64]⟩
abbrev S64x1 : Shape := ⟨2, ![64, 1]⟩
abbrev S1x64x256 : Shape := ⟨3, ![1, 64, 256]⟩
abbrev S1x256x128 : Shape := ⟨3, ![1, 256, 128]⟩
abbrev S640x128 : Shape := ⟨2, ![640, 128]⟩
abbrev S640x256 : Shape := ⟨2, ![640, 256]⟩
abbrev S1280x256 : Shape := ⟨2, ![1280, 256]⟩
abbrev S256x512 : Shape := ⟨2, ![256, 512]⟩
abbrev S256 : Shape := ⟨1, ![256]⟩
abbrev S256x1 : Shape := ⟨2, ![256, 1]⟩
abbrev S512x256 : Shape := ⟨2, ![512, 256]⟩

abbrev nBuf : Space → Nat
  | .hbm => 17
  | .vmem => 33
  | .smem => 1
  | _ => 0

abbrev bufTy : (tb : Table) → Fin (tcTables nBuf tb) → BufTy
  | .hbm, ⟨0, _⟩ => ⟨S8, .f32⟩
  | .hbm, ⟨1, _⟩ => ⟨S8192x512, .bf16⟩
  | .hbm, ⟨2, _⟩ => ⟨S256x8192, .bf16⟩
  | .hbm, ⟨3, _⟩ => ⟨S8192x256, .bf16⟩
  | .hbm, ⟨4, _⟩ => ⟨S8x128x256, .f32⟩
  | .hbm, ⟨5, _⟩ => ⟨S8x128x256, .f32⟩
  | .hbm, ⟨6, _⟩ => ⟨S8192x1024, .f32⟩
  | .hbm, ⟨7, _⟩ => ⟨S16x6144, .f32⟩
  | .hbm, ⟨8, _⟩ => ⟨S8192x512, .bf16⟩
  | .hbm, ⟨9, _⟩ => ⟨S8192x2048, .bf16⟩
  | .hbm, ⟨10, _⟩ => ⟨S1x1024, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1024x5632, .bf16⟩
  | .hbm, ⟨15, _⟩ => ⟨S2816x1024, .bf16⟩
  | .hbm, ⟨16, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .bf16⟩
  | .local _ .vmem, ⟨5, _⟩ => ⟨S1024x256, .bf16⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S512x1024, .f32⟩
  | .local _ .vmem, ⟨11, _⟩ => ⟨S512x1024, .f32⟩
  | .local _ .vmem, ⟨12, _⟩ => ⟨S8x6144, .f32⟩
  | .local _ .vmem, ⟨13, _⟩ => ⟨S512x512, .bf16⟩
  | .local _ .vmem, ⟨14, _⟩ => ⟨S512x512, .bf16⟩
  | .local _ .vmem, ⟨15, _⟩ => ⟨S512x2048, .bf16⟩
  | .local _ .vmem, ⟨16, _⟩ => ⟨S512x2048, .bf16⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x5632, .bf16⟩
  | .local _ .vmem, ⟨22, _⟩ => ⟨S2816x1024, .bf16⟩
  | .local _ .vmem, ⟨23, _⟩ => ⟨S512x1024, .f32⟩
  | .local _ .vmem, ⟨24, _⟩ => ⟨S512x1024, .f32⟩
  | .local _ .vmem, ⟨25, _⟩ => ⟨S512x512, .bf16⟩
  | .local _ .vmem, ⟨26, _⟩ => ⟨S2x256x1280, .f32⟩
  | .local _ .vmem, ⟨27, _⟩ => ⟨S2x256x1280, .bf16⟩
  | .local _ .vmem, ⟨28, _⟩ => ⟨S2x256x128, .f32⟩
  | .local _ .vmem, ⟨29, _⟩ => ⟨S4x128x384, .i32⟩
  | .local _ .vmem, ⟨30, _⟩ => ⟨S256x256, .bf16⟩
  | .local _ .vmem, ⟨31, _⟩ => ⟨S256x256, .bf16⟩
  | .local _ .vmem, ⟨32, _⟩ => ⟨S512x2816, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let c0_i32_19 : BitVec 32 := 0#32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  v51
def k0_mult2 (i : grid0.Coords) : BitVec 32 :=
  let c640_i32_28 : BitVec 32 := 640#32
  let c0_i32_27 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32_24 : BitVec 32 := 512#32
  let v63 : BitVec 32 := Scalar.muli v21 c512_i32_24
  let c128_i32_25 : BitVec 32 := 128#32
  let v64 : BitVec 32 := Scalar.addi v63 c128_i32_25
  let c128_i32_26 : BitVec 32 := 128#32
  let v65 : BitVec 32 := Scalar.subi v64 c128_i32_26
  let v66 : BitVec 32 := Scalar.maxsi c0_i32_27 v65
  let v67 : BitVec 32 := Scalar.minsi c640_i32_28 v66
  v67
def k0_mult3 (i : grid0.Coords) : BitVec 32 :=
  let c640_i32_34 : BitVec 32 := 640#32
  let c0_i32_33 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32_31 : BitVec 32 := 512#32
  let v79 : BitVec 32 := Scalar.muli v21 c512_i32_31
  let c256_i32 : BitVec 32 := 256#32
  let v80 : BitVec 32 := Scalar.addi v79 c256_i32
  let c128_i32_32 : BitVec 32 := 128#32
  let v81 : BitVec 32 := Scalar.subi v80 c128_i32_32
  let v82 : BitVec 32 := Scalar.maxsi c0_i32_33 v81
  let v83 : BitVec 32 := Scalar.minsi c640_i32_34 v82
  v83
def k0_mult4 (i : grid0.Coords) : BitVec 32 :=
  let c640_i32_40 : BitVec 32 := 640#32
  let c0_i32_39 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32_37 : BitVec 32 := 512#32
  let v95 : BitVec 32 := Scalar.muli v21 c512_i32_37
  let c384_i32 : BitVec 32 := 384#32
  let v96 : BitVec 32 := Scalar.addi v95 c384_i32
  let c128_i32_38 : BitVec 32 := 128#32
  let v97 : BitVec 32 := Scalar.subi v96 c128_i32_38
  let v98 : BitVec 32 := Scalar.maxsi c0_i32_39 v97
  let v99 : BitVec 32 := Scalar.minsi c640_i32_40 v98
  v99
def k0_off1 (i : grid0.Coords) (c0_i32_19 : BitVec 32) : Fin 2 → Nat :=
  let c0_46 : Index := 0#32
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  let v52 : BitVec 32 := v51
  let v114 : Index := Scalar.indexCast v52
  ![0, v114.toNat]
def k0_off2 (i : grid0.Coords) (c0_i32_19 : BitVec 32) : Fin 2 → Nat :=
  let c128_56 : Index := 128#32
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  let v52 : BitVec 32 := v51
  let v132 : Index := Scalar.indexCast v52
  ![128, v132.toNat]
def k0_off3 (i : grid0.Coords) (c0_i32_19 : BitVec 32) : Fin 2 → Nat :=
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  let v52 : BitVec 32 := v51
  let v155 : Index := Scalar.indexCast v52
  let c0_73 : Index := 0#32
  ![v155.toNat, 0]
def k0_off4 (i : grid0.Coords) (c0_i32_19 : BitVec 32) : Fin 2 → Nat :=
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  let v52 : BitVec 32 := v51
  let v584 : Index := Scalar.indexCast v52
  let c128_343 : Index := 128#32
  ![v584.toNat, 128]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_mult5 (i : grid0.Coords) : BitVec 32 :=
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let c0_i32_19 : BitVec 32 := 0#32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  v51
def k0_mult6 (i : grid0.Coords) : BitVec 32 :=
  let c640_i32_28 : BitVec 32 := 640#32
  let c0_i32_27 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32_24 : BitVec 32 := 512#32
  let v63 : BitVec 32 := Scalar.muli v21 c512_i32_24
  let c128_i32_25 : BitVec 32 := 128#32
  let v64 : BitVec 32 := Scalar.addi v63 c128_i32_25
  let c128_i32_26 : BitVec 32 := 128#32
  let v65 : BitVec 32 := Scalar.subi v64 c128_i32_26
  let v66 : BitVec 32 := Scalar.maxsi c0_i32_27 v65
  let v67 : BitVec 32 := Scalar.minsi c640_i32_28 v66
  v67
def k0_mult7 (i : grid0.Coords) : BitVec 32 :=
  let c640_i32_34 : BitVec 32 := 640#32
  let c0_i32_33 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32_31 : BitVec 32 := 512#32
  let v79 : BitVec 32 := Scalar.muli v21 c512_i32_31
  let c256_i32 : BitVec 32 := 256#32
  let v80 : BitVec 32 := Scalar.addi v79 c256_i32
  let c128_i32_32 : BitVec 32 := 128#32
  let v81 : BitVec 32 := Scalar.subi v80 c128_i32_32
  let v82 : BitVec 32 := Scalar.maxsi c0_i32_33 v81
  let v83 : BitVec 32 := Scalar.minsi c640_i32_34 v82
  v83
def k0_mult8 (i : grid0.Coords) : BitVec 32 :=
  let c640_i32_40 : BitVec 32 := 640#32
  let c0_i32_39 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32_37 : BitVec 32 := 512#32
  let v95 : BitVec 32 := Scalar.muli v21 c512_i32_37
  let c384_i32 : BitVec 32 := 384#32
  let v96 : BitVec 32 := Scalar.addi v95 c384_i32
  let c128_i32_38 : BitVec 32 := 128#32
  let v97 : BitVec 32 := Scalar.subi v96 c128_i32_38
  let v98 : BitVec 32 := Scalar.maxsi c0_i32_39 v97
  let v99 : BitVec 32 := Scalar.minsi c640_i32_40 v98
  v99
def k0_off5 (i : grid0.Coords) : Fin 2 → Nat :=
  let arg0 : BitVec 32 := BitVec.ofNat 32 (i 0).val
  let c1_i32_43 : BitVec 32 := 1#32
  let v111 : BitVec 32 := Scalar.subi arg0 c1_i32_43
  let c0_i32_45 : BitVec 32 := 0#32
  let v113 : BitVec 1 := Scalar.cmpi .sgt v111 c0_i32_45
  let v114 : BitVec 32 := Scalar.extui v113
  let c0_i32_46 : BitVec 32 := 0#32
  let v115 : BitVec 1 := Scalar.cmpi .slt v111 c0_i32_46
  let v116 : BitVec 32 := Scalar.extui v115
  let v117 : BitVec 32 := Scalar.subi v114 v116
  let c2_i32_44 : BitVec 32 := 2#32
  let c0_i32_47 : BitVec 32 := 0#32
  let v118 : BitVec 1 := Scalar.cmpi .sgt c2_i32_44 c0_i32_47
  let v119 : BitVec 32 := Scalar.extui v118
  let c0_i32_48 : BitVec 32 := 0#32
  let v120 : BitVec 1 := Scalar.cmpi .slt c2_i32_44 c0_i32_48
  let v121 : BitVec 32 := Scalar.extui v120
  let v122 : BitVec 32 := Scalar.subi v119 v121
  let v123 : BitVec 1 := Scalar.cmpi .ne v117 v122
  let v124 : BitVec 32 := Scalar.remsi v111 c2_i32_44
  let c0_i32_49 : BitVec 32 := 0#32
  let v125 : BitVec 1 := Scalar.cmpi .ne v124 c0_i32_49
  let v126 : BitVec 1 := Scalar.andi v123 v125
  let v112 : BitVec 32 := Scalar.divsi v111 c2_i32_44
  let c1_i32_50 : BitVec 32 := 1#32
  let v127 : BitVec 32 := Scalar.subi v112 c1_i32_50
  let v128 : BitVec 32 := Scalar.select v126 v127 v112
  let v129 : Index := Scalar.indexCast v128
  let c2048 : Index := 2048#32
  ![v129.toNat, 2048]
def k0_off6 (i : grid0.Coords) : Fin 2 → Nat :=
  let arg0 : BitVec 32 := BitVec.ofNat 32 (i 0).val
  let c1_i32_43 : BitVec 32 := 1#32
  let v111 : BitVec 32 := Scalar.subi arg0 c1_i32_43
  let c0_i32_45 : BitVec 32 := 0#32
  let v113 : BitVec 1 := Scalar.cmpi .sgt v111 c0_i32_45
  let v114 : BitVec 32 := Scalar.extui v113
  let c0_i32_46 : BitVec 32 := 0#32
  let v115 : BitVec 1 := Scalar.cmpi .slt v111 c0_i32_46
  let v116 : BitVec 32 := Scalar.extui v115
  let v117 : BitVec 32 := Scalar.subi v114 v116
  let c2_i32_44 : BitVec 32 := 2#32
  let c0_i32_47 : BitVec 32 := 0#32
  let v118 : BitVec 1 := Scalar.cmpi .sgt c2_i32_44 c0_i32_47
  let v119 : BitVec 32 := Scalar.extui v118
  let c0_i32_48 : BitVec 32 := 0#32
  let v120 : BitVec 1 := Scalar.cmpi .slt c2_i32_44 c0_i32_48
  let v121 : BitVec 32 := Scalar.extui v120
  let v122 : BitVec 32 := Scalar.subi v119 v121
  let v123 : BitVec 1 := Scalar.cmpi .ne v117 v122
  let v124 : BitVec 32 := Scalar.remsi v111 c2_i32_44
  let c0_i32_49 : BitVec 32 := 0#32
  let v125 : BitVec 1 := Scalar.cmpi .ne v124 c0_i32_49
  let v126 : BitVec 1 := Scalar.andi v123 v125
  let v112 : BitVec 32 := Scalar.divsi v111 c2_i32_44
  let c1_i32_50 : BitVec 32 := 1#32
  let v127 : BitVec 32 := Scalar.subi v112 c1_i32_50
  let v128 : BitVec 32 := Scalar.select v126 v127 v112
  let v131 : Index := Scalar.indexCast v128
  let c3072 : Index := 3072#32
  ![v131.toNat, 3072]
def k0_off7 (i : grid0.Coords) : Fin 2 → Nat :=
  let arg0 : BitVec 32 := BitVec.ofNat 32 (i 0).val
  let c1_i32_43 : BitVec 32 := 1#32
  let v111 : BitVec 32 := Scalar.subi arg0 c1_i32_43
  let c0_i32_45 : BitVec 32 := 0#32
  let v113 : BitVec 1 := Scalar.cmpi .sgt v111 c0_i32_45
  let v114 : BitVec 32 := Scalar.extui v113
  let c0_i32_46 : BitVec 32 := 0#32
  let v115 : BitVec 1 := Scalar.cmpi .slt v111 c0_i32_46
  let v116 : BitVec 32 := Scalar.extui v115
  let v117 : BitVec 32 := Scalar.subi v114 v116
  let c2_i32_44 : BitVec 32 := 2#32
  let c0_i32_47 : BitVec 32 := 0#32
  let v118 : BitVec 1 := Scalar.cmpi .sgt c2_i32_44 c0_i32_47
  let v119 : BitVec 32 := Scalar.extui v118
  let c0_i32_48 : BitVec 32 := 0#32
  let v120 : BitVec 1 := Scalar.cmpi .slt c2_i32_44 c0_i32_48
  let v121 : BitVec 32 := Scalar.extui v120
  let v122 : BitVec 32 := Scalar.subi v119 v121
  let v123 : BitVec 1 := Scalar.cmpi .ne v117 v122
  let v124 : BitVec 32 := Scalar.remsi v111 c2_i32_44
  let c0_i32_49 : BitVec 32 := 0#32
  let v125 : BitVec 1 := Scalar.cmpi .ne v124 c0_i32_49
  let v126 : BitVec 1 := Scalar.andi v123 v125
  let v112 : BitVec 32 := Scalar.divsi v111 c2_i32_44
  let c1_i32_50 : BitVec 32 := 1#32
  let v127 : BitVec 32 := Scalar.subi v112 c1_i32_50
  let v128 : BitVec 32 := Scalar.select v126 v127 v112
  let v133 : Index := Scalar.indexCast v128
  let c4096 : Index := 4096#32
  ![v133.toNat, 4096]
def k0_off8 (i : grid0.Coords) : Fin 2 → Nat :=
  let arg0 : BitVec 32 := BitVec.ofNat 32 (i 0).val
  let c1_i32_43 : BitVec 32 := 1#32
  let v111 : BitVec 32 := Scalar.subi arg0 c1_i32_43
  let c0_i32_45 : BitVec 32 := 0#32
  let v113 : BitVec 1 := Scalar.cmpi .sgt v111 c0_i32_45
  let v114 : BitVec 32 := Scalar.extui v113
  let c0_i32_46 : BitVec 32 := 0#32
  let v115 : BitVec 1 := Scalar.cmpi .slt v111 c0_i32_46
  let v116 : BitVec 32 := Scalar.extui v115
  let v117 : BitVec 32 := Scalar.subi v114 v116
  let c2_i32_44 : BitVec 32 := 2#32
  let c0_i32_47 : BitVec 32 := 0#32
  let v118 : BitVec 1 := Scalar.cmpi .sgt c2_i32_44 c0_i32_47
  let v119 : BitVec 32 := Scalar.extui v118
  let c0_i32_48 : BitVec 32 := 0#32
  let v120 : BitVec 1 := Scalar.cmpi .slt c2_i32_44 c0_i32_48
  let v121 : BitVec 32 := Scalar.extui v120
  let v122 : BitVec 32 := Scalar.subi v119 v121
  let v123 : BitVec 1 := Scalar.cmpi .ne v117 v122
  let v124 : BitVec 32 := Scalar.remsi v111 c2_i32_44
  let c0_i32_49 : BitVec 32 := 0#32
  let v125 : BitVec 1 := Scalar.cmpi .ne v124 c0_i32_49
  let v126 : BitVec 1 := Scalar.andi v123 v125
  let v112 : BitVec 32 := Scalar.divsi v111 c2_i32_44
  let c1_i32_50 : BitVec 32 := 1#32
  let v127 : BitVec 32 := Scalar.subi v112 c1_i32_50
  let v128 : BitVec 32 := Scalar.select v126 v127 v112
  let v135 : Index := Scalar.indexCast v128
  let c5120 : Index := 5120#32
  ![v135.toNat, 5120]
def k0_off9 (i : grid0.Coords) (c0_i32_19 : BitVec 32) : Fin 2 → Nat :=
  let c0_111 : Index := 0#32
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  let v52 : BitVec 32 := v51
  let v239 : Index := Scalar.indexCast v52
  ![0, v239.toNat]
def k0_off10 (i : grid0.Coords) (c0_i32_19 : BitVec 32) : Fin 2 → Nat :=
  let c128_123 : Index := 128#32
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  let v52 : BitVec 32 := v51
  let v257 : Index := Scalar.indexCast v52
  ![128, v257.toNat]
def k0_off11 (i : grid0.Coords) (c0_i32_19 : BitVec 32) : Fin 2 → Nat :=
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  let v52 : BitVec 32 := v51
  let v297 : Index := Scalar.indexCast v52
  let c0_151 : Index := 0#32
  ![v297.toNat, 0]
def k0_off12 (i : grid0.Coords) (c0_i32_19 : BitVec 32) : Fin 2 → Nat :=
  let c640_i32 : BitVec 32 := 640#32
  let c0_i32_20 : BitVec 32 := 0#32
  let arg0 : BitVec 32 := BitVec.ofNat 32 (i 0).val
  let c15_i32 : BitVec 32 := 15#32
  let v11 : BitVec 32 := Scalar.minsi arg0 c15_i32
  let c2_i32 : BitVec 32 := 2#32
  let c0_i32_5 : BitVec 32 := 0#32
  let v12 : BitVec 1 := Scalar.cmpi .eq c2_i32 c0_i32_5
  let c1_i32 : BitVec 32 := 1#32
  let v13 : BitVec 32 := Scalar.select v12 c1_i32 c2_i32
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c512_i32 : BitVec 32 := 512#32
  let v47 : BitVec 32 := Scalar.muli v21 c512_i32
  let v48 : BitVec 32 := Scalar.addi v47 c0_i32_19
  let c128_i32 : BitVec 32 := 128#32
  let v49 : BitVec 32 := Scalar.subi v48 c128_i32
  let v50 : BitVec 32 := Scalar.maxsi c0_i32_20 v49
  let v51 : BitVec 32 := Scalar.minsi c640_i32 v50
  let v52 : BitVec 32 := v51
  let v743 : Index := Scalar.indexCast v52
  let c128_431 : Index := 128#32
  ![v743.toNat, 128]
def k0_cond3 (i : grid0.Coords) : BitVec 1 :=
  let arg0 : BitVec 32 := BitVec.ofNat 32 (i 0).val
  let c16_i32_3 : BitVec 32 := 16#32
  let v8 : BitVec 1 := Scalar.cmpi .eq arg0 c16_i32_3
  let v9 : BitVec 32 := Scalar.extui v8
  let c0_i32_4 : BitVec 32 := 0#32
  let v10 : BitVec 1 := Scalar.cmpi .ne v9 c0_i32_4
  v10

def k0_off13 (i : grid0.Coords) : Fin 2 → Nat :=
  let arg0 : BitVec 32 := BitVec.ofNat 32 (i 0).val
  let c1_i32 : BitVec 32 := 1#32
  let v11 : BitVec 32 := Scalar.subi arg0 c1_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi v11 c2_i32
  let c0_i32_9 : BitVec 32 := 0#32
  let v25 : BitVec 1 := Scalar.cmpi .ne v24 c0_i32_9
  let v26 : BitVec 1 := Scalar.andi v23 v25
  let v12 : BitVec 32 := Scalar.divsi v11 c2_i32
  let c1_i32_10 : BitVec 32 := 1#32
  let v27 : BitVec 32 := Scalar.subi v12 c1_i32_10
  let v28 : BitVec 32 := Scalar.select v26 v27 v12
  let v29 : Index := Scalar.indexCast v28
  let c2048 : Index := 2048#32
  ![v29.toNat, 2048]
def k0_off14 (i : grid0.Coords) : Fin 2 → Nat :=
  let arg0 : BitVec 32 := BitVec.ofNat 32 (i 0).val
  let c1_i32 : BitVec 32 := 1#32
  let v11 : BitVec 32 := Scalar.subi arg0 c1_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi v11 c2_i32
  let c0_i32_9 : BitVec 32 := 0#32
  let v25 : BitVec 1 := Scalar.cmpi .ne v24 c0_i32_9
  let v26 : BitVec 1 := Scalar.andi v23 v25
  let v12 : BitVec 32 := Scalar.divsi v11 c2_i32
  let c1_i32_10 : BitVec 32 := 1#32
  let v27 : BitVec 32 := Scalar.subi v12 c1_i32_10
  let v28 : BitVec 32 := Scalar.select v26 v27 v12
  let v31 : Index := Scalar.indexCast v28
  let c3072 : Index := 3072#32
  ![v31.toNat, 3072]
def k0_off15 (i : grid0.Coords) : Fin 2 → Nat :=
  let arg0 : BitVec 32 := BitVec.ofNat 32 (i 0).val
  let c1_i32 : BitVec 32 := 1#32
  let v11 : BitVec 32 := Scalar.subi arg0 c1_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi v11 c2_i32
  let c0_i32_9 : BitVec 32 := 0#32
  let v25 : BitVec 1 := Scalar.cmpi .ne v24 c0_i32_9
  let v26 : BitVec 1 := Scalar.andi v23 v25
  let v12 : BitVec 32 := Scalar.divsi v11 c2_i32
  let c1_i32_10 : BitVec 32 := 1#32
  let v27 : BitVec 32 := Scalar.subi v12 c1_i32_10
  let v28 : BitVec 32 := Scalar.select v26 v27 v12
  let v33 : Index := Scalar.indexCast v28
  let c4096 : Index := 4096#32
  ![v33.toNat, 4096]
def k0_off16 (i : grid0.Coords) : Fin 2 → Nat :=
  let arg0 : BitVec 32 := BitVec.ofNat 32 (i 0).val
  let c1_i32 : BitVec 32 := 1#32
  let v11 : BitVec 32 := Scalar.subi arg0 c1_i32
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c2_i32 : BitVec 32 := 2#32
  let c0_i32_7 : BitVec 32 := 0#32
  let v18 : BitVec 1 := Scalar.cmpi .sgt c2_i32 c0_i32_7
  let v19 : BitVec 32 := Scalar.extui v18
  let c0_i32_8 : BitVec 32 := 0#32
  let v20 : BitVec 1 := Scalar.cmpi .slt c2_i32 c0_i32_8
  let v21 : BitVec 32 := Scalar.extui v20
  let v22 : BitVec 32 := Scalar.subi v19 v21
  let v23 : BitVec 1 := Scalar.cmpi .ne v17 v22
  let v24 : BitVec 32 := Scalar.remsi v11 c2_i32
  let c0_i32_9 : BitVec 32 := 0#32
  let v25 : BitVec 1 := Scalar.cmpi .ne v24 c0_i32_9
  let v26 : BitVec 1 := Scalar.andi v23 v25
  let v12 : BitVec 32 := Scalar.divsi v11 c2_i32
  let c1_i32_10 : BitVec 32 := 1#32
  let v27 : BitVec 32 := Scalar.subi v12 c1_i32_10
  let v28 : BitVec 32 := Scalar.select v26 v27 v12
  let v35 : Index := Scalar.indexCast v28
  let c5120 : Index := 5120#32
  ![v35.toNat, 5120]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel2Ideal.lean ====
variable {F : FTy → Type} [FloatOps F] [Named F]
def κ : String → Option EReal := fun
  | "log2e" => some (((Real.log 2)⁻¹ : ℝ) : EReal)
  | "mask" => some ⊥
  | _ => none
-- ==== Reference2Ideal.lean ====
abbrev S8 : Shape := ⟨1, ![8]⟩
abbrev S8192x512 : Shape := ⟨2, ![8192, 512]⟩
abbrev S256x8192 : Shape := ⟨2, ![256, 8192]⟩
abbrev S8192x256 : Shape := ⟨2, ![8192, 256]⟩
abbrev S8x128x256 : Shape := ⟨3, ![8, 128, 256]⟩
abbrev S8192x1024 : Shape := ⟨2, ![8192, 1024]⟩
abbrev S16x6144 : Shape := ⟨2, ![16, 6144]⟩
abbrev S8192x2048 : Shape := ⟨2, ![8192, 2048]⟩
abbrev S1x1024 : Shape := ⟨2, ![1, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S8x1024x2x2x2x64 : Shape := ⟨6, ![8, 1024, 2, 2, 2, 64]⟩
abbrev S2x2x64x8x1024 : Shape := ⟨5, ![2, 2, 64, 8, 1024]⟩
abbrev S8x1024x2x2x64 : Shape := ⟨5, ![8, 1024, 2, 2, 64]⟩
abbrev S8x2x64x256 : Shape := ⟨4, ![8, 2, 64, 256]⟩
abbrev S_ : Shape := ⟨0, ![]⟩
abbrev S8x2x2x1024x1024x2 : Shape := ⟨6, ![8, 2, 2, 1024, 1024, 2]⟩
abbrev S8x2x2x2x1024x1024 : Shape := ⟨6, ![8, 2, 2, 2, 1024, 1024]⟩
abbrev S8x2x256x1024x2x2 : Shape := ⟨6, ![8, 2, 256, 1024, 2, 2]⟩
abbrev S8x2x2x2x1024x256 : Shape := ⟨6, ![8, 2, 2, 2, 1024, 256]⟩
abbrev S8x2x2x2x1024x1280 : Shape := ⟨6, ![8, 2, 2, 2, 1024, 1280]⟩
abbrev S2x2x2 : Shape := ⟨3, ![2, 2, 2]⟩
abbrev S1x2x2x2x1 : Shape := ⟨5, ![1, 2, 2, 2, 1]⟩
abbrev S8x2x2x2x1024 : Shape := ⟨5, ![8, 2, 2, 2, 1024]⟩
abbrev S8x2x2x2x1024x1 : Shape := ⟨6, ![8, 2, 2, 2, 1024, 1]⟩
abbrev S8x2x2x64x2x1024 : Shape := ⟨6, ![8, 2, 2, 64, 2, 1024]⟩
abbrev S8x2x64x2x2x1024 : Shape := ⟨6, ![8, 2, 64, 2, 2, 1024]⟩
abbrev S8x6144 : Shape := ⟨2, ![8, 6144]⟩
abbrev S8x1x6144 : Shape := ⟨3, ![8, 1, 6144]⟩
abbrev S8x1024x6144 : Shape := ⟨3, ![8, 1024, 6144]⟩
abbrev S8192x6144 : Shape := ⟨2, ![8192, 6144]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 137
  | .vmem => 0
  | .smem => 0
  | _ => 0

abbrev hbmTy0_0 (i : Nat) : BufTy := match i % 128 with
  | 0 => ⟨S8, .f32⟩
  | 1 => ⟨S8192x512, .bf16⟩
  | 2 => ⟨S256x8192, .bf16⟩
  | 3 => ⟨S8192x256, .bf16⟩
  | 4 => ⟨S8x128x256, .f32⟩
  | 5 => ⟨S8x128x256, .f32⟩
  | 6 => ⟨S8192x1024, .f32⟩
  | 7 => ⟨S16x6144, .f32⟩
  | 8 => ⟨S8192x512, .bf16⟩
  | 9 => ⟨S8192x2048, .bf16⟩
  | 10 => ⟨S1x1024, .f32⟩
  | 11 => ⟨S512x1024, .bf16⟩
  | 12 => ⟨S512x1024, .bf16⟩
  | 13 => ⟨S1024x1024, .bf16⟩
  | 14 => ⟨S1024x5632, .bf16⟩
  | 15 => ⟨S2816x1024, .bf16⟩
  | 16 => ⟨S8192x512, .f32⟩
  | 17 => ⟨S256x8192, .f32⟩
  | 18 => ⟨S8192x256, .f32⟩
  | 19 => ⟨S8192x512, .f32⟩
  | 20 => ⟨S8192x2048, .f32⟩
  | 21 => ⟨S512x1024, .f32⟩
  | 22 => ⟨S512x1024, .f32⟩
  | 23 => ⟨S1024x1024, .f32⟩
  | 24 => ⟨S1024x5632, .f32⟩
  | 25 => ⟨S2816x1024, .f32⟩
  | 26 => ⟨S8x1024x2x2x2x64, .f32⟩
  | 27 => ⟨S2x2x64x8x1024, .f32⟩
  | 28 => ⟨S8x1024x2x2x64, .f32⟩
  | 29 => ⟨S8x2x64x256, .f32⟩
  | 30 => ⟨S8x2x64x256, .f32⟩
  | 31 => ⟨S1024x1024, .i32⟩
  | 32 => ⟨S1024x1024, .i32⟩
  | 33 => ⟨S1024x1024, .i32⟩
  | 34 => ⟨S1024x1024, .i32⟩
  | 35 => ⟨S_, .i32⟩
  | 36 => ⟨S1024x1024, .i32⟩
  | 37 => ⟨S1024x1024, .i1⟩
  | 38 => ⟨S_, .f32⟩
  | 39 => ⟨S_, .f32⟩
  | 40 => ⟨S8x2x2x1024x1024x2, .f32⟩
  | 41 => ⟨S8x2x2x2x1024x1024, .f32⟩
  | 42 => ⟨S8x2x2x2x1024x1024, .f32⟩
  | 43 => ⟨S8x2x2x2x1024x1024, .f32⟩
  | 44 => ⟨S_, .f32⟩
  | 45 => ⟨S_, .f32⟩
  | 46 => ⟨S8x2x2x2x1024x1024, .i1⟩
  | 47 => ⟨S8x2x2x2x1024x1024, .f32⟩
  | 48 => ⟨S8x2x2x2x1024x1024, .f32⟩
  | 49 => ⟨S8x2x256x1024x2x2, .f32⟩
  | 50 => ⟨S8x2x2x2x1024x256, .f32⟩
  | 51 => ⟨S8x2x2x2x1024x256, .f32⟩
  | 52 => ⟨S8x2x2x2x1024x256, .f32⟩
  | 53 => ⟨S8x2x2x2x1024x1280, .f32⟩
  | 54 => ⟨S2x2x2, .f32⟩
  | 55 => ⟨S1x2x2x2x1, .f32⟩
  | 56 => ⟨S_, .f32⟩
  | 57 => ⟨S8x2x2x2x1024, .f32⟩
  | 58 => ⟨S8x2x2x2x1024, .f32⟩
  | 59 => ⟨S8x2x2x2x1024, .f32⟩
  | 60 => ⟨S8x2x2x2x1024x1, .f32⟩
  | 61 => ⟨S8x2x2x2x1024x1280, .f32⟩
  | 62 => ⟨S8x2x2x2x1024x1280, .f32⟩
  | 63 => ⟨S8x2x2x2x1024x1280, .f32⟩
  | 64 => ⟨S_, .f32⟩
  | 65 => ⟨S8x2x2x2x1024, .f32⟩
  | 66 => ⟨S8x2x2x2x1024, .f32⟩
  | 67 => ⟨S8x2x2x2x1024, .f32⟩
  | 68 => ⟨S8x2x2x2x1024, .f32⟩
  | 69 => ⟨S8x2x2x2x1024, .f32⟩
  | 70 => ⟨S8x2x2x2x1024x1, .f32⟩
  | 71 => ⟨S8x2x2x2x1024x1280, .f32⟩
  | 72 => ⟨S8x2x2x2x1024x1280, .f32⟩
  | 73 => ⟨S8x2x2x2x1024x1024, .f32⟩
  | 74 => ⟨S8x2x2x64x2x1024, .f32⟩
  | 75 => ⟨S8x1024x2x2x2x64, .f32⟩
  | 76 => ⟨S8x2x2x2x1024x256, .f32⟩
  | 77 => ⟨S8x2x64x2x2x1024, .f32⟩
  | 78 => ⟨S8x1024x2x2x2x64, .f32⟩
  | 79 => ⟨S8x1024x2x2x2x64, .f32⟩
  | 80 => ⟨S8192x512, .f32⟩
  | 81 => ⟨S8x6144, .f32⟩
  | 82 => ⟨S8x1x6144, .f32⟩
  | 83 => ⟨S8x1024x6144, .f32⟩
  | 84 => ⟨S8192x6144, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S8192x1024, .f32⟩
  | 121 => ⟨S8192x5632, .f32⟩
  | 122 => ⟨S8192x2816, .f32⟩
  | 123 => ⟨S8192x2816, .f32⟩
  | 124 => ⟨S8192x2816, .f32⟩
  | 125 => ⟨S8192x2816, .f32⟩
  | 126 => ⟨S_, .f32⟩
  | 127 => ⟨S8192x2816, .f32⟩
  | _ => ⟨S8, .f32⟩

abbrev hbmTy0_1 (i : Nat) : BufTy := match i % 128 with
  | 0 => ⟨S8192x2816, .f32⟩
  | 1 => ⟨S_, .f32⟩
  | 2 => ⟨S8192x2816, .f32⟩
  | 3 => ⟨S8192x2816, .f32⟩
  | 4 => ⟨S8192x2816, .f32⟩
  | 5 => ⟨S8192x2816, .f32⟩
  | 6 => ⟨S8192x1024, .f32⟩
  | 7 => ⟨S8192x1024, .f32⟩
  | 8 => ⟨S8192x1024, .f32⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_3 : Ref sig .tc := ⟨.hbm, 102, rfl⟩
abbrev main_v78 : Ref sig .tc := ⟨.hbm, 103, rfl⟩
abbrev main_v79 : Ref sig .tc := ⟨.hbm, 104, rfl⟩
abbrev main_cst_4 : Ref sig .tc := ⟨.hbm, 105, rfl⟩
abbrev main_v80 : Ref sig .tc := ⟨.hbm, 106, rfl⟩
abbrev main_v81 : Ref sig .tc := ⟨.hbm, 107, rfl⟩
abbrev main_cst_5 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_6 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call1_v0 : Ref sig .tc := ⟨.hbm, 124, rfl⟩
abbrev main_call1_v1 : Ref sig .tc := ⟨.hbm, 125, rfl⟩
abbrev main_call1_cst : Ref sig .tc := ⟨.hbm, 126, rfl⟩
abbrev main_call1_v2 : Ref sig .tc := ⟨.hbm, 127, rfl⟩
abbrev main_call1_v3 : Ref sig .tc := ⟨.hbm, 128, rfl⟩
abbrev main_call1_cst_0 : Ref sig .tc := ⟨.hbm, 129, rfl⟩
abbrev main_call1_v4 : Ref sig .tc := ⟨.hbm, 130, rfl⟩
abbrev main_call1_v5 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]
-- ==== Proof.AttSpec.lean ====
/- The attention with a sink of one head and one query, over the extended reals, as the kernel computes it (powers of two, the sink's logit in
   the maximum and in the denominator), and the tile of attention rows that the kernel keeps for the next grid point. -/
module

public import proofs.«01_k».proof.Proof.Gen.KernelIdeal.Skeleton
public import Idealize.ShloMosaic.Lib.Pipeline.ValueKit

@[expose] public section

noncomputable section

namespace Cert.KernelIdeal.Att

open Cert.KernelIdeal Cert.KernelIdeal.Gen Idealize.ShloMosaic Idealize.ShloMosaic.TcCoe Idealize.SL.Sem

/-- Two entries of a matrix at the same row and column are the same. -/
theorem at2 {α : Type} {n m : ℕ} (x : (⟨2, ![n, m]⟩ : Shape).Idx → α) {a a' : Fin n} {b b' : Fin m} (ha : a.val = a'.val) (hb : b.val = b'.val) :
    x (ix2 a b) = x (ix2 a' b') := by
  rw [Fin.ext ha, Fin.ext hb]

/-- The maximum of a sink's logit and 256 scores. -/
def kMax (s : EReal) (S : Fin 256 → EReal) : EReal := max s (Finset.fold max ⊥ S Finset.univ)

/-- The weight of a score `x`, against the maximum of the sink's logit and the scores. -/
def kW (s : EReal) (S : Fin 256 → EReal) (x : EReal) : EReal := Ideal.exp2 (x - kMax s S)

/-- One query's attention in one head: the weighted sum of the values over the sum of the weights, the sink's among them. -/
def kHead (s : EReal) (S v : Fin 256 → EReal) : EReal :=
  Ideal.div (∑ j, kW s S (S j) * v j) (∑ j, kW s S (S j) + kW s S s)

/-- A lane below 64 or not: the select that the kernel makes over 128 lanes. -/
theorem select_lane {α : Type} (l : Fin 128) (a b : α) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]
  split <;> rfl

/-- The word of the negative infinity. -/
theorem word_bot : Ideal.ofBits .f32 4286578688#32 = (⊥ : EReal) := by
  simp [Ideal.ofBits, Ideal.ieee]

variable (x0 : Vec Ideal S8 .f32) (x1 : Vec Ideal S512x512 .bf16) (x2 : Vec Ideal S256x512 .bf16) (x3 : Vec Ideal S512x256 .bf16)

/-- The sink's logit of head `h`, times the constant. -/
def sinkLog (h : ℕ) (hh : h < 8) : EReal := k0_pay6 (F := Ideal) (x0 (ix1 (⟨h, hh⟩ : Fin 8)))

/-- The score of query row `r` and key row `j` (of the same sequence, 256 rows each) in head `h` of 64 channels: the product over the
    channels, head `h` using the keys of channel block `2 (h / 4) + h % 2`. -/
def score (r : Fin 512) (h : Fin 8) (j : Fin 256) : EReal :=
  ∑ d : Fin 64, x1 (ix2 r (⟨64 * h + d, by omega⟩ : Fin 512)) *
    x2 (ix2 (⟨64 * (2 * (h / 4) + h % 2) + d, by omega⟩ : Fin 256) (⟨256 * (r / 256) + j, by omega⟩ : Fin 512))

/-- The tile of attention rows: 512 rows (two sequences) and 8 heads of 64 channels. -/
def attTile (r c : Fin 512) : EReal :=
  kHead (sinkLog x0 (c / 64) (by omega)) (score x1 x2 r ⟨c / 64, by omega⟩)
    (fun j => x3 (ix2 (⟨256 * (r / 256) + j, by omega⟩ : Fin 512) (⟨128 * (c / 256) + c % 128, by omega⟩ : Fin 256)))

end Cert.KernelIdeal.Att
-- ==== Proof.TailSpec.lean ====
/- One row of the layer's tail over the extended reals: the branches merged by their gates, the output projection and residual, the
   normalization and modulation, the gated feed-forward and its residual. -/
module

public import Idealize.ShloMosaic.Lib.Pipeline.ValueKit

@[expose] public section

noncomputable section

namespace Cert.Row

open Idealize.ShloMosaic

/-- What every row of the tail shares: the row of modulation vectors (six of 1024), the norm's gain, and the weights. -/
structure Par where
  md : Fin 6144 → EReal
  g2 : Fin 1024 → EReal
  wf : Fin 512 → Fin 1024 → EReal
  wao : Fin 512 → Fin 1024 → EReal
  wout : Fin 1024 → Fin 1024 → EReal
  wup : Fin 1024 → Fin 5632 → EReal
  wdn : Fin 2816 → Fin 1024 → EReal

/-- What a row has of its own: the residual stream, the mixed channels, the attention and the gates. -/
structure Row where
  x : Fin 1024 → EReal
  mx : Fin 512 → EReal
  a : Fin 512 → EReal
  gt : Fin 2048 → EReal

variable (p : Par) (w : Row)

/-- The residual stream after the mixers. -/
def x1 (n : Fin 1024) : EReal :=
  w.x n + p.md ⟨2048 + n, by omega⟩ *
    ∑ k : Fin 1024, (w.gt ⟨k, by omega⟩ * (∑ j, w.mx j * p.wf j k) + w.gt ⟨1024 + k, by omega⟩ * ∑ j, w.a j * p.wao j k) * p.wout k n

/-- The normalized and modulated row that enters the feed-forward, from the residual stream `y`. -/
def norm (y : Fin 1024 → EReal) (n : Fin 1024) : EReal :=
  y n * Ideal.rsqrt (Ideal.div (∑ k, y k * y k) (Ideal.ofBits .f32 1149239296#32) + Ideal.ofBits .f32 897988541#32) * p.g2 n *
      (1 + p.md ⟨4096 + n, by omega⟩) + p.md ⟨3072 + n, by omega⟩

/-- One column of the feed-forward's first product, from the normalized row `h`. -/
def up (h : Fin 1024 → EReal) (c : Fin 5632) : EReal := ∑ k, h k * p.wup k c

/-- One activation. -/
def act (h : Fin 1024 → EReal) (c : Fin 2816) : EReal :=
  up p h ⟨c, by omega⟩ * Ideal.div 1 (1 + Ideal.exp (0 - up p h ⟨c, by omega⟩)) * up p h ⟨2816 + c, by omega⟩

/-- One row of the layer's tail. -/
def tail (n : Fin 1024) : EReal :=
  x1 p w n + p.md ⟨5120 + n, by omega⟩ * ∑ c, act p (norm p (x1 p w)) c * p.wdn c n

end Cert.Row
-- ==== Proof.RefRow.lean ====
/- The reference's result, row by row: the layer's tail of a row over the reference's attention, and that attention in one head. -/
module

public import proofs.«01_k».proof.Proof.Gen.ReferenceIdeal.Read
public import proofs.«01_k».proof.Proof.TailSpec

@[expose] public section

set_option maxRecDepth 16384

noncomputable section

namespace Cert.ReferenceIdeal.Row

open Cert.ReferenceIdeal Cert.ReferenceIdeal.Gen Cert.ReferenceIdeal.Read Idealize.ShloMosaic Idealize.ShloMosaic.TcCoe Idealize.SL.Sem

variable (x0 : Vec Ideal S8 .f32) (x1 : Vec Ideal S8192x512 .bf16) (x2 : Vec Ideal S256x8192 .bf16) (x3 : Vec Ideal S8192x256 .bf16)
  (x4 : Vec Ideal S8192x1024 .f32) (x5 : Vec Ideal S16x6144 .f32) (x6 : Vec Ideal S8192x512 .bf16)
  (x7 : Vec Ideal S8192x2048 .bf16) (x8 : Vec Ideal S1x1024 .f32) (x9 : Vec Ideal S512x1024 .bf16) (x10 : Vec Ideal S512x1024 .bf16)
  (x11 : Vec Ideal S1024x1024 .bf16) (x12 : Vec Ideal S1024x5632 .bf16) (x13 : Vec Ideal S2816x1024 .bf16)

/-! ## The tail -/

/-- What all rows share. -/
def par : Row.Par where
  md n := x5 (ix2 (8 : Fin 16) n)
  g2 n := x8 (ix2 (0 : Fin 1) n)
  wf k n := x9 (ix2 k n)
  wao k n := x10 (ix2 k n)
  wout k n := x11 (ix2 k n)
  wup k n := x12 (ix2 k n)
  wdn k n := x13 (ix2 k n)

/-- A row, over the reference's attention. -/
def row (r : Fin 8192) : Row.Row where
  x n := x4 (ix2 r n)
  mx n := x6 (ix2 r n)
  a n := val_main_v37 (F := Ideal) x0 x1 x2 x3 (ix2 r n)
  gt n := x7 (ix2 r n)

/-- The residual stream after the mixers. -/
theorem x1_apply (r : Fin 8192) (n : Fin 1024) :
    val_main_v55 (F := Ideal) x0 x1 x2 x3 x4 x5 x6 x7 x9 x10 x11 (ix2 r n) =
      Row.x1 (par x5 x8 x9 x10 x11 x12 x13) (row x0 x1 x2 x3 x4 x6 x7 r) n := by
  pointwise [val_main_v55, val_main_v54, val_main_v53, val_main_v52, val_main_v51, val_main_v50, val_main_v49, val_main_v48, val_main_v47,
    val_main_v46, val_main_v45, val_main_v41, val_main_v38, val_main_v3, val_main_v4, val_main_v5, val_main_v6, val_main_v7]
  rfl

/-- The normalized row. -/
theorem norm_apply (r : Fin 8192) (n : Fin 1024) :
    val_main_v73 (F := Ideal) x0 x1 x2 x3 x4 x5 x6 x7 x8 x9 x10 x11 (ix2 r n) =
      Row.norm (par x5 x8 x9 x10 x11 x12 x13) (Row.x1 (par x5 x8 x9 x10 x11 x12 x13) (row x0 x1 x2 x3 x4 x6 x7 r)) n := by
  pointwise [val_main_v73, val_main_v72, val_main_v71, val_main_v70, val_main_v69, val_main_v68, val_main_v67, val_main_v66, val_main_v65,
    val_main_v64, val_main_v63, val_main_v62, val_main_v61, val_main_v60, val_main_v59, val_main_v58, val_main_v57, val_main_v56,
    val_main_v43, val_main_v42, val_main_v38, val_main_cst_2, val_main_cst_3, val_main_cst_4, val_main_cst_5]
  simp only [x1_apply (x8 := x8) (x12 := x12) (x13 := x13)]
  rfl

/-- The activations over the normalized row as the reference writes it. -/
theorem act_of_norm (r : Fin 8192) (c : Fin 2816) :
    val_main_v78 (F := Ideal) x0 x1 x2 x3 x4 x5 x6 x7 x8 x9 x10 x11 x12 (ix2 r c) =
      Row.act (par x5 x8 x9 x10 x11 x12 x13)
        (fun n => val_main_v73 (F := Ideal) x0 x1 x2 x3 x4 x5 x6 x7 x8 x9 x10 x11 (ix2 r n)) c := by
  unfold Row.act
  rw [zero_sub]
  pointwise [val_main_v78, val_main_v77, val_main_v76, val_main_v75, val_main_v74, val_main_call0_v5, val_main_call0_v4, val_main_call0_v3,
    val_main_call0_v2, val_main_call0_v1, val_main_call0_v0, val_main_call0_cst, val_main_call0_cst_0, val_main_v8]
  rfl

/-- The activations. -/
theorem act_apply (r : Fin 8192) (c : Fin 2816) :
    val_main_v78 (F := Ideal) x0 x1 x2 x3 x4 x5 x6 x7 x8 x9 x10 x11 x12 (ix2 r c) =
      Row.act (par x5 x8 x9 x10 x11 x12 x13)
        (Row.norm (par x5 x8 x9 x10 x11 x12 x13) (Row.x1 (par x5 x8 x9 x10 x11 x12 x13) (row x0 x1 x2 x3 x4 x6 x7 r))) c := by
  rw [act_of_norm (x13 := x13)]
  exact congrArg (fun y => Row.act (par x5 x8 x9 x10 x11 x12 x13) y c) (funext fun n => norm_apply (x13 := x13) ..)

/-- The reference's result is the tail of each row over the reference's attention. -/
theorem out_apply (r : Fin 8192) (n : Fin 1024) :
    val_main_v82 (F := Ideal) x0 x1 x2 x3 x4 x5 x6 x7 x8 x9 x10 x11 x12 x13 (ix2 r n) =
      Row.tail (par x5 x8 x9 x10 x11 x12 x13) (row x0 x1 x2 x3 x4 x6 x7 r) n := by
  pointwise [val_main_v82, val_main_v81, val_main_v80, val_main_v79, val_main_v44, val_main_v38, val_main_v9]
  simp only [act_apply (x13 := x13), x1_apply (x8 := x8) (x12 := x12) (x13 := x13)]
  rfl

/-! ## The attention -/

/-- The maximum of 256 scores. -/
def sMax (S : Fin 256 → EReal) : EReal := Finset.fold max ⊥ S Finset.univ

/-- The maximum of the scores and the sink's logit. -/
def rMax (s : EReal) (S : Fin 256 → EReal) : EReal := max (sMax S) s

/-- One query's attention in one head: the values summed with the weights, each over the sum of the weights and the sink's. -/
def rHead (s : EReal) (S v : Fin 256 → EReal) : EReal :=
  ∑ j, v j * Ideal.div (Ideal.exp (S j - rMax s S)) ((∑ k, Ideal.exp (S k - rMax s S)) + Ideal.exp (s - rMax s S))

theorem word_bot : Ideal.ofBits .f32 4286578688#32 = (⊥ : EReal) := by
  simp [Ideal.ofBits, Ideal.ieee]

theorem word_two : Ideal.ofBits .f32 1073741824#32 = ((2 : ℝ) : EReal) := by
  simp [Ideal.ofBits, Ideal.ieee]
  rw [← EReal.coe_mul]
  norm_num

theorem red : S32x2x2x2x256x256.Reduces [5] S32x2x2x2x256 := by decide

/-- An index with the reduced coordinate put back. -/
theorem lift_red (a : Fin 32) (b c d : Fin 2) (q k : Fin 256) : red.lift (ix5 a b c d q) k = (ix6 a b c d q k : S32x2x2x2x256x256.Idx) := by
  funext e
  apply Fin.ext
  match e with
  | ⟨0, _⟩ => rfl
  | ⟨1, _⟩ => rfl
  | ⟨2, _⟩ => rfl
  | ⟨3, _⟩ => rfl
  | ⟨4, _⟩ => rfl
  | ⟨5, _⟩ => rfl

variable (a : Fin 32) (b c d : Fin 2) (q : Fin 256)

/-- The scores. -/
theorem score_apply (k : Fin 256) :
    val_main_v17 (F := Ideal) x1 x2 (ix6 a b c d q k) =
      (∑ x : Fin 64, x2 (ix2 (⟨b * 128 + d * 64 + x, by omega⟩ : Fin 256) (⟨a * 256 + k, by omega⟩ : Fin 8192)) *
          x1 (ix2 (⟨a * 256 + q, by omega⟩ : Fin 8192) (⟨b * 256 + c * 128 + d * 64 + x, by omega⟩ : Fin 512))) *
        Ideal.log (Ideal.ofBits FTy.f32 1073741824#32) := by
  pointwise [val_main_v17, val_main_v16, val_main_v15, val_main_v14, val_main_v13, val_main_v11, val_main_v10, val_main_v0, val_main_v1, val_main_cst]

/-- The maximum of a row's scores. -/
theorem max_apply : val_main_v20 (F := Ideal) x1 x2 (ix5 a b c d q) =
    sMax (fun k : Fin 256 => val_main_v17 (F := Ideal) x1 x2 (ix6 a b c d q k)) := by
  unfold val_main_v20 sMax
  generalize val_main_v17 (F := Ideal) x1 x2 = y
  rw [Host.reduce_eq_fold, Shape.ReducesTo.drop_eq_drop _ red, red.fold_filter_drop_single]
  exact congrArg₂ (fun e f => Finset.fold max e f (Finset.univ : Finset (Fin 256))) word_bot (funext fun k => congrArg y (lift_red a b c d q k))

/-- The sinks' logits, spread over the rows. -/
theorem sink_apply : val_main_v21 (F := Ideal) x0 (ix5 a b c d q) = x0 (ix1 (⟨b * 4 + c * 2 + d, by omega⟩ : Fin 8)) := by
  rw [val_main_v21_apply, val_main_v19_apply, val_main_v18_apply]
  refine congrArg x0 (funext fun e => Fin.ext ?_)
  match e with
  | ⟨0, _⟩ =>
    show ((b : ℕ) * 2 + c) * 2 + d = b * 4 + c * 2 + d
    omega

/-- The maximum of a row's scores and its sink's logit. -/
theorem rMax_apply : val_main_v22 (F := Ideal) x0 x1 x2 (ix5 a b c d q) =
    rMax (x0 (ix1 (⟨b * 4 + c * 2 + d, by omega⟩ : Fin 8))) (fun k => val_main_v17 (F := Ideal) x1 x2 (ix6 a b c d q k)) := by
  rw [val_main_v22_apply, max_apply, sink_apply]
  unfold rMax
  generalize sMax _ = y
  rfl

/-- The weights. -/
theorem weight_apply (k : Fin 256) : val_main_v26 (F := Ideal) x0 x1 x2 (ix6 a b c d q k) =
    Ideal.exp (val_main_v17 (F := Ideal) x1 x2 (ix6 a b c d q k) -
      rMax (x0 (ix1 (⟨b * 4 + c * 2 + d, by omega⟩ : Fin 8))) (fun k => val_main_v17 (F := Ideal) x1 x2 (ix6 a b c d q k))) := by
  rw [← rMax_apply]
  pointwise [val_main_v26, val_main_v25, val_main_v24, val_main_v23]

/-- The sum of a row's weights. -/
theorem sum_apply : val_main_v27 (F := Ideal) x0 x1 x2 (ix5 a b c d q) = ∑ k : Fin 256, val_main_v26 (F := Ideal) x0 x1 x2 (ix6 a b c d q k) := by
  unfold val_main_v27
  generalize val_main_v26 (F := Ideal) x0 x1 x2 = y
  simp only [Host.reduceAdd, Ideal.hostReduceAdd_def]
  rw [Ideal.hostReduceAdd_single _ red]
  have h0 : (val_main_cst_1 (F := Ideal)) (Shape.Idx.first h_S_) = (0 : EReal) := by
    show Ideal.ofBits .f32 0x00000000#32 = 0
    simp [Ideal.ofBits, Ideal.ieee]
  rw [h0, zero_add]
  exact Finset.sum_congr rfl fun k _ => congrArg y (lift_red a b c d q k)

/-- The sum of the weights and the sink's. -/
theorem den_apply (k : Fin 256) : val_main_v33 (F := Ideal) x0 x1 x2 (ix6 a b c d q k) =
    (∑ k : Fin 256, val_main_v26 (F := Ideal) x0 x1 x2 (ix6 a b c d q k)) +
      Ideal.exp (x0 (ix1 (⟨b * 4 + c * 2 + d, by omega⟩ : Fin 8)) -
        rMax (x0 (ix1 (⟨b * 4 + c * 2 + d, by omega⟩ : Fin 8))) (fun k => val_main_v17 (F := Ideal) x1 x2 (ix6 a b c d q k))) := by
  rw [← rMax_apply, ← sum_apply]
  pointwise [val_main_v33, val_main_v32, val_main_v31, val_main_v30, val_main_v29, val_main_v28, val_main_v19, val_main_v18]

/-- The values. -/
theorem val_apply (k : Fin 256) (e : Fin 64) : val_main_v12 (F := Ideal) x3 (ix5 a k b d e) =
    x3 (ix2 (⟨a * 256 + k, by omega⟩ : Fin 8192) (⟨b * 128 + d * 64 + e, by omega⟩ : Fin 256)) := by
  pointwise [val_main_v12, val_main_v2]

/-- The reference's attention of row `r` in channel `n`: the head of that channel. -/
theorem att_apply (r : Fin 8192) (n : Fin 512) : val_main_v37 (F := Ideal) x0 x1 x2 x3 (ix2 r n) =
    rHead (x0 (ix1 (⟨n / 64, by omega⟩ : Fin 8)))
      (fun j => (∑ x : Fin 64, x1 (ix2 r (⟨64 * (n / 64) + x, by omega⟩ : Fin 512)) *
        x2 (ix2 (⟨64 * (2 * (n / 64 / 4) + n / 64 % 2) + x, by omega⟩ : Fin 256) (⟨256 * (r / 256) + j, by omega⟩ : Fin 8192))) *
          Ideal.log (Ideal.ofBits FTy.f32 1073741824#32))
      (fun j => x3 (ix2 (⟨256 * (r / 256) + j, by omega⟩ : Fin 8192) (⟨128 * (n / 256) + n % 128, by omega⟩ : Fin 256))) := by
  pointwise [val_main_v37, val_main_v36, val_main_v35, val_main_v34]
  simp only [den_apply, weight_apply, val_apply, score_apply]
  have hs : ∀ h : (n : ℕ) / 256 * 4 + n / 128 % 2 * 2 + n / 64 % 2 < 8, (⟨_, h⟩ : Fin 8) = ⟨n / 64, by omega⟩ := fun h => Fin.ext (by show (n : ℕ) / 256 * 4 + n / 128 % 2 * 2 + n / 64 % 2 = n / 64; omega)
  have hq : ∀ (j : Fin 256), (∑ x : Fin 64, x2 (ix2 (⟨(n : ℕ) / 256 * 128 + n / 64 % 2 * 64 + x, by omega⟩ : Fin 256) (⟨(r : ℕ) / 256 * 256 + j, by omega⟩ : Fin 8192)) *
          x1 (ix2 (⟨(r : ℕ) / 256 * 256 + r % 256, by omega⟩ : Fin 8192) (⟨n / 256 * 256 + n / 128 % 2 * 128 + n / 64 % 2 * 64 + x, by omega⟩ : Fin 512))) =
      ∑ x : Fin 64, x1 (ix2 r (⟨64 * (n / 64) + x, by omega⟩ : Fin 512)) *
        x2 (ix2 (⟨64 * (2 * (n / 64 / 4) + n / 64 % 2) + x, by omega⟩ : Fin 256) (⟨256 * (r / 256) + j, by omega⟩ : Fin 8192)) := by
    intro j
    refine Finset.sum_congr rfl fun x _ => (mul_comm _ _).trans (congrArg₂ (· * ·) (congrArg x1 (congrArg₂ ix2 (Fin.ext ?_) (Fin.ext ?_))) (congrArg x2 (congrArg₂ ix2 (Fin.ext ?_) (Fin.ext ?_))))
    · show (r : ℕ) / 256 * 256 + r % 256 = r
      omega
    · show (n : ℕ) / 256 * 256 + n / 128 % 2 * 128 + n / 64 % 2 * 64 + x = 64 * (n / 64) + x
      omega
    · show (n : ℕ) / 256 * 128 + n / 64 % 2 * 64 + x = 64 * (2 * (n / 64 / 4) + n / 64 % 2) + x
      omega
    · show (r : ℕ) / 256 * 256 + j = 256 * (r / 256) + j
      omega
  have hv : ∀ (j : Fin 256), x3 (ix2 (⟨(r : ℕ) / 256 * 256 + j, by omega⟩ : Fin 8192) (⟨(n : ℕ) / 256 * 128 + n / 64 % 2 * 64 + n % 64, by omega⟩ : Fin 256)) =
      x3 (ix2 (⟨256 * (r / 256) + j, by omega⟩ : Fin 8192) (⟨128 * (n / 256) + n % 128, by omega⟩ : Fin 256)) := by
    intro j
    refine congrArg x3 (congrArg₂ ix2 (Fin.ext ?_) (Fin.ext ?_))
    · show (r : ℕ) / 256 * 256 + j = 256 * (r / 256) + j
      omega
    · show (n : ℕ) / 256 * 128 + n / 64 % 2 * 64 + n % 64 = 128 * (n / 256) + n % 128
      omega
  simp only [hs, hq, hv]
  rfl

end Cert.ReferenceIdeal.Row
-- ==== Proof.AttPieces.lean ====
/- The attention stages of one grid point, written once: the pieces the stages store in the score, weight, sink and attention buffers, as
   functions of the loads they make. Cases A and B of the generated run store exactly these pieces (`runA_att`, `runB_att`). -/
module

public import proofs.«01_k».proof.Proof.Gen.KernelIdeal.Frame.RunB
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem

variable {F : FTy → Type} [FloatOps F] [Named F]

/-- An offset and a size per axis of a rank-3 buffer fit when they fit axis by axis. -/
theorem fit3 {a b c d e f x y z : ℕ} (h0 : a + d ≤ x) (h1 : b + e ≤ y) (h2 : c + f ≤ z) :
    ∀ i : Fin 3, (![a, b, c] : Fin 3 → ℕ) i + (![d, e, f] : Fin 3 → ℕ) i ≤ (![x, y, z] : Fin 3 → ℕ) i := by
  intro i; fin_cases i <;> assumption

/-- The same at rank 2. -/
theorem fit2 {a b c d x y : ℕ} (h0 : a + c ≤ x) (h1 : b + d ≤ y) :
    ∀ i : Fin 2, (![a, b] : Fin 2 → ℕ) i + (![c, d] : Fin 2 → ℕ) i ≤ (![x, y] : Fin 2 → ℕ) i := by
  intro i; fin_cases i <;> assumption

/-- Buffer `b` of the score (or weight) buffers, whole. -/
abbrev bufRect (b : ℕ) (hb : b < 2) : Rect S2x512x512 :=
  Rect.unit (s := S2x512x512) ![b, 0, 0] S1x512x512.size (fit3 (by omega) (by omega) (by omega))

/-- Buffer `b` of the sink buffers, whole. -/
abbrev skRect (b : ℕ) (hb : b < 2) : Rect S2x512x128 :=
  Rect.unit (s := S2x512x128) ![b, 0, 0] S1x512x128.size (fit3 (by omega) (by omega) (by omega))

/-- The load of 128 rows and 256 columns of score buffer `b` at `(r0, c0)`, after the stores `L`. -/
def sChunk (v : View sig .tc .vmem S2x512x512 .f32) (L : List (View.Piece (Elt F) S2x512x512 .f32)) (b : ℕ) (hb : b < 2)
    (r0 c0 : ℕ) (hr : r0 + 128 ≤ 512) (hc : c0 + 256 ≤ 512) : Vec F S128x256 .f32 :=
  LoadRect.valAlong (LoadRect.numel_consLift (d := ![512, 512]) (Rect.unit (s := S512x512) ![r0, c0] S128x256.size (fit2 hr hc)).toLoadRect ![1, 512, 512] rfl
      (fun i => by fin_cases i <;> rfl))
    (v.readCov L ((bufRect b hb).withinL
      (LoadRect.consLift (d := ![512, 512]) (Rect.unit (s := S512x512) ![r0, c0] S128x256.size (fit2 hr hc)).toLoadRect ![1, 512, 512] rfl
        (fun i => by fin_cases i <;> rfl)) (fun _ => rfl)))

/-- One store of softmax weights: 128 rows and one half of the keys, from the sink's logit `s` and the scores `ch` there. -/
def pPiece (b : ℕ) (hb : b < 2) (r0 c0 : ℕ) (hr : r0 + 128 ≤ 512) (hc : c0 + 256 ≤ 512) (s : F .f32) (ch : Vec F S128x256 .f32) :
    View.Piece (Elt F) S2x512x512 .bf16 :=
  ⟨Rect.unit (s := S2x512x512) ![b, r0, c0] S1x128x256.size (fit3 (by omega) hr hc), k0_pay12 s ch⟩

/-- One store of sink terms: 128 rows, from the two logits and the scores of both halves. -/
def skPiece (b : ℕ) (hb : b < 2) (r0 : ℕ) (hr : r0 + 128 ≤ 512) (s s' : F .f32) (ch ch' : Vec F S128x256 .f32) :
    View.Piece (Elt F) S2x512x128 .f32 :=
  ⟨(skRect b hb).within (Rect.consLift (d := ![512, 128]) (Rect.unit (s := S512x128) ![r0, 0] S128x128.size (fit2 hr (by omega))) ![1, 512, 128] rfl
      (fun i => by fin_cases i <;> rfl)) (fun _ => rfl),
    Rect.payAlong (Rect.numel_consLift (d := ![512, 128]) (Rect.unit (s := S512x128) ![r0, 0] S128x128.size (fit2 hr (by omega))) ![1, 512, 128] rfl
      (fun i => by fin_cases i <;> rfl)) (k0_pay16 s' k0_pay10 (k0_pay13 s ch) ch')⟩

section
variable (v : View sig .tc .vmem S2x512x512 .f32) (L : List (View.Piece (Elt F) S2x512x512 .f32)) (b : ℕ) (hb : b < 2)
  (s0 s1 s2 s3 : F .f32)

/-- The eight stores of a unit's softmax weights, over the earlier stores `L'`. -/
def pBuf (L' : List (View.Piece (Elt F) S2x512x512 .bf16)) : List (View.Piece (Elt F) S2x512x512 .bf16) :=
  pPiece b hb 384 256 (by omega) (by omega) s3 (sChunk v L b hb 384 256 (by omega) (by omega)) ::
  pPiece b hb 384 0 (by omega) (by omega) s2 (sChunk v L b hb 384 0 (by omega) (by omega)) ::
  pPiece b hb 256 256 (by omega) (by omega) s3 (sChunk v L b hb 256 256 (by omega) (by omega)) ::
  pPiece b hb 256 0 (by omega) (by omega) s2 (sChunk v L b hb 256 0 (by omega) (by omega)) ::
  pPiece b hb 128 256 (by omega) (by omega) s1 (sChunk v L b hb 128 256 (by omega) (by omega)) ::
  pPiece b hb 128 0 (by omega) (by omega) s0 (sChunk v L b hb 128 0 (by omega) (by omega)) ::
  pPiece b hb 0 256 (by omega) (by omega) s1 (sChunk v L b hb 0 256 (by omega) (by omega)) ::
  pPiece b hb 0 0 (by omega) (by omega) s0 (sChunk v L b hb 0 0 (by omega) (by omega)) :: L'

/-- The four stores of a unit's sink terms, over the earlier stores `L'`. -/
def skBuf (L' : List (View.Piece (Elt F) S2x512x128 .f32)) : List (View.Piece (Elt F) S2x512x128 .f32) :=
  skPiece b hb 384 (by omega) s2 s3 (sChunk v L b hb 384 0 (by omega) (by omega)) (sChunk v L b hb 384 256 (by omega) (by omega)) ::
  skPiece b hb 256 (by omega) s2 s3 (sChunk v L b hb 256 0 (by omega) (by omega)) (sChunk v L b hb 256 256 (by omega) (by omega)) ::
  skPiece b hb 128 (by omega) s0 s1 (sChunk v L b hb 128 0 (by omega) (by omega)) (sChunk v L b hb 128 256 (by omega) (by omega)) ::
  skPiece b hb 0 (by omega) s0 s1 (sChunk v L b hb 0 0 (by omega) (by omega)) (sChunk v L b hb 0 256 (by omega) (by omega)) :: L'
end

variable (arg1 : Memref sig .tc .smem S8 .f32) (harg1 : arg1.IsWhole) (arg2 : Memref sig .tc .vmem S512x512 .bf16) (harg2 : arg2.IsWhole)
  (arg3 : Memref sig .tc .vmem S256x512 .bf16) (harg3 : arg3.IsWhole) (arg4 : Memref sig .tc .vmem S512x256 .bf16) (harg4 : arg4.IsWhole)
  (arg17 : Memref sig .tc .vmem S2x512x512 .f32) (arg18 : Memref sig .tc .vmem S2x512x512 .bf16) (arg19 : Memref sig .tc .vmem S2x512x128 .f32)
  (x0 : Vec F S8 .f32) (x1 : Vec F S512x512 .bf16) (x2 : Vec F S256x512 .bf16) (x3 : Vec F S512x256 .bf16)

/-- The load of sink logit `i`, times the constant. -/
def sk (i : ℕ) (hi : i + 1 ≤ 8) : F .f32 :=
  k0_pay6 (View.readAt (Elt F) arg1.view (Rect.unit (s := S8) ![i] S1.size (fun a => by fin_cases a; exact hi)).toLoadRect (harg1.unread x0)
    (Shape.Idx.first (show 0 < S1.numel by decide)))

/-- The load of 256 rows and 128 columns of the queries. -/
def qLd (r c : ℕ) (hr : r + 256 ≤ 512) (hc : c + 128 ≤ 512) : Vec F S256x128 .bf16 :=
  View.readAt (Elt F) arg2.view (Rect.unit (s := S512x512) ![r, c] S256x128.size (fit2 hr hc)).toLoadRect (harg2.unread x1)

/-- The load of 128 rows and 256 columns of the transposed keys. -/
def kLd (r c : ℕ) (hr : r + 128 ≤ 256) (hc : c + 256 ≤ 512) : Vec F S128x256 .bf16 :=
  View.readAt (Elt F) arg3.view (Rect.unit (s := S256x512) ![r, c] S128x256.size (fit2 hr hc)).toLoadRect (harg3.unread x2)

/-- The load of 256 rows and 128 columns of the values. -/
def vLd (r c : ℕ) (hr : r + 256 ≤ 512) (hc : c + 128 ≤ 256) : Vec F S256x128 .bf16 :=
  View.readAt (Elt F) arg4.view (Rect.unit (s := S512x256) ![r, c] S256x128.size (fit2 hr hc)).toLoadRect (harg4.unread x3)

/-- The scores of the unit at sequence rows `r`, query columns `c` and key rows `k`. -/
def sc (r c k : ℕ) (hr : r + 256 ≤ 512) (hc : c + 256 ≤ 512) (hk : k + 128 ≤ 256) : Vec F S1x512x512 .f32 :=
  k0_pay4 (qLd arg2 harg2 x1 r c hr (by omega)) (qLd arg2 harg2 x1 r (c + 128) hr (by omega)) (kLd arg3 harg3 x2 k r hk hr)

/-- The score buffers after two, three and four units. -/
def S2 : List (View.Piece (Elt F) S2x512x512 .f32) :=
  [⟨bufRect 1 (by omega), sc arg2 harg2 arg3 harg3 x1 x2 0 256 128 (by omega) (by omega) (by omega)⟩,
   ⟨bufRect 0 (by omega), sc arg2 harg2 arg3 harg3 x1 x2 0 0 0 (by omega) (by omega) (by omega)⟩]
@[inherit_doc S2] def S3 : List (View.Piece (Elt F) S2x512x512 .f32) :=
  ⟨bufRect 0 (by omega), sc arg2 harg2 arg3 harg3 x1 x2 256 0 0 (by omega) (by omega) (by omega)⟩ :: S2 arg2 harg2 arg3 harg3 x1 x2
@[inherit_doc S2] def S4 : List (View.Piece (Elt F) S2x512x512 .f32) :=
  ⟨bufRect 1 (by omega), sc arg2 harg2 arg3 harg3 x1 x2 256 256 128 (by omega) (by omega) (by omega)⟩ :: S3 arg2 harg2 arg3 harg3 x1 x2

/-- The weight buffers after each unit. -/
def P1 : List (View.Piece (Elt F) S2x512x512 .bf16) :=
  pBuf arg17.view (S2 arg2 harg2 arg3 harg3 x1 x2) 0 (by omega) (sk arg1 harg1 x0 0 (by omega)) (sk arg1 harg1 x0 1 (by omega))
    (sk arg1 harg1 x0 2 (by omega)) (sk arg1 harg1 x0 3 (by omega)) []
@[inherit_doc P1] def P2 : List (View.Piece (Elt F) S2x512x512 .bf16) :=
  pBuf arg17.view (S3 arg2 harg2 arg3 harg3 x1 x2) 1 (by omega) (sk arg1 harg1 x0 4 (by omega)) (sk arg1 harg1 x0 5 (by omega))
    (sk arg1 harg1 x0 6 (by omega)) (sk arg1 harg1 x0 7 (by omega)) (P1 arg1 harg1 arg2 harg2 arg3 harg3 arg17 x0 x1 x2)
@[inherit_doc P1] def P3 : List (View.Piece (Elt F) S2x512x512 .bf16) :=
  pBuf arg17.view (S4 arg2 harg2 arg3 harg3 x1 x2) 0 (by omega) (sk arg1 harg1 x0 0 (by omega)) (sk arg1 harg1 x0 1 (by omega))
    (sk arg1 harg1 x0 2 (by omega)) (sk arg1 harg1 x0 3 (by omega)) (P2 arg1 harg1 arg2 harg2 arg3 harg3 arg17 x0 x1 x2)
@[inherit_doc P1] def P4 : List (View.Piece (Elt F) S2x512x512 .bf16) :=
  pBuf arg17.view (S4 arg2 harg2 arg3 harg3 x1 x2) 1 (by omega) (sk arg1 harg1 x0 4 (by omega)) (sk arg1 harg1 x0 5 (by omega))
    (sk arg1 harg1 x0 6 (by omega)) (sk arg1 harg1 x0 7 (by omega)) (P3 arg1 harg1 arg2 harg2 arg3 harg3 arg17 x0 x1 x2)

/-- The sink buffers after each unit. -/
def K1 : List (View.Piece (Elt F) S2x512x128 .f32) :=
  skBuf arg17.view (S2 arg2 harg2 arg3 harg3 x1 x2) 0 (by omega) (sk arg1 harg1 x0 0 (by omega)) (sk arg1 harg1 x0 1 (by omega))
    (sk arg1 harg1 x0 2 (by omega)) (sk arg1 harg1 x0 3 (by omega)) []
@[inherit_doc K1] def K2 : List (View.Piece (Elt F) S2x512x128 .f32) :=
  skBuf arg17.view (S3 arg2 harg2 arg3 harg3 x1 x2) 1 (by omega) (sk arg1 harg1 x0 4 (by omega)) (sk arg1 harg1 x0 5 (by omega))
    (sk arg1 harg1 x0 6 (by omega)) (sk arg1 harg1 x0 7 (by omega)) (K1 arg1 harg1 arg2 harg2 arg3 harg3 arg17 x0 x1 x2)
@[inherit_doc K1] def K3 : List (View.Piece (Elt F) S2x512x128 .f32) :=
  skBuf arg17.view (S4 arg2 harg2 arg3 harg3 x1 x2) 0 (by omega) (sk arg1 harg1 x0 0 (by omega)) (sk arg1 harg1 x0 1 (by omega))
    (sk arg1 harg1 x0 2 (by omega)) (sk arg1 harg1 x0 3 (by omega)) (K2 arg1 harg1 arg2 harg2 arg3 harg3 arg17 x0 x1 x2)
@[inherit_doc K1] def K4 : List (View.Piece (Elt F) S2x512x128 .f32) :=
  skBuf arg17.view (S4 arg2 harg2 arg3 harg3 x1 x2) 1 (by omega) (sk arg1 harg1 x0 4 (by omega)) (sk arg1 harg1 x0 5 (by omega))
    (sk arg1 harg1 x0 6 (by omega)) (sk arg1 harg1 x0 7 (by omega)) (K3 arg1 harg1 arg2 harg2 arg3 harg3 arg17 x0 x1 x2)

/-- A unit's attention rows: the weights after the stores `P` and the sink terms after the stores `K`, in buffer `b`, with the values `vt`. -/
def att (P : List (View.Piece (Elt F) S2x512x512 .bf16)) (K : List (View.Piece (Elt F) S2x512x128 .f32)) (b : ℕ) (hb : b < 2)
    (vt : Vec F S256x128 .bf16) : FVec F S512x128 .f32 :=
  k0_pay40 k0_pay37 (k0_pay38 vt) (k0_pay39 vt) (arg18.view.readCov P (bufRect b hb).toLoadRect) (arg19.view.readCov K (skRect b hb).toLoadRect)

/-- A unit's two stores of attention rows at sequence rows `r` and query columns `c`: the first 256 rows of `o` in the first 128 columns, the
    others in the next 128. -/
def attStores (o : FVec F S512x128 .f32) (r c : ℕ) (hr : r + 256 ≤ 512) (hc : c + 256 ≤ 512) (L' : List (View.Piece (Elt F) S512x512 .bf16)) :
    List (View.Piece (Elt F) S512x512 .bf16) :=
  ⟨Rect.unit (s := S512x512) ![r, c + 128] S256x128.size (fit2 hr (by omega)),
    shapeCast S256x128 (truncf .bf16 (extractStridedSlice S256x128 ![256, 0] o slices_S512x128_o256_0_S256x128) bitsLt_bf16_f32) shapeCasts_S256x128_S256x128⟩ ::
  ⟨Rect.unit (s := S512x512) ![r, c] S256x128.size (fit2 hr (by omega)),
    shapeCast S256x128 (truncf .bf16 (extractStridedSlice S256x128 ![0, 0] o slices_S512x128_o0_0_S256x128) bitsLt_bf16_f32) shapeCasts_S256x128_S256x128⟩ :: L'

/-- The eight stores of a tile's attention rows. -/
def attPieces : List (View.Piece (Elt F) S512x512 .bf16) :=
  attStores (att arg18 arg19 (P4 arg1 harg1 arg2 harg2 arg3 harg3 arg17 x0 x1 x2) (K4 arg1 harg1 arg2 harg2 arg3 harg3 arg17 x0 x1 x2) 1 (by omega)
    (vLd arg4 harg4 x3 256 128 (by omega) (by omega))) 256 256 (by omega) (by omega) <|
  attStores (att arg18 arg19 (P3 arg1 harg1 arg2 harg2 arg3 harg3 arg17 x0 x1 x2) (K3 arg1 harg1 arg2 harg2 arg3 harg3 arg17 x0 x1 x2) 0 (by omega)
    (vLd arg4 harg4 x3 256 0 (by omega) (by omega))) 256 0 (by omega) (by omega) <|
  attStores (att arg18 arg19 (P2 arg1 harg1 arg2 harg2 arg3 harg3 arg17 x0 x1 x2) (K2 arg1 harg1 arg2 harg2 arg3 harg3 arg17 x0 x1 x2) 1 (by omega)
    (vLd arg4 harg4 x3 0 128 (by omega) (by omega))) 0 256 (by omega) (by omega) <|
  attStores (att arg18 arg19 (P1 arg1 harg1 arg2 harg2 arg3 harg3 arg17 x0 x1 x2) (K1 arg1 harg1 arg2 harg2 arg3 harg3 arg17 x0 x1 x2) 0 (by omega)
    (vLd arg4 harg4 x3 0 0 (by omega) (by omega))) 0 0 (by omega) (by omega) []

variable (c : Dev nD) (i : grid0.Coords)
  (arg5 : Memref sig .tc .vmem S512x1024 .f32) (harg5 : arg5.IsWhole) (arg6 : Memref sig .tc .vmem S8x6144 .f32)
  (harg6 : arg6.IsWhole) (arg7 : Memref sig .tc .vmem S512x512 .bf16) (harg7 : arg7.IsWhole)
  (arg8 : Memref sig .tc .vmem S512x2048 .bf16) (harg8 : arg8.IsWhole) (arg9 : Memref sig .tc .vmem S1x1024 .f32)
  (harg9 : arg9.IsWhole) (arg10 : Memref sig .tc .vmem S512x1024 .bf16) (harg10 : arg10.IsWhole)
  (arg11 : Memref sig .tc .vmem S512x1024 .bf16) (harg11 : arg11.IsWhole) (arg12 : Memref sig .tc .vmem S1024x1024 .bf16)
  (harg12 : arg12.IsWhole) (arg13 : Memref sig .tc .vmem S1024x5632 .bf16) (harg13 : arg13.IsWhole)
  (arg14 : Memref sig .tc .vmem S2816x1024 .bf16) (harg14 : arg14.IsWhole) (arg15 : Memref sig .tc .vmem S512x1024 .f32)
  (harg15 : arg15.IsWhole) (arg16 : Memref sig .tc .vmem S512x512 .bf16) (harg16 : arg16.IsWhole)
  (arg20 : Memref sig .tc .vmem S512x2816 .bf16) (harg20 : arg20.IsWhole) (harg17 : arg17.IsWhole) (harg18 : arg18.IsWhole)
  (harg19 : arg19.IsWhole) (x4 : Vec F S512x1024 .f32) (x5 : Vec F S8x6144 .f32) (x6 : Vec F S512x512 .bf16)
  (x7 : Vec F S512x2048 .bf16) (x8 : Vec F S1x1024 .f32) (x9 : Vec F S512x1024 .bf16) (x10 : Vec F S512x1024 .bf16)
  (x11 : Vec F S1024x1024 .bf16) (x12 : Vec F S1024x5632 .bf16) (x13 : Vec F S2816x1024 .bf16) (xs0 : Vec F S512x512 .bf16)

namespace A

/-- In case A the run leaves exactly these stores of attention rows. -/
theorem att_eq (hc0 : cond0_0 i) (hc1 : ¬cond0_1 i) (hc2 : ¬cond0_2 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13).2.1 =
      attPieces arg1 harg1 arg2 harg2 arg3 harg3 arg4 harg4 arg17 arg18 arg19 x0 x1 x2 x3 := rfl
end A

namespace B

/-- In case B the run leaves exactly these stores of attention rows. -/
theorem att_eq (hc0 : ¬cond0_0 i) (hc1 : cond0_1 i) (hc2 : ¬cond0_2 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).2.1 =
      attPieces arg1 harg1 arg2 harg2 arg3 harg3 arg4 harg4 arg17 arg18 arg19 x0 x1 x2 x3 := rfl
end B

end Cert.KernelIdeal.Att
-- ==== Proof.IdealRunC.lean ====
/- The run of the kernel's body at the last grid point, where the conditionals of the attention stages are not taken: they are decided before
   the body is run, so that only the tail is looked at. -/
module

public import proofs.«01_k».proof.Proof.Gen.KernelIdeal.Frame.RunB

@[expose] public section

-- the covers are checked along long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at the last grid point, where only the tail runs: what its stores leave in the output and in the activation buffer, as
    pieces (last first), with the proof that from whole buffers the body runs to its continuation and hands them back with these pieces
    written, the inputs and the carried attention rows as they were. -/
noncomputable def kernelRun0_C (c : Dev nD) (i : grid0.Coords) (arg1 : Memref sig .tc .smem S8 .f32) (harg1 : arg1.IsWhole) (arg2 : Memref sig .tc .vmem S512x512 .bf16) (harg2 : arg2.IsWhole) (arg3 : Memref sig .tc .vmem S256x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S8x6144 .f32) (harg6 : arg6.IsWhole) (arg7 : Memref sig .tc .vmem S512x512 .bf16) (harg7 : arg7.IsWhole) (arg8 : Memref sig .tc .vmem S512x2048 .bf16) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S512x1024 .f32) (harg15 : arg15.IsWhole) (arg16 : Memref sig .tc .vmem S512x512 .bf16) (harg16 : arg16.IsWhole) (arg17 : Memref sig .tc .vmem S2x512x512 .f32) (harg17 : arg17.IsWhole) (arg18 : Memref sig .tc .vmem S2x512x512 .bf16) (harg18 : arg18.IsWhole) (arg19 : Memref sig .tc .vmem S2x512x128 .f32) (harg19 : arg19.IsWhole) (arg20 : Memref sig .tc .vmem S512x2816 .bf16) (harg20 : arg20.IsWhole) (hc0 : ¬cond0_0 i) (hc1 : ¬cond0_1 i) (hc2 : cond0_2 i)
    (x0 : Vec F S8 .f32) (x1 : Vec F S512x512 .bf16) (x2 : Vec F S256x512 .bf16) (x3 : Vec F S512x256 .bf16) (x4 : Vec F S512x1024 .f32) (x5 : Vec F S8x6144 .f32) (x6 : Vec F S512x512 .bf16) (x7 : Vec F S512x2048 .bf16) (x8 : Vec F S1x1024 .f32) (x9 : Vec F S512x1024 .bf16) (x10 : Vec F S512x1024 .bf16) (x11 : Vec F S1024x1024 .bf16) (x12 : Vec F S1024x5632 .bf16) (x13 : Vec F S2816x1024 .bf16) (xs0 : Vec F S512x512 .bf16) :
    Σ' (L14 : List (View.Piece (Elt F) S512x1024 .f32)), Σ' (LS0 : List (View.Piece (Elt F) S512x512 .bf16)), Σ' (LT1 : List (View.Piece (Elt F) S2x512x512 .f32)), Σ' (LT2 : List (View.Piece (Elt F) S2x512x512 .bf16)), { LT4 : List (View.Piece (Elt F) S512x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ owns (c : Thread nD τ) arg16 fullShare xs0 ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LT4)) -∗ K ⟨⟩))
          ⊢ wp frame (wpE (defs₀ (F := F)) Variants.none c none) E (cc0_attn_tail_ctx i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], [], [], ?_, fun E K => ?run⟩
  case run =>
    rw [cc0_attn_tail_ctx_eq_skeleton]
    -- only the third conditional is taken: decide the three before the parts are unfolded
    have hsk := congrArg (wp frame (wpE (defs₀ (F := F)) Variants.none c none) E · K)
      (show cc0_attn_tail_ctx_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = _ from
        (dif_neg hc0).trans ((dif_neg hc1).trans (dif_pos hc2)))
    rw [hsk]
    simp only [k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [HS0]
    · iexists _; isplitr; · ipureintro; exact harg16.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _; iexact HS4

end Cert.KernelIdeal.Gen

end
-- ==== Proof.TailPieces.lean ====
/- The tail of one grid point, written once: what it stores in the output and in the activation buffer, as functions of the loads it
   makes. Cases B and C of the run store exactly this output. -/
module

public import proofs.«01_k».proof.Proof.AttPieces
public import proofs.«01_k».proof.Proof.IdealRunC

@[expose] public section

set_option maxRecDepth 16384

noncomputable section

namespace Cert.KernelIdeal.Tail

open Cert.KernelIdeal Cert.KernelIdeal.Gen Cert.KernelIdeal.Att Idealize.ShloMosaic Idealize.ShloMosaic.TcCoe Idealize.SL.Sem

variable {F : FTy → Type} [FloatOps F] [Named F]

/-- A load of a unit-stride rectangle of a whole matrix. -/
abbrev ld {n m : ℕ} {e : EltTy} (a b : ℕ) (arg : Memref sig .tc .vmem ⟨2, ![n, m]⟩ e) (harg : arg.IsWhole) (x : Vec F ⟨2, ![n, m]⟩ e) (r c : ℕ)
    (hr : r + a ≤ n) (hc : c + b ≤ m) : Vec F ⟨2, ![a, b]⟩ e :=
  View.readAt (Elt F) arg.view (Rect.unit (s := ⟨2, ![n, m]⟩) ![r, c] (⟨2, ![a, b]⟩ : Shape).size (fit2 hr hc)).toLoadRect (harg.unread x)

/-- The mean of the squares of each row. -/
def msq (v : FVec F S256x1024 .f32) : FVec F S256x1 .f32 :=
  divf (shapeCast S256x1 (multiReduction .add [1] S256 (mulf v v) 0x00000000#32 reduces_S256x1024_S256 (.inl rfl) rfl) shapeCasts_S256_S256x1)
    (broadcast S256x1 (Scalar.ofBits .f32 0x44800000#32))

variable (arg5 : Memref sig .tc .vmem S512x1024 .f32) (harg5 : arg5.IsWhole) (arg6 : Memref sig .tc .vmem S8x6144 .f32)
  (harg6 : arg6.IsWhole) (arg7 : Memref sig .tc .vmem S512x512 .bf16) (harg7 : arg7.IsWhole)
  (arg8 : Memref sig .tc .vmem S512x2048 .bf16) (harg8 : arg8.IsWhole) (arg9 : Memref sig .tc .vmem S1x1024 .f32) (harg9 : arg9.IsWhole)
  (arg10 : Memref sig .tc .vmem S512x1024 .bf16) (harg10 : arg10.IsWhole)
  (arg11 : Memref sig .tc .vmem S512x1024 .bf16) (harg11 : arg11.IsWhole) (arg12 : Memref sig .tc .vmem S1024x1024 .bf16)
  (harg12 : arg12.IsWhole) (arg13 : Memref sig .tc .vmem S1024x5632 .bf16) (harg13 : arg13.IsWhole)
  (arg14 : Memref sig .tc .vmem S2816x1024 .bf16) (harg14 : arg14.IsWhole) (arg16 : Memref sig .tc .vmem S512x512 .bf16) (harg16 : arg16.IsWhole)
  (arg20 : Memref sig .tc .vmem S512x2816 .bf16)
  (x4 : Vec F S512x1024 .f32) (x5 : Vec F S8x6144 .f32) (x6 : Vec F S512x512 .bf16)
  (x7 : Vec F S512x2048 .bf16) (x8 : Vec F S1x1024 .f32) (x9 : Vec F S512x1024 .bf16) (x10 : Vec F S512x1024 .bf16)
  (x11 : Vec F S1024x1024 .bf16) (x12 : Vec F S1024x5632 .bf16) (x13 : Vec F S2816x1024 .bf16) (xs0 : Vec F S512x512 .bf16)

/-- The residual after the mixers, of the 256 rows from `r`. -/
def x1h (r : ℕ) (hr : r + 256 ≤ 512) : FVec F S256x1024 .f32 :=
  k0_pay154 (ld 1 1024 arg6 harg6 x5 0 2048 (by omega) (by omega)) (ld 256 512 arg7 harg7 x6 r 0 hr (by omega)) (ld 512 1024 arg10 harg10 x9 0 0 (by omega) (by omega))
    (ld 256 512 arg16 harg16 xs0 r 0 hr (by omega)) (ld 512 1024 arg11 harg11 x10 0 0 (by omega) (by omega)) (ld 256 1024 arg8 harg8 x7 r 0 hr (by omega))
    (ld 256 1024 arg8 harg8 x7 r 1024 hr (by omega)) (ld 256 1024 arg5 harg5 x4 r 0 hr (by omega)) (ld 1024 1024 arg12 harg12 x11 0 0 (by omega) (by omega))

/-- The normalized and modulated residual of the 256 rows from `r`, narrowed. -/
def hbh (r : ℕ) (hr : r + 256 ≤ 512) : FVec F S256x1024 .bf16 :=
  k0_pay157 (ld 1 1024 arg6 harg6 x5 0 3072 (by omega) (by omega)) (ld 1 1024 arg6 harg6 x5 0 4096 (by omega) (by omega))
    (x1h arg5 harg5 arg6 harg6 arg7 harg7 arg8 harg8 arg10 harg10 arg11 harg11 arg12 harg12 arg16 harg16 x4 x5 x6 x7 x9 x10 x11 xs0 r hr)
    (msq (x1h arg5 harg5 arg6 harg6 arg7 harg7 arg8 harg8 arg10 harg10 arg11 harg11 arg12 harg12 arg16 harg16 x4 x5 x6 x7 x9 x10 x11 xs0 r hr))
    k0_pay156 (ld 1 1024 arg9 harg9 x8 0 0 (by omega) (by omega))

/-- The residual of the tile. -/
def x1t : FVec F S512x1024 .f32 :=
  k0_pay160 (x1h arg5 harg5 arg6 harg6 arg7 harg7 arg8 harg8 arg10 harg10 arg11 harg11 arg12 harg12 arg16 harg16 x4 x5 x6 x7 x9 x10 x11 xs0 0 (by omega))
    (x1h arg5 harg5 arg6 harg6 arg7 harg7 arg8 harg8 arg10 harg10 arg11 harg11 arg12 harg12 arg16 harg16 x4 x5 x6 x7 x9 x10 x11 xs0 256 (by omega))

/-- The normalized and modulated residual of the tile. -/
def hbt : FVec F S512x1024 .bf16 :=
  concatenate S512x1024 0 [⟨S256x1024, hbh arg5 harg5 arg6 harg6 arg7 harg7 arg8 harg8 arg9 harg9 arg10 harg10 arg11 harg11 arg12 harg12 arg16 harg16 x4 x5 x6 x7 x8 x9 x10 x11 xs0 0 (by omega)⟩,
    ⟨S256x1024, hbh arg5 harg5 arg6 harg6 arg7 harg7 arg8 harg8 arg9 harg9 arg10 harg10 arg11 harg11 arg12 harg12 arg16 harg16 x4 x5 x6 x7 x8 x9 x10 x11 xs0 256 (by omega)⟩]
    concatenates_S256x1024_S256x1024_S512x1024_d0

/-- The columns `256 k` to `256 k + 255` of the activation buffer. -/
abbrev actRect (k : ℕ) (hk : k < 11) : Rect S512x2816 :=
  Rect.unit (s := S512x2816) ![0, 256 * k] S512x256.size (fit2 (by omega) (by omega))

/-- The store of those columns, from the normalized tile `hb`. -/
def actPiece (hb : FVec F S512x1024 .bf16) (k : ℕ) (hk : k < 11) : View.Piece (Elt F) S512x2816 .bf16 :=
  ⟨actRect k hk, k0_pay168 hb (ld 1024 256 arg13 harg13 x12 0 (256 * k) (by omega) (by omega)) (ld 1024 256 arg13 harg13 x12 0 (2816 + 256 * k) (by omega) (by omega))⟩

/-- The eleven stores of activations, the last first. -/
def actPieces (hb : FVec F S512x1024 .bf16) : List (View.Piece (Elt F) S512x2816 .bf16) :=
  [actPiece arg13 harg13 x12 hb 10 (by omega), actPiece arg13 harg13 x12 hb 9 (by omega), actPiece arg13 harg13 x12 hb 8 (by omega),
   actPiece arg13 harg13 x12 hb 7 (by omega), actPiece arg13 harg13 x12 hb 6 (by omega), actPiece arg13 harg13 x12 hb 5 (by omega),
   actPiece arg13 harg13 x12 hb 4 (by omega), actPiece arg13 harg13 x12 hb 3 (by omega), actPiece arg13 harg13 x12 hb 2 (by omega),
   actPiece arg13 harg13 x12 hb 1 (by omega), actPiece arg13 harg13 x12 hb 0 (by omega)]

/-- The output tile. -/
def outT : FVec F S512x1024 .f32 :=
  k0_pay330 (ld 1 1024 arg6 harg6 x5 0 5120 (by omega) (by omega))
    (x1t arg5 harg5 arg6 harg6 arg7 harg7 arg8 harg8 arg10 harg10 arg11 harg11 arg12 harg12 arg16 harg16 x4 x5 x6 x7 x9 x10 x11 xs0)
    (arg20.view.readCov (actPieces arg13 harg13 x12 (hbt arg5 harg5 arg6 harg6 arg7 harg7 arg8 harg8 arg9 harg9 arg10 harg10 arg11 harg11 arg12 harg12 arg16 harg16 x4 x5 x6 x7 x8 x9 x10 x11 xs0))
      (Rect.unit (s := S512x2816) ![0, 0] S512x2816.size (fit2 (by omega) (by omega))).toLoadRect)
    (ld 2816 1024 arg14 harg14 x13 0 0 (by omega) (by omega))

/-- The one store of the output tile. -/
def outPieces : List (View.Piece (Elt F) S512x1024 .f32) :=
  [⟨Rect.unit (s := S512x1024) ![0, 0] S512x1024.size (fit2 (by omega) (by omega)),
    outT arg5 harg5 arg6 harg6 arg7 harg7 arg8 harg8 arg9 harg9 arg10 harg10 arg11 harg11 arg12 harg12 arg13 harg13 arg14 harg14 arg16 harg16 arg20 x4 x5 x6 x7 x8 x9 x10 x11 x12 x13 xs0⟩]

variable (c : Dev nD) (i : grid0.Coords)
  (arg1 : Memref sig .tc .smem S8 .f32) (harg1 : arg1.IsWhole) (arg2 : Memref sig .tc .vmem S512x512 .bf16) (harg2 : arg2.IsWhole)
  (arg3 : Memref sig .tc .vmem S256x512 .bf16) (harg3 : arg3.IsWhole) (arg4 : Memref sig .tc .vmem S512x256 .bf16) (harg4 : arg4.IsWhole)
  (arg15 : Memref sig .tc .vmem S512x1024 .f32) (harg15 : arg15.IsWhole)
  (arg17 : Memref sig .tc .vmem S2x512x512 .f32) (harg17 : arg17.IsWhole) (arg18 : Memref sig .tc .vmem S2x512x512 .bf16) (harg18 : arg18.IsWhole)
  (arg19 : Memref sig .tc .vmem S2x512x128 .f32) (harg19 : arg19.IsWhole) (harg20 : arg20.IsWhole)
  (x0 : Vec F S8 .f32) (x1 : Vec F S512x512 .bf16) (x2 : Vec F S256x512 .bf16) (x3 : Vec F S512x256 .bf16)

namespace B

/-- In case B the run stores exactly this output. -/
theorem out_eq (hc0 : ¬cond0_0 i) (hc1 : cond0_1 i) (hc2 : ¬cond0_2 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).1 =
      outPieces arg5 harg5 arg6 harg6 arg7 harg7 arg8 harg8 arg9 harg9 arg10 harg10 arg11 harg11 arg12 harg12 arg13 harg13 arg14 harg14 arg16 harg16 arg20 x4 x5 x6 x7 x8 x9 x10 x11 x12 x13 xs0 := rfl

end B

namespace C

/-- In case C the run stores exactly this output. -/
theorem out_eq (hc0 : ¬cond0_0 i) (hc1 : ¬cond0_1 i) (hc2 : cond0_2 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).1 =
      outPieces arg5 harg5 arg6 harg6 arg7 harg7 arg8 harg8 arg9 harg9 arg10 harg10 arg11 harg11 arg12 harg12 arg13 harg13 arg14 harg14 arg16 harg16 arg20 x4 x5 x6 x7 x8 x9 x10 x11 x12 x13 xs0 := rfl

end C

end Cert.KernelIdeal.Tail
-- ==== Proof.AttRead.lean ====
/- What the buffers of the attention stages hold: each load of scores, weights and sink terms reads one function of its index, whatever was
   stored in other places. -/
module

public import proofs.«01_k».proof.Proof.AttPieces

@[expose] public section

set_option maxRecDepth 16384

noncomputable section

namespace Cert.KernelIdeal.Att

open Cert.KernelIdeal Cert.KernelIdeal.Gen Idealize.ShloMosaic Idealize.ShloMosaic.TcCoe Idealize.SL.Sem

variable {F : FTy → Type} [FloatOps F] [Named F]

/-- A load of scores reads what the stores `L` left at its place. -/
theorem sChunk_apply (v : View sig .tc .vmem S2x512x512 .f32) (L : List (View.Piece (Elt F) S2x512x512 .f32)) (b : ℕ) (hb : b < 2)
    (r0 c0 : ℕ) (hr : r0 + 128 ≤ 512) (hc : c0 + 256 ≤ 512) (r : Fin 128) (c : Fin 256) :
    sChunk v L b hb r0 c0 hr hc (ix2 r c) =
      View.canon L (ix3 (⟨b, hb⟩ : Fin 2) (⟨r0 + r, by omega⟩ : Fin 512) (⟨c0 + c, by omega⟩ : Fin 512)) := by
  unfold sChunk
  rw [View.readCov_eq_canon']
  refine congrArg (View.canon L) ?_
  rw [Rect.idx_withinL]
  refine (congrArg (fun z => (bufRect b hb).emb (LoadRect.idx _ z)) (Shape.reshapeEquiv_cons_one (d := ![128, 256]) (by decide) (ix2 r c))).trans ?_
  funext a
  fin_cases a <;> apply Fin.ext
  · show b + 1 * (0 + 1 * 0) = b
    omega
  · show 0 + 1 * (r0 + 1 * r.val) = r0 + r
    omega
  · show 0 + 1 * (c0 + 1 * c.val) = c0 + c
    omega

/-- A store of a whole score or weight buffer is read back at every index of that buffer. -/
theorem canon_buf {e : EltTy} (b : ℕ) (hb : b < 2) (w : (bufRect b hb).shape.Idx → Elt F e) (L : List (View.Piece (Elt F) S2x512x512 e))
    (r c : Fin 512) : View.canon (⟨bufRect b hb, w⟩ :: L) (ix3 (⟨b, hb⟩ : Fin 2) r c) = w (ix3 (0 : Fin 1) r c) := by
  have h : (ix3 (⟨b, hb⟩ : Fin 2) r c : S2x512x512.Idx) = (bufRect b hb).emb (ix3 (0 : Fin 1) r c) := by
    funext a
    fin_cases a <;> apply Fin.ext
    · show b = b + 1 * 0
      omega
    · show r.val = 0 + 1 * r.val
      omega
    · show c.val = 0 + 1 * c.val
      omega
  rw [h, View.canon_cons_emb]

/-- A store in one buffer leaves the other as it was. -/
theorem canon_skip {e : EltTy} {n : ℕ} {sz : Fin 3 → ℕ} (b b' : ℕ) (hb' : b' < 2) (h : b ≠ b') (off : Fin 3 → ℕ)
    (h0 : off 0 = b) (h1 : sz 0 = 1) (inb) (w : (Rect.unit (s := ⟨3, ![2, 512, n]⟩) off sz inb).shape.Idx → Elt F e)
    (L : List (View.Piece (Elt F) ⟨3, ![2, 512, n]⟩ e)) (r : Fin 512) (c : Fin n) :
    View.canon (⟨Rect.unit (s := ⟨3, ![2, 512, n]⟩) off sz inb, w⟩ :: L) (ix3 (⟨b', hb'⟩ : Fin 2) r c) = View.canon L (ix3 (⟨b', hb'⟩ : Fin 2) r c) := by
  apply View.canon_cons_of_not_mem
  rw [Rect.mem_set_unit]
  intro hh
  have := hh 0
  rw [h0, h1] at this
  have hx : ((ix3 (⟨b', hb'⟩ : Fin 2) r c : (⟨3, ![2, 512, n]⟩ : Shape).Idx) 0 : ℕ) = b' := rfl
  omega

end Cert.KernelIdeal.Att
-- ==== Proof.AttUnit.lean ====
/- One unit of the attention stages, over the extended reals: from the scores that its buffer holds to the rows of attention that it stores. -/
module

public import proofs.«01_k».proof.Proof.AttRead
public import proofs.«01_k».proof.Proof.AttSpec

@[expose] public section

set_option maxRecDepth 16384

noncomputable section

namespace Cert.KernelIdeal.Att

open Cert.KernelIdeal Cert.KernelIdeal.Gen Idealize.ShloMosaic Idealize.ShloMosaic.TcCoe Idealize.SL.Sem

/-- A row of one half of the scores. -/
def half (SC : Fin 512 → Fin 512 → EReal) (r : Fin 512) (h : ℕ) (hh : h < 2) (j : Fin 256) : EReal := SC r ⟨256 * h + j, by omega⟩

/-- The weight that a unit keeps at row `r` and key column `c`, with the logit of the row's and column's halves. -/
def unitW (s : Fin 2 → Fin 2 → EReal) (SC : Fin 512 → Fin 512 → EReal) (r c : Fin 512) : EReal :=
  kW (s ⟨r / 256, by omega⟩ ⟨c / 256, by omega⟩) (half SC r (c / 256) (by omega)) (SC r c)

/-- The sink's term that a unit keeps at row `r` and lane `l`. -/
def unitSk (s : Fin 2 → Fin 2 → EReal) (SC : Fin 512 → Fin 512 → EReal) (r : Fin 512) (l : Fin 128) : EReal :=
  kW (s ⟨r / 256, by omega⟩ ⟨l / 64, by omega⟩) (half SC r (l / 64) (by omega)) (s ⟨r / 256, by omega⟩ ⟨l / 64, by omega⟩)

/-- The unit's weights, by the index of the buffer. -/
def unitWG (s : Fin 2 → Fin 2 → EReal) (SC : Fin 512 → Fin 512 → EReal) : S2x512x512.Idx → Elt Ideal .bf16 := fun y => unitW s SC (y 1) (y 2)

/-- The unit's sink terms, by the index of the buffer. -/
def unitSkG (s : Fin 2 → Fin 2 → EReal) (SC : Fin 512 → Fin 512 → EReal) : S2x512x128.Idx → Elt Ideal .f32 := fun y => unitSk s SC (y 1) (y 2)

variable (v : View sig .tc .vmem S2x512x512 .f32) (L : List (View.Piece (Elt Ideal) S2x512x512 .f32)) (b : ℕ) (hb : b < 2)
  (SC : Fin 512 → Fin 512 → EReal) (hS : ∀ r c : Fin 512, View.canon L (ix3 (⟨b, hb⟩ : Fin 2) r c) = SC r c) (s : Fin 2 → Fin 2 → EReal)

/-- The weights' payload at an index: the weight of the score there. -/
theorem pay_weight (σ : EReal) (ch : Vec Ideal S128x256 .f32) (r : Fin 128) (c : Fin 256) :
    k0_pay12 (F := Ideal) σ ch (ix3 (0 : Fin 1) r c) = kW σ (fun j => ch (ix2 r j)) (ch (ix2 r c)) := by
  pointwise [k0_pay12, k0_pay11]
  rw [word_bot]
  rfl

/-- The sink terms' payload at an index: the weight of the sink's logit of the lane's half. -/
theorem pay_sink (σ σ' : EReal) (ch ch' : Vec Ideal S128x256 .f32) (r c : Fin 128) :
    k0_pay16 (F := Ideal) σ' k0_pay10 (k0_pay13 (F := Ideal) σ ch) ch' (ix2 r c) =
      if c.val < 64 then kW σ (fun j => ch (ix2 r j)) σ else kW σ' (fun j => ch' (ix2 r j)) σ' := by
  pointwise [k0_pay16, k0_pay10, k0_pay14, k0_pay13, k0_pay11]
  rw [select_lane, word_bot]
  rfl

include hS in
/-- One store of weights is a block of the unit's weights. -/
theorem pPiece_of (p e q : ℕ) (hp : p < 2) (he : e < 2) (r0 c0 : ℕ) (hq : q < 2) (h0 : r0 = 256 * p + 128 * q) (h1 : c0 = 256 * e)
    (hr : r0 + 128 ≤ 512) (hc : c0 + 256 ≤ 512) :
    ∀ x : S1x128x256.Idx, k0_pay12 (F := Ideal) (s ⟨p, hp⟩ ⟨e, he⟩) (sChunk v L b hb r0 c0 hr hc) x =
      unitWG s SC
        ((Rect.unit (s := S2x512x512) ![b, r0, c0] S1x128x256.size (fit3 (by omega) hr hc)).emb x) := by
  intro x
  obtain ⟨a, r, c, rfl⟩ : ∃ (a : Fin 1) (r : Fin 128) (c : Fin 256), x = ix3 a r c := ⟨_, _, _, eq_ix3 x⟩
  rw [Subsingleton.elim a 0, pay_weight]
  simp only [sChunk_apply, hS]
  have e1 : (Rect.unit (s := S2x512x512) ![b, r0, c0] S1x128x256.size (fit3 (by omega) hr hc)).emb (ix3 (0 : Fin 1) r c) =
      (ix3 (⟨b, hb⟩ : Fin 2) (⟨r0 + r, by omega⟩ : Fin 512) (⟨c0 + c, by omega⟩ : Fin 512) : S2x512x512.Idx) := by
    funext a
    fin_cases a <;> apply Fin.ext
    · show b + 1 * 0 = b
      omega
    · show r0 + 1 * r.val = r0 + r
      omega
    · show c0 + 1 * c.val = c0 + c
      omega
  rw [e1]
  show _ = unitW s SC ⟨r0 + r, _⟩ ⟨c0 + c, _⟩
  unfold unitW half
  have f1 : (r0 + r.val) / 256 = p := by omega
  have f2 : (c0 + c.val) / 256 = e := by omega
  simp only [f1, f2]
  subst h1
  rfl

include hS in
/-- One store of sink terms is a block of the unit's sink terms. -/
theorem skPiece_of (p q : ℕ) (hp : p < 2) (r0 : ℕ) (hq : q < 2) (h0 : r0 = 256 * p + 128 * q) (hr : r0 + 128 ≤ 512) :
    ∀ x : (⟨3, ![1, 128, 128]⟩ : Shape).Idx, (skPiece (F := Ideal) b hb r0 hr (s ⟨p, hp⟩ 0) (s ⟨p, hp⟩ 1) (sChunk v L b hb r0 0 hr (by omega)) (sChunk v L b hb r0 256 hr (by omega))).2 x =
      unitSkG s SC
        ((skPiece (F := Ideal) b hb r0 hr (s ⟨p, hp⟩ 0) (s ⟨p, hp⟩ 1) (sChunk v L b hb r0 0 hr (by omega)) (sChunk v L b hb r0 256 hr (by omega))).1.emb x) := by
  intro x
  obtain ⟨a, r, c, rfl⟩ : ∃ (a : Fin 1) (r : Fin 128) (c : Fin 128), x = ix3 a r c := ⟨_, _, _, eq_ix3 x⟩
  have e0 : (skPiece (F := Ideal) b hb r0 hr (s ⟨p, hp⟩ 0) (s ⟨p, hp⟩ 1) (sChunk v L b hb r0 0 hr (by omega)) (sChunk v L b hb r0 256 hr (by omega))).2
      (ix3 a r c) = k0_pay16 (F := Ideal) (s ⟨p, hp⟩ 1) k0_pay10 (k0_pay13 (F := Ideal) (s ⟨p, hp⟩ 0) (sChunk v L b hb r0 0 hr (by omega)))
        (sChunk v L b hb r0 256 hr (by omega)) (ix2 r c) :=
    Rect.payAlong_consLift (d := ![512, 128]) (Rect.unit (s := S512x128) ![r0, 0] S128x128.size (fit2 hr (by omega))) ![1, 512, 128] rfl
      (fun i => by fin_cases i <;> rfl) (k0_pay16 (F := Ideal) (s ⟨p, hp⟩ 1) k0_pay10 (k0_pay13 (F := Ideal) (s ⟨p, hp⟩ 0) (sChunk v L b hb r0 0 hr (by omega)))
        (sChunk v L b hb r0 256 hr (by omega))) _ (ix3 a r c) (ix2 r c) (Fin.forall_fin_two.mpr ⟨rfl, rfl⟩)
  rw [e0, pay_sink]
  simp only [sChunk_apply, hS]
  have e1 : (skPiece (F := Ideal) b hb r0 hr (s ⟨p, hp⟩ 0) (s ⟨p, hp⟩ 1) (sChunk v L b hb r0 0 hr (by omega)) (sChunk v L b hb r0 256 hr (by omega))).1.emb (ix3 a r c) =
      (ix3 (⟨b, hb⟩ : Fin 2) (⟨r0 + r, by omega⟩ : Fin 512) c : S2x512x128.Idx) := by
    funext i
    fin_cases i <;> apply Fin.ext
    · show b + 0 + 1 * a.val = b
      omega
    · show 0 + r0 + 1 * r.val = r0 + r
      omega
    · show 0 + 0 + 1 * c.val = c
      omega
  rw [e1]
  show _ = unitSk s SC ⟨r0 + r, _⟩ c
  unfold unitSk half
  have f1 : (r0 + r.val) / 256 = p := by omega
  split
  · have f2 : c.val / 64 = 0 := by omega
    simp only [f1, f2]
    rfl
  · have f2 : c.val / 64 = 1 := by omega
    simp only [f1, f2]
    rfl

include hS in
/-- After a unit's stores of weights its buffer holds the unit's weights. -/
theorem pBuf_apply (L' : List (View.Piece (Elt Ideal) S2x512x512 .bf16)) (r c : Fin 512) :
    View.canon (pBuf (F := Ideal) v L b hb (s 0 0) (s 0 1) (s 1 0) (s 1 1) L') (ix3 (⟨b, hb⟩ : Fin 2) r c) = unitW s SC r c := by
  have P := @pPiece_of v L b hb SC hS s
  refine View.canon_append_of_piecesOf (unitWG s SC) L'
    (pBuf (F := Ideal) v L b hb (s 0 0) (s 0 1) (s 1 0) (s 1 1) [])
    ⟨P 1 1 1 (by omega) (by omega) 384 256 (by omega) rfl rfl _ _, P 1 0 1 (by omega) (by omega) 384 0 (by omega) rfl rfl _ _,
     P 1 1 0 (by omega) (by omega) 256 256 (by omega) rfl rfl _ _, P 1 0 0 (by omega) (by omega) 256 0 (by omega) rfl rfl _ _,
     P 0 1 1 (by omega) (by omega) 128 256 (by omega) rfl rfl _ _, P 0 0 1 (by omega) (by omega) 128 0 (by omega) rfl rfl _ _,
     P 0 1 0 (by omega) (by omega) 0 256 (by omega) rfl rfl _ _, P 0 0 0 (by omega) (by omega) 0 0 (by omega) rfl rfl _ _, trivial⟩
    (ix3 (⟨b, hb⟩ : Fin 2) r c) ?_
  have hm : ∀ r0 c0 hr hc σ ch, r0 ≤ r.val → r.val < r0 + 128 → c0 ≤ c.val → c.val < c0 + 256 →
      (ix3 (⟨b, hb⟩ : Fin 2) r c : S2x512x512.Idx) ∈ (pPiece (F := Ideal) b hb r0 c0 hr hc σ ch).1.set := by
    intro r0 c0 hr hc σ ch h1 h2 h3 h4
    refine (Rect.mem_set_unit (inb := fit3 (by omega) hr hc)).mpr fun a => ?_
    fin_cases a
    · exact ⟨le_rfl, by show b < b + 1; omega⟩
    · exact ⟨h1, h2⟩
    · exact ⟨h3, h4⟩
  unfold pBuf
  simp only [List.mem_cons, exists_eq_or_imp]
  by_cases hc : c.val < 256
  · by_cases h1 : r.val < 128
    · exact .inr (.inr (.inr (.inr (.inr (.inr (.inr (.inl (hm _ _ _ _ _ _ (by omega) (by omega) (by omega) (by omega)))))))))
    by_cases h2 : r.val < 256
    · exact .inr (.inr (.inr (.inr (.inr (.inl (hm _ _ _ _ _ _ (by omega) (by omega) (by omega) (by omega)))))))
    by_cases h3 : r.val < 384
    · exact .inr (.inr (.inr (.inl (hm _ _ _ _ _ _ (by omega) (by omega) (by omega) (by omega)))))
    · exact .inr (.inl (hm _ _ _ _ _ _ (by omega) (by omega) (by omega) (by omega)))
  · by_cases h1 : r.val < 128
    · exact .inr (.inr (.inr (.inr (.inr (.inr (.inl (hm _ _ _ _ _ _ (by omega) (by omega) (by omega) (by omega))))))))
    by_cases h2 : r.val < 256
    · exact .inr (.inr (.inr (.inr (.inl (hm _ _ _ _ _ _ (by omega) (by omega) (by omega) (by omega))))))
    by_cases h3 : r.val < 384
    · exact .inr (.inr (.inl (hm _ _ _ _ _ _ (by omega) (by omega) (by omega) (by omega))))
    · exact .inl (hm _ _ _ _ _ _ (by omega) (by omega) (by omega) (by omega))

include hS in
/-- After a unit's stores of sink terms its buffer holds the unit's sink terms. -/
theorem skBuf_apply (L' : List (View.Piece (Elt Ideal) S2x512x128 .f32)) (r : Fin 512) (c : Fin 128) :
    View.canon (skBuf (F := Ideal) v L b hb (s 0 0) (s 0 1) (s 1 0) (s 1 1) L') (ix3 (⟨b, hb⟩ : Fin 2) r c) = unitSk s SC r c := by
  have P := @skPiece_of v L b hb SC hS s
  refine View.canon_append_of_piecesOf (unitSkG s SC) L'
    (skBuf (F := Ideal) v L b hb (s 0 0) (s 0 1) (s 1 0) (s 1 1) [])
    ⟨P 1 1 (by omega) 384 (by omega) rfl _, P 1 0 (by omega) 256 (by omega) rfl _,
     P 0 1 (by omega) 128 (by omega) rfl _, P 0 0 (by omega) 0 (by omega) rfl _, trivial⟩
    (ix3 (⟨b, hb⟩ : Fin 2) r c) ?_
  have hm : ∀ r0 hr σ σ' ch ch', r0 ≤ r.val → r.val < r0 + 128 →
      (ix3 (⟨b, hb⟩ : Fin 2) r c : S2x512x128.Idx) ∈ (skPiece (F := Ideal) b hb r0 hr σ σ' ch ch').1.set := by
    intro r0 hr σ σ' ch ch' h1 h2
    have he : (ix3 (⟨b, hb⟩ : Fin 2) r c : S2x512x128.Idx) =
        (skPiece (F := Ideal) b hb r0 hr σ σ' ch ch').1.emb (ix3 (0 : Fin 1) (⟨r.val - r0, by omega⟩ : Fin 128) c) := by
      funext a
      fin_cases a <;> apply Fin.ext
      · show b = b + 0 + 1 * 0
        omega
      · show r.val = 0 + r0 + 1 * (r.val - r0)
        omega
      · show c.val = 0 + 0 + 1 * c.val
        omega
    rw [he]
    exact LoadRect.idx_mem _ _
  unfold skBuf
  simp only [List.mem_cons, exists_eq_or_imp]
  by_cases h1 : r.val < 128
  · exact .inr (.inr (.inr (.inl (hm _ _ _ _ _ _ (by omega) (by omega)))))
  by_cases h2 : r.val < 256
  · exact .inr (.inr (.inl (hm _ _ _ _ _ _ (by omega) (by omega))))
  by_cases h3 : r.val < 384
  · exact .inr (.inl (hm _ _ _ _ _ _ (by omega) (by omega)))
  · exact .inl (hm _ _ _ _ _ _ (by omega) (by omega))

end Cert.KernelIdeal.Att
-- ==== Proof.AttValue.lean ====
/- The tile of attention rows that the stages of a grid point leave: at every row and channel the attention with a sink of its head. -/
module

public import proofs.«01_k».proof.Proof.AttUnit

@[expose] public section

set_option maxRecDepth 16384

noncomputable section

namespace Cert.KernelIdeal.Att

open Cert.KernelIdeal Cert.KernelIdeal.Gen Idealize.ShloMosaic Idealize.ShloMosaic.TcCoe Idealize.SL.Sem

/-- A sum over 128 lanes of which the first or the second half counts is the sum over that half. -/
theorem sum_lanes (f g : Fin 128 → EReal) (h : ℕ) (hh : h < 2) :
    (∑ x, f x * (if x.val / 64 = h then g x else 0)) = ∑ d : Fin 64, f ⟨64 * h + d, by omega⟩ * g ⟨64 * h + d, by omega⟩ := by
  rw [show (∑ x, f x * (if x.val / 64 = h then g x else 0)) =
      ∑ x : Fin (64 + 64), f x * (if x.val / 64 = h then g x else 0) from rfl, Fin.sum_univ_add]
  obtain rfl | rfl : h = 0 ∨ h = 1 := by omega
  · rw [Finset.sum_congr rfl (g := fun d : Fin 64 => f ⟨64 * 0 + d, by omega⟩ * g ⟨64 * 0 + d, by omega⟩) fun d _ => ?_,
      Finset.sum_eq_zero (s := Finset.univ) (f := fun d : Fin 64 => f (Fin.natAdd 64 d) * _) fun d _ => ?_, add_zero]
    · rw [if_neg (by show ¬ (64 + d.val) / 64 = 0; omega), mul_zero]
    · rw [if_pos (by show d.val / 64 = 0; omega)]
      have : (Fin.castAdd 64 d : Fin 128) = ⟨64 * 0 + d, by omega⟩ := Fin.ext (by show d.val = 64 * 0 + d.val; omega)
      rw [this]
  · rw [Finset.sum_eq_zero (s := Finset.univ) (f := fun d : Fin 64 => f (Fin.castAdd 64 d) * _) fun d _ => ?_, zero_add]
    · refine Finset.sum_congr rfl fun d _ => ?_
      rw [if_pos (by show (64 + d.val) / 64 = 1; omega)]
      have : (Fin.natAdd 64 d : Fin 128) = ⟨64 * 1 + d, by omega⟩ := Fin.ext (by show 64 + d.val = 64 * 1 + d.val; omega)
      rw [this]
    · rw [if_neg (by show ¬ d.val / 64 = 1; omega), mul_zero]

/-- Two sums over 256 of which the first counts in the lanes below 64 and the second in the others. -/
theorem sum_half (l : Fin 128) (f : Fin 2 → Fin 256 → EReal) :
    (∑ x, (if l.val < 64 then f 0 x else 0)) + (∑ x, (if l.val < 64 then 0 else f 1 x)) = ∑ x, f ⟨l / 64, by omega⟩ x := by
  split
  · rw [Finset.sum_const_zero, add_zero, show (⟨l.val / 64, by omega⟩ : Fin 2) = 0 from Fin.ext (by show l.val / 64 = 0; omega)]
  · rw [Finset.sum_const_zero, zero_add, show (⟨l.val / 64, by omega⟩ : Fin 2) = 1 from Fin.ext (by show l.val / 64 = 1; omega)]

/-- The product of a unit's weights with the values, over its sum with the sink's term, at row `R` of 512 and lane `l`. -/
theorem pay_att (vt : FVec Ideal S256x128 .bf16) (P : Vec Ideal S1x512x512 .bf16) (K : Vec Ideal S1x512x128 .f32) (R : Fin 512) (l : Fin 128) :
    k0_pay40 (F := Ideal) k0_pay37 (k0_pay38 vt) (k0_pay39 vt) P K (ix2 R l) =
      Ideal.div (∑ x : Fin 256, P (ix3 (0 : Fin 1) R (⟨256 * (l / 64) + x, by omega⟩ : Fin 512)) * vt (ix2 x l))
        (∑ x : Fin 256, P (ix3 (0 : Fin 1) R (⟨256 * (l / 64) + x, by omega⟩ : Fin 512)) + K (ix3 (0 : Fin 1) R l)) := by
  pointwise [k0_pay40, k0_pay37, k0_pay38, k0_pay39, k0_pay35, k0_pay36]
  simp only [select_lane]
  have e : ∀ (g : Fin 256 → EReal → EReal), (∑ x : Fin 256, (if l.val < 64 then g x (P (ix3 (0 : Fin 1) R (⟨x, by omega⟩ : Fin 512))) else 0)) +
      (∑ x : Fin 256, (if l.val < 64 then 0 else g x (P (ix3 (0 : Fin 1) R (⟨256 + x, by omega⟩ : Fin 512))))) =
      ∑ x : Fin 256, g x (P (ix3 (0 : Fin 1) R (⟨256 * (l / 64) + x, by omega⟩ : Fin 512))) := by
    intro g
    refine Eq.trans ?_ (sum_half l fun h x => g x (P (ix3 (0 : Fin 1) R (⟨256 * h + x, by omega⟩ : Fin 512))))
    simp only [Fin.val_zero, Fin.val_one, Nat.mul_zero, Nat.zero_add, Nat.mul_one]
  exact congrArg₂ Ideal.div (e fun x w => w * vt (ix2 x l)) (congrArg (· + _) (e fun x w => w))

end Cert.KernelIdeal.Att
-- ==== Proof.AttTile.lean ====
/- The tile of attention rows that the stages of a grid point leave, from the loads to the stores. -/
module

public import proofs.«01_k».proof.Proof.AttValue

@[expose] public section

set_option maxRecDepth 16384

noncomputable section

namespace Cert.KernelIdeal.Att

open Cert.KernelIdeal Cert.KernelIdeal.Gen Idealize.ShloMosaic Idealize.ShloMosaic.TcCoe Idealize.SL.Sem

/-- A load of a unit-stride rectangle of a whole matrix reads the matrix at the shifted index. -/
theorem ld2 {n m a b : ℕ} {e : EltTy} (arg : Memref sig .tc .vmem ⟨2, ![n, m]⟩ e) (harg : arg.IsWhole) (x : Vec Ideal ⟨2, ![n, m]⟩ e) (r c : ℕ)
    (hr : r + a ≤ n) (hc : c + b ≤ m) (i : Fin a) (j : Fin b) :
    View.readAt (Elt Ideal) arg.view (Rect.unit (s := ⟨2, ![n, m]⟩) ![r, c] (⟨2, ![a, b]⟩ : Shape).size (fit2 hr hc)).toLoadRect (harg.unread x) (ix2 i j) =
      x (ix2 (⟨r + i, by omega⟩ : Fin n) (⟨c + j, by omega⟩ : Fin m)) := by
  rw [View.readAt_apply, harg.read_unread]
  refine congrArg x ?_
  funext k
  fin_cases k <;> apply Fin.ext
  · show r + 1 * i.val = r + i
    omega
  · show c + 1 * j.val = c + j
    omega

variable (arg1 : Memref sig .tc .smem S8 .f32) (harg1 : arg1.IsWhole) (arg2 : Memref sig .tc .vmem S512x512 .bf16) (harg2 : arg2.IsWhole)
  (arg3 : Memref sig .tc .vmem S256x512 .bf16) (harg3 : arg3.IsWhole) (arg4 : Memref sig .tc .vmem S512x256 .bf16) (harg4 : arg4.IsWhole)
  (arg17 : Memref sig .tc .vmem S2x512x512 .f32) (arg18 : Memref sig .tc .vmem S2x512x512 .bf16) (arg19 : Memref sig .tc .vmem S2x512x128 .f32)
  (x0 : Vec Ideal S8 .f32) (x1 : Vec Ideal S512x512 .bf16) (x2 : Vec Ideal S256x512 .bf16) (x3 : Vec Ideal S512x256 .bf16)

/-- A load of a sink's logit. -/
theorem sk_eq (i : ℕ) (hi : i < 8) : sk (F := Ideal) arg1 harg1 x0 i hi = sinkLog x0 i hi := by
  unfold sk sinkLog
  rw [View.readAt_apply, harg1.read_unread]
  refine congrArg (fun z => k0_pay6 (F := Ideal) (x0 z)) ?_
  funext k
  fin_cases k
  apply Fin.ext
  show i + 1 * 0 = i
  omega

/-- The scores of a unit: sequence `sq` of two, head group `g` of two; row `R` is query head pair `R / 256` of the group, column `C` key half `C / 256`. -/
def uSc (sq g : ℕ) (hs : sq < 2) (hg : g < 2) (R C : Fin 512) : EReal :=
  score x1 x2 ⟨256 * sq + R % 256, by omega⟩ ⟨4 * g + 2 * (R / 256) + C / 256, by omega⟩ ⟨C % 256, by omega⟩

/-- The scores' payload: the products over the 64 lanes of the column's key half. -/
theorem pay_score (qa qb : Vec Ideal S256x128 .bf16) (kt : Vec Ideal S128x256 .bf16) (R C : Fin 512) :
    k0_pay4 (F := Ideal) qa qb kt (ix3 (0 : Fin 1) R C) =
      ∑ d : Fin 64, (if h : R.val < 256 then qa (ix2 ⟨R, h⟩ (⟨64 * (C / 256) + d, by omega⟩ : Fin 128))
        else qb (ix2 (⟨R - 256, by omega⟩ : Fin 256) (⟨64 * (C / 256) + d, by omega⟩ : Fin 128))) *
        kt (ix2 (⟨64 * (C / 256) + d, by omega⟩ : Fin 128) (⟨C % 256, by omega⟩ : Fin 256)) := by
  pointwise [k0_pay4]
  simp only [select_lane]
  refine Eq.trans (Finset.sum_congr rfl fun x _ => ?_)
    (sum_lanes (fun x => if h : R.val < 256 then qa (ix2 ⟨R, h⟩ x) else qb (ix2 (⟨R - 256, by omega⟩ : Fin 256) x))
      (fun x => kt (ix2 x (⟨C % 256, by omega⟩ : Fin 256))) (C / 256) (by omega))
  refine congrArg (_ * ·) ?_
  split
  · have e : C.val / 256 = 0 := by omega
    have e' : (⟨C.val, by omega⟩ : Fin 256) = ⟨C % 256, by omega⟩ := Fin.ext (by show C.val = C.val % 256; omega)
    rw [e, e']
    exact if_congr (by omega) rfl rfl
  · have e : C.val / 256 = 1 := by omega
    have e' : (⟨C.val - 256, by omega⟩ : Fin 256) = ⟨C % 256, by omega⟩ := Fin.ext (by show C.val - 256 = C.val % 256; omega)
    rw [e, e', ← ite_not]
    exact if_congr (by omega) rfl rfl

/-- The scores that a unit stores. -/
theorem sc_apply (sq g : ℕ) (hs : sq < 2) (hg : g < 2) (r c k : ℕ) (h1 : r = 256 * sq) (h2 : c = 256 * g) (h3 : k = 128 * g)
    (hr : r + 256 ≤ 512) (hc : c + 256 ≤ 512) (hk : k + 128 ≤ 256) (R C : Fin 512) :
    sc (F := Ideal) arg2 harg2 arg3 harg3 x1 x2 r c k hr hc hk (ix3 (0 : Fin 1) R C) = uSc x1 x2 sq g hs hg R C := by
  unfold sc
  rw [pay_score]
  unfold uSc score qLd kLd
  refine Finset.sum_congr rfl fun d _ => congrArg₂ (· * ·) ?_ ?_
  · split
    · refine (ld2 arg2 harg2 x1 r c hr (by omega) ⟨R, by assumption⟩ ⟨64 * (C / 256) + d, by omega⟩).trans (at2 x1 ?_ ?_)
      · show r + R.val = 256 * sq + R.val % 256
        omega
      · show c + (64 * (C.val / 256) + d.val) = 64 * (4 * g + 2 * (R.val / 256) + C.val / 256) + d.val
        omega
    · refine (ld2 arg2 harg2 x1 r (c + 128) hr (by omega) ⟨R - 256, by omega⟩ ⟨64 * (C / 256) + d, by omega⟩).trans (at2 x1 ?_ ?_)
      · show r + (R.val - 256) = 256 * sq + R.val % 256
        omega
      · show c + 128 + (64 * (C.val / 256) + d.val) = 64 * (4 * g + 2 * (R.val / 256) + C.val / 256) + d.val
        omega
  · refine (ld2 arg3 harg3 x2 k r hk hr ⟨64 * (C / 256) + d, by omega⟩ ⟨C % 256, by omega⟩).trans (at2 x2 ?_ ?_)
    · show k + (64 * (C.val / 256) + d.val) =
        64 * (2 * ((4 * g + 2 * (R.val / 256) + C.val / 256) / 4) + (4 * g + 2 * (R.val / 256) + C.val / 256) % 2) + d.val
      omega
    · show r + C.val % 256 = 256 * ((256 * sq + R.val % 256) / 256) + C.val % 256
      omega

/-- The same half by another name. -/
theorem half_congr (SC : Fin 512 → Fin 512 → EReal) (r : Fin 512) {h h' : ℕ} (e : h = h') (hh : h < 2) (hh' : h' < 2) : half SC r h hh = half SC r h' hh' := by
  subst e
  rfl

/-- The logits of a unit's sinks. -/
def uSk (g : ℕ) (hg : g < 2) (p e : Fin 2) : EReal := sinkLog x0 (4 * g + 2 * p + e) (by omega)

/-- The rows that a unit stores: at row `r` of head pair `p` and lane `l`, the attention of its head. -/
theorem att_apply (sq g : ℕ) (hs : sq < 2) (hg : g < 2) (P : List (View.Piece (Elt Ideal) S2x512x512 .bf16)) (K : List (View.Piece (Elt Ideal) S2x512x128 .f32))
    (b : ℕ) (hb : b < 2)
    (hP : ∀ r c : Fin 512, View.canon P (ix3 (⟨b, hb⟩ : Fin 2) r c) = unitW (uSk x0 g hg) (uSc x1 x2 sq g hs hg) r c)
    (hK : ∀ (r : Fin 512) (c : Fin 128), View.canon K (ix3 (⟨b, hb⟩ : Fin 2) r c) = unitSk (uSk x0 g hg) (uSc x1 x2 sq g hs hg) r c)
    (r c : ℕ) (h1 : r = 256 * sq) (h2 : c = 128 * g) (hr : r + 256 ≤ 512) (hc : c + 128 ≤ 256) (R : Fin 512) (l : Fin 128) :
    att (F := Ideal) arg18 arg19 P K b hb (vLd arg4 harg4 x3 r c hr hc) (ix2 R l) =
      attTile x0 x1 x2 x3 ⟨256 * sq + R % 256, by omega⟩ ⟨256 * g + 128 * (R / 256) + l, by omega⟩ := by
  unfold att
  rw [pay_att]
  have eP : ∀ R C : Fin 512, arg18.view.readCov P (bufRect b hb).toLoadRect (ix3 (0 : Fin 1) R C) = unitW (uSk x0 g hg) (uSc x1 x2 sq g hs hg) R C := by
    intro R C
    rw [View.readCov_eq_canon']
    refine (congrArg (View.canon P) ?_).trans (hP R C)
    funext a
    fin_cases a <;> apply Fin.ext
    · show b + 1 * 0 = b
      omega
    · show 0 + 1 * R.val = R.val
      omega
    · show 0 + 1 * C.val = C.val
      omega
  have eK : ∀ (R : Fin 512) (C : Fin 128), arg19.view.readCov K (skRect b hb).toLoadRect (ix3 (0 : Fin 1) R C) = unitSk (uSk x0 g hg) (uSc x1 x2 sq g hs hg) R C := by
    intro R C
    rw [View.readCov_eq_canon']
    refine (congrArg (View.canon K) ?_).trans (hK R C)
    funext a
    fin_cases a <;> apply Fin.ext
    · show b + 1 * 0 = b
      omega
    · show 0 + 1 * R.val = R.val
      omega
    · show 0 + 1 * C.val = C.val
      omega
  simp only [eP, eK]
  unfold attTile kHead unitW unitSk
  have hlt : ∀ x : Fin 256, (256 * (l.val / 64) + x.val) / 256 = l.val / 64 := fun x => by omega
  have hd : (256 * g + 128 * (R.val / 256) + l.val) / 64 = 4 * g + 2 * (R.val / 256) + l.val / 64 := by omega
  have hS : ∀ x : Fin 256, uSc x1 x2 sq g hs hg R ⟨256 * (l.val / 64) + x.val, by omega⟩ =
      score x1 x2 ⟨256 * sq + R % 256, by omega⟩ ⟨(256 * g + 128 * (R.val / 256) + l.val) / 64, by omega⟩ x := by
    intro x
    unfold uSc
    have e1 : (⟨4 * g + 2 * (R.val / 256) + (256 * (l.val / 64) + x.val) / 256, by omega⟩ : Fin 8) =
      ⟨(256 * g + 128 * (R.val / 256) + l.val) / 64, by omega⟩ := Fin.ext ((congrArg (4 * g + 2 * (R.val / 256) + ·) (hlt x)).trans hd.symm)
    have e2 : (⟨(256 * (l.val / 64) + x.val) % 256, by omega⟩ : Fin 256) = x := Fin.ext (by show (256 * (l.val / 64) + x.val) % 256 = x.val; omega)
    exact congrArg₂ (score x1 x2 _) e1 e2
  have hH : half (uSc x1 x2 sq g hs hg) R (l.val / 64) (by omega) =
      score x1 x2 ⟨256 * sq + R % 256, by omega⟩ ⟨(256 * g + 128 * (R.val / 256) + l.val) / 64, by omega⟩ := funext hS
  have hU : uSk x0 g hg ⟨R.val / 256, by omega⟩ ⟨l.val / 64, by omega⟩ = sinkLog x0 ((256 * g + 128 * (R.val / 256) + l.val) / 64) (by omega) := by
    unfold uSk
    simp only [hd]
  have hv : ∀ x : Fin 256, vLd (F := Ideal) arg4 harg4 x3 r c hr hc (ix2 x l) =
      x3 (ix2 (⟨256 * ((256 * sq + R.val % 256) / 256) + x, by omega⟩ : Fin 512) (⟨128 * ((256 * g + 128 * (R.val / 256) + l.val) / 256) + (256 * g + 128 * (R.val / 256) + l.val) % 128, by omega⟩ : Fin 256)) := by
    intro x
    refine (ld2 arg4 harg4 x3 r c hr hc x l).trans (at2 x3 ?_ ?_)
    · show r + x.val = 256 * ((256 * sq + R.val % 256) / 256) + x.val
      omega
    · show c + l.val = 128 * ((256 * g + 128 * (R.val / 256) + l.val) / 256) + (256 * g + 128 * (R.val / 256) + l.val) % 128
      omega
  have hH' : ∀ x : Fin 256, half (uSc x1 x2 sq g hs hg) R ((256 * (l.val / 64) + x.val) / 256) (by have := x.isLt; have := l.isLt; omega) =
      score x1 x2 ⟨256 * sq + R % 256, by omega⟩ ⟨(256 * g + 128 * (R.val / 256) + l.val) / 64, by omega⟩ :=
    fun x => (half_congr _ _ (hlt x) (by omega) (by omega)).trans hH
  simp only [hlt, hH, hH', hU, hS, hv]

/-- What the score buffers hold when a unit reads them: the unit's scores, the other unit's being in the other buffer. -/
theorem S2_zero (R C : Fin 512) : View.canon (S2 (F := Ideal) arg2 harg2 arg3 harg3 x1 x2) (ix3 (⟨0, by omega⟩ : Fin 2) R C) = uSc x1 x2 0 0 (by omega) (by omega) R C := by
  unfold S2
  rw [canon_skip (n := 512) 1 0 (by omega) (by omega) _ rfl rfl, canon_buf]
  exact sc_apply arg2 harg2 arg3 harg3 x1 x2 0 0 _ _ _ _ _ rfl rfl rfl _ _ _ R C
@[inherit_doc S2_zero] theorem S3_one (R C : Fin 512) :
    View.canon (S3 (F := Ideal) arg2 harg2 arg3 harg3 x1 x2) (ix3 (⟨1, by omega⟩ : Fin 2) R C) = uSc x1 x2 0 1 (by omega) (by omega) R C := by
  unfold S3 S2
  rw [canon_skip (n := 512) 0 1 (by omega) (by omega) _ rfl rfl, canon_buf]
  exact sc_apply arg2 harg2 arg3 harg3 x1 x2 0 1 _ _ _ _ _ rfl rfl rfl _ _ _ R C
@[inherit_doc S2_zero] theorem S4_zero (R C : Fin 512) :
    View.canon (S4 (F := Ideal) arg2 harg2 arg3 harg3 x1 x2) (ix3 (⟨0, by omega⟩ : Fin 2) R C) = uSc x1 x2 1 0 (by omega) (by omega) R C := by
  unfold S4 S3
  rw [canon_skip (n := 512) 1 0 (by omega) (by omega) _ rfl rfl, canon_buf]
  exact sc_apply arg2 harg2 arg3 harg3 x1 x2 1 0 _ _ _ _ _ rfl rfl rfl _ _ _ R C
@[inherit_doc S2_zero] theorem S4_one (R C : Fin 512) :
    View.canon (S4 (F := Ideal) arg2 harg2 arg3 harg3 x1 x2) (ix3 (⟨1, by omega⟩ : Fin 2) R C) = uSc x1 x2 1 1 (by omega) (by omega) R C := by
  unfold S4
  rw [canon_buf]
  exact sc_apply arg2 harg2 arg3 harg3 x1 x2 1 1 _ _ _ _ _ rfl rfl rfl _ _ _ R C

/-- The tile of attention rows, by the index of the buffer. -/
def attTileG : S512x512.Idx → Elt Ideal .bf16 := fun y => attTile x0 x1 x2 x3 (y 0) (y 1)

/-- The two stores of a unit's rows are blocks of the tile. -/
theorem attStores_of (sq g : ℕ) (hs : sq < 2) (hg : g < 2) (o : FVec Ideal S512x128 .f32)
    (ho : ∀ (R : Fin 512) (l : Fin 128), o (ix2 R l) = attTile x0 x1 x2 x3 ⟨256 * sq + R % 256, by omega⟩ ⟨256 * g + 128 * (R / 256) + l, by omega⟩)
    (r c : ℕ) (h1 : r = 256 * sq) (h2 : c = 256 * g) (hr : r + 256 ≤ 512) (hc : c + 256 ≤ 512) (L' : List (View.Piece (Elt Ideal) S512x512 .bf16))
    (hL : View.PiecesOf (attTileG x0 x1 x2 x3) L') : View.PiecesOf (attTileG x0 x1 x2 x3) (attStores (F := Ideal) o r c hr hc L') := by
  refine ⟨fun x => ?_, fun x => ?_, hL⟩
  · obtain ⟨i, l, rfl⟩ : ∃ (i : Fin 256) (l : Fin 128), x = ix2 i l := ⟨_, _, eq_ix2 (n0 := 256) (n1 := 128) x⟩
    have e : shapeCast S256x128 (truncf .bf16 (extractStridedSlice S256x128 ![256, 0] o slices_S512x128_o256_0_S256x128) bitsLt_bf16_f32) shapeCasts_S256x128_S256x128 (ix2 i l) =
        o (ix2 (⟨256 + i, by omega⟩ : Fin 512) l) := by
      pointwise []
    refine e.trans ((ho _ l).trans (congrArg₂ (attTile x0 x1 x2 x3) (Fin.ext ?_) (Fin.ext ?_)))
    · show 256 * sq + (256 + i.val) % 256 = r + 1 * i.val
      omega
    · show 256 * g + 128 * ((256 + i.val) / 256) + l.val = c + 128 + 1 * l.val
      omega
  · obtain ⟨i, l, rfl⟩ : ∃ (i : Fin 256) (l : Fin 128), x = ix2 i l := ⟨_, _, eq_ix2 (n0 := 256) (n1 := 128) x⟩
    have e : shapeCast S256x128 (truncf .bf16 (extractStridedSlice S256x128 ![0, 0] o slices_S512x128_o0_0_S256x128) bitsLt_bf16_f32) shapeCasts_S256x128_S256x128 (ix2 i l) =
        o (ix2 (⟨i, by omega⟩ : Fin 512) l) := by
      pointwise []
    refine e.trans ((ho _ l).trans (congrArg₂ (attTile x0 x1 x2 x3) (Fin.ext ?_) (Fin.ext ?_)))
    · show 256 * sq + i.val % 256 = r + 1 * i.val
      omega
    · show 256 * g + 128 * (i.val / 256) + l.val = c + 1 * l.val
      omega

/-- One of a unit's two stores covers an index in its rows and columns. -/
theorem attStores_mem (o : FVec Ideal S512x128 .f32) (r c : ℕ) (hr : r + 256 ≤ 512) (hc : c + 256 ≤ 512) (L' : List (View.Piece (Elt Ideal) S512x512 .bf16))
    (R C : Fin 512) (h : (r ≤ R.val ∧ R.val < r + 256 ∧ c ≤ C.val ∧ C.val < c + 256) ∨ ∃ p ∈ L', (ix2 R C : S512x512.Idx) ∈ p.1.set) :
    ∃ p ∈ attStores (F := Ideal) o r c hr hc L', (ix2 R C : S512x512.Idx) ∈ p.1.set := by
  unfold attStores
  simp only [List.mem_cons, exists_eq_or_imp]
  obtain ⟨h1, h2, h3, h4⟩ | h := h
  · by_cases h5 : C.val < c + 128
    · refine .inr (.inl ((Rect.mem_set_unit (inb := fit2 hr (by omega))).mpr fun a => ?_))
      fin_cases a
      · exact ⟨h1, h2⟩
      · exact ⟨h3, h5⟩
    · refine .inl ((Rect.mem_set_unit (inb := fit2 hr (by omega))).mpr fun a => ?_)
      fin_cases a
      · exact ⟨h1, h2⟩
      · exact ⟨by show c + 128 ≤ C.val; omega, by show C.val < c + 128 + 128; omega⟩
  · exact .inr (.inr h)

/-- The stores of a grid point's attention stages leave the tile of attention rows. -/
theorem attPieces_apply (R C : Fin 512) :
    View.canon (attPieces (F := Ideal) arg1 harg1 arg2 harg2 arg3 harg3 arg4 harg4 arg17 arg18 arg19 x0 x1 x2 x3) (ix2 R C) = attTile x0 x1 x2 x3 R C := by
  refine (congrArg (fun L => View.canon L (ix2 R C)) (List.append_nil _).symm).trans (View.canon_append_of_piecesOf (attTileG x0 x1 x2 x3) [] (attPieces (F := Ideal) arg1 harg1 arg2 harg2 arg3 harg3 arg4 harg4 arg17 arg18 arg19 x0 x1 x2 x3) ?_ (ix2 R C) ?_)
  · unfold attPieces
    have hs : ∀ (g : ℕ) (hg : g < 2) (p e : Fin 2) (n : ℕ) (hn : n < 8) (h : n = 4 * g + 2 * p + e), sk (F := Ideal) arg1 harg1 x0 n hn = uSk x0 g hg p e := by
      intro g hg p e n hn h
      subst h
      exact sk_eq arg1 harg1 x0 _ _
    refine attStores_of x0 x1 x2 x3 1 1 (by omega) (by omega) _ (att_apply arg4 harg4 arg18 arg19 x0 x1 x2 x3 1 1 (by omega) (by omega) _ _ _ _ (fun r c => ?_) (fun r c => ?_) _ _ rfl rfl _ _) _ _ rfl rfl _ _ _ <|
      attStores_of x0 x1 x2 x3 1 0 (by omega) (by omega) _ (att_apply arg4 harg4 arg18 arg19 x0 x1 x2 x3 1 0 (by omega) (by omega) _ _ _ _ (fun r c => ?_) (fun r c => ?_) _ _ rfl rfl _ _) _ _ rfl rfl _ _ _ <|
      attStores_of x0 x1 x2 x3 0 1 (by omega) (by omega) _ (att_apply arg4 harg4 arg18 arg19 x0 x1 x2 x3 0 1 (by omega) (by omega) _ _ _ _ (fun r c => ?_) (fun r c => ?_) _ _ rfl rfl _ _) _ _ rfl rfl _ _ _ <|
      attStores_of x0 x1 x2 x3 0 0 (by omega) (by omega) _ (att_apply arg4 harg4 arg18 arg19 x0 x1 x2 x3 0 0 (by omega) (by omega) _ _ _ _ (fun r c => ?_) (fun r c => ?_) _ _ rfl rfl _ _) _ _ rfl rfl _ _ _ trivial
    · unfold P4
      rw [hs 1 (by omega) 0 0 4 _ rfl, hs 1 (by omega) 0 1 5 _ rfl, hs 1 (by omega) 1 0 6 _ rfl, hs 1 (by omega) 1 1 7 _ rfl]
      exact pBuf_apply _ _ _ _ _ (S4_one arg2 harg2 arg3 harg3 x1 x2) _ _ r c
    · unfold K4
      rw [hs 1 (by omega) 0 0 4 _ rfl, hs 1 (by omega) 0 1 5 _ rfl, hs 1 (by omega) 1 0 6 _ rfl, hs 1 (by omega) 1 1 7 _ rfl]
      exact skBuf_apply _ _ _ _ _ (S4_one arg2 harg2 arg3 harg3 x1 x2) _ _ r c
    · unfold P3
      rw [hs 0 (by omega) 0 0 0 _ rfl, hs 0 (by omega) 0 1 1 _ rfl, hs 0 (by omega) 1 0 2 _ rfl, hs 0 (by omega) 1 1 3 _ rfl]
      exact pBuf_apply _ _ _ _ _ (S4_zero arg2 harg2 arg3 harg3 x1 x2) _ _ r c
    · unfold K3
      rw [hs 0 (by omega) 0 0 0 _ rfl, hs 0 (by omega) 0 1 1 _ rfl, hs 0 (by omega) 1 0 2 _ rfl, hs 0 (by omega) 1 1 3 _ rfl]
      exact skBuf_apply _ _ _ _ _ (S4_zero arg2 harg2 arg3 harg3 x1 x2) _ _ r c
    · unfold P2
      rw [hs 1 (by omega) 0 0 4 _ rfl, hs 1 (by omega) 0 1 5 _ rfl, hs 1 (by omega) 1 0 6 _ rfl, hs 1 (by omega) 1 1 7 _ rfl]
      exact pBuf_apply _ _ _ _ _ (S3_one arg2 harg2 arg3 harg3 x1 x2) _ _ r c
    · unfold K2
      rw [hs 1 (by omega) 0 0 4 _ rfl, hs 1 (by omega) 0 1 5 _ rfl, hs 1 (by omega) 1 0 6 _ rfl, hs 1 (by omega) 1 1 7 _ rfl]
      exact skBuf_apply _ _ _ _ _ (S3_one arg2 harg2 arg3 harg3 x1 x2) _ _ r c
    · unfold P1
      rw [hs 0 (by omega) 0 0 0 _ rfl, hs 0 (by omega) 0 1 1 _ rfl, hs 0 (by omega) 1 0 2 _ rfl, hs 0 (by omega) 1 1 3 _ rfl]
      exact pBuf_apply _ _ _ _ _ (S2_zero arg2 harg2 arg3 harg3 x1 x2) _ _ r c
    · unfold K1
      rw [hs 0 (by omega) 0 0 0 _ rfl, hs 0 (by omega) 0 1 1 _ rfl, hs 0 (by omega) 1 0 2 _ rfl, hs 0 (by omega) 1 1 3 _ rfl]
      exact skBuf_apply _ _ _ _ _ (S2_zero arg2 harg2 arg3 harg3 x1 x2) _ _ r c
  · unfold attPieces
    refine attStores_mem _ _ _ _ _ _ R C (or_iff_not_imp_left.mpr fun h1 => ?_)
    refine attStores_mem _ _ _ _ _ _ R C (or_iff_not_imp_left.mpr fun h2 => ?_)
    refine attStores_mem _ _ _ _ _ _ R C (or_iff_not_imp_left.mpr fun h3 => ?_)
    exact attStores_mem _ _ _ _ _ _ R C (.inl (by omega))

end Cert.KernelIdeal.Att
-- ==== Proof.TailTile.lean ====
/- The output tile of a grid point's tail, row by row. -/
module

public import proofs.«01_k».proof.Proof.TailPieces
public import proofs.«01_k».proof.Proof.TailSpec
public import proofs.«01_k».proof.Proof.AttTile

@[expose] public section

set_option maxRecDepth 16384

noncomputable section

namespace Cert.KernelIdeal.Tail

open Cert.KernelIdeal Cert.KernelIdeal.Gen Cert.KernelIdeal.Att Idealize.ShloMosaic Idealize.ShloMosaic.TcCoe Idealize.SL.Sem

/-- The residual's payload at an index. -/
theorem pay_x1 (v11 : Vec Ideal S1x1024 .f32) (v15 : Vec Ideal S256x512 .bf16) (v16 : Vec Ideal S512x1024 .bf16) (v18 : Vec Ideal S256x512 .bf16)
    (v19 : Vec Ideal S512x1024 .bf16) (v21 : Vec Ideal S256x1024 .bf16) (v24 : Vec Ideal S256x1024 .bf16) (v28 : Vec Ideal S256x1024 .f32)
    (v30 : Vec Ideal S1024x1024 .bf16) (r : Fin 256) (n : Fin 1024) :
    k0_pay154 (F := Ideal) v11 v15 v16 v18 v19 v21 v24 v28 v30 (ix2 r n) =
      v28 (ix2 r n) + v11 (ix2 (0 : Fin 1) n) * ∑ k : Fin 1024, (v21 (ix2 r k) * (∑ j : Fin 512, v15 (ix2 r j) * v16 (ix2 j k)) +
        v24 (ix2 r k) * ∑ j : Fin 512, v18 (ix2 r j) * v19 (ix2 j k)) * v30 (ix2 k n) := by
  pointwise [k0_pay154]

/-- The mean of squares at a row. -/
theorem msq_apply (v : FVec Ideal S256x1024 .f32) (r : Fin 256) :
    msq (F := Ideal) v (ix2 r (0 : Fin 1)) = Ideal.div (∑ k : Fin 1024, v (ix2 r k) * v (ix2 r k)) (Ideal.ofBits .f32 1149239296#32) := by
  pointwise [msq]

/-- The normalization's payload at an index. -/
theorem pay_norm (v12 v13 : Vec Ideal S1x1024 .f32) (v34 : FVec Ideal S256x1024 .f32) (v39 : FVec Ideal S256x1 .f32) (v45 : Vec Ideal S1x1024 .f32)
    (r : Fin 256) (n : Fin 1024) :
    k0_pay157 (F := Ideal) v12 v13 v34 v39 k0_pay156 v45 (ix2 r n) =
      v34 (ix2 r n) * Ideal.rsqrt (v39 (ix2 r (0 : Fin 1)) + Ideal.ofBits .f32 897988541#32) * v45 (ix2 (0 : Fin 1) n) * (1 + v13 (ix2 (0 : Fin 1) n)) +
        v12 (ix2 (0 : Fin 1) n) := by
  pointwise [k0_pay157, k0_pay156]

/-- An activation's payload at an index. -/
theorem pay_act (v96 : FVec Ideal S512x1024 .bf16) (v161 v163 : Vec Ideal S1024x256 .bf16) (r : Fin 512) (n : Fin 256) :
    k0_pay168 (F := Ideal) v96 v161 v163 (ix2 r n) =
      (∑ k : Fin 1024, v96 (ix2 r k) * v161 (ix2 k n)) * Ideal.div 1 (1 + Ideal.exp (0 - ∑ k : Fin 1024, v96 (ix2 r k) * v161 (ix2 k n))) *
        ∑ k : Fin 1024, v96 (ix2 r k) * v163 (ix2 k n) := by
  pointwise [k0_pay168]

/-- The output's payload at an index. -/
theorem pay_out (v14 : Vec Ideal S1x1024 .f32) (v95 : FVec Ideal S512x1024 .f32) (a : Vec Ideal S512x2816 .bf16) (wd : Vec Ideal S2816x1024 .bf16)
    (r : Fin 512) (n : Fin 1024) :
    k0_pay330 (F := Ideal) v14 v95 a wd (ix2 r n) = v95 (ix2 r n) + v14 (ix2 (0 : Fin 1) n) * ∑ c : Fin 2816, a (ix2 r c) * wd (ix2 c n) := by
  pointwise [k0_pay330]

/-- A tail's load at an index. -/
theorem ld_apply {n m : ℕ} {e : EltTy} (a b : ℕ) (arg : Memref sig .tc .vmem ⟨2, ![n, m]⟩ e) (harg : arg.IsWhole) (x : Vec Ideal ⟨2, ![n, m]⟩ e) (r c : ℕ)
    (hr : r + a ≤ n) (hc : c + b ≤ m) (i : Fin a) (j : Fin b) :
    ld (F := Ideal) a b arg harg x r c hr hc (ix2 i j) = x (ix2 (⟨r + i, by omega⟩ : Fin n) (⟨c + j, by omega⟩ : Fin m)) :=
  ld2 arg harg x r c hr hc i j

/-- Two halves of 256 rows, one above the other: a row of the lower half. -/
theorem cat_apply {e : EltTy} (f : Fin 512 → Fin 1024 → Elt Ideal e) (a b : Vec Ideal S256x1024 e) (ha : ∀ (i : Fin 256) (n : Fin 1024), a (ix2 i n) = f ⟨i, by omega⟩ n)
    (hb : ∀ (i : Fin 256) (n : Fin 1024), b (ix2 i n) = f ⟨256 + i, by omega⟩ n) (r : Fin 512) (n : Fin 1024) :
    concatenate S512x1024 0 [⟨S256x1024, a⟩, ⟨S256x1024, b⟩] concatenates_S256x1024_S256x1024_S512x1024_d0 (ix2 r n) = f r n := by
  pointwise []
  split
  · exact ha _ n
  · refine (hb _ n).trans (congrArg (f · n) (Fin.ext ?_))
    show 256 + (r.val - 256) = r.val
    omega

variable (arg5 : Memref sig .tc .vmem S512x1024 .f32) (harg5 : arg5.IsWhole) (arg6 : Memref sig .tc .vmem S8x6144 .f32)
  (harg6 : arg6.IsWhole) (arg7 : Memref sig .tc .vmem S512x512 .bf16) (harg7 : arg7.IsWhole)
  (arg8 : Memref sig .tc .vmem S512x2048 .bf16) (harg8 : arg8.IsWhole) (arg9 : Memref sig .tc .vmem S1x1024 .f32) (harg9 : arg9.IsWhole)
  (arg10 : Memref sig .tc .vmem S512x1024 .bf16) (harg10 : arg10.IsWhole)
  (arg11 : Memref sig .tc .vmem S512x1024 .bf16) (harg11 : arg11.IsWhole) (arg12 : Memref sig .tc .vmem S1024x1024 .bf16)
  (harg12 : arg12.IsWhole) (arg13 : Memref sig .tc .vmem S1024x5632 .bf16) (harg13 : arg13.IsWhole)
  (arg14 : Memref sig .tc .vmem S2816x1024 .bf16) (harg14 : arg14.IsWhole) (arg16 : Memref sig .tc .vmem S512x512 .bf16) (harg16 : arg16.IsWhole)
  (arg20 : Memref sig .tc .vmem S512x2816 .bf16)
  (x4 : Vec Ideal S512x1024 .f32) (x5 : Vec Ideal S8x6144 .f32) (x6 : Vec Ideal S512x512 .bf16)
  (x7 : Vec Ideal S512x2048 .bf16) (x8 : Vec Ideal S1x1024 .f32) (x9 : Vec Ideal S512x1024 .bf16) (x10 : Vec Ideal S512x1024 .bf16)
  (x11 : Vec Ideal S1024x1024 .bf16) (x12 : Vec Ideal S1024x5632 .bf16) (x13 : Vec Ideal S2816x1024 .bf16) (xs0 : Vec Ideal S512x512 .bf16)

/-- What the rows of a tile share: the first row of the modulation block, the gain and the weights. -/
def par : Row.Par where
  md n := x5 (ix2 (0 : Fin 8) n)
  g2 n := x8 (ix2 (0 : Fin 1) n)
  wf k n := x9 (ix2 k n)
  wao k n := x10 (ix2 k n)
  wout k n := x11 (ix2 k n)
  wup k n := x12 (ix2 k n)
  wdn k n := x13 (ix2 k n)

/-- Row `r` of a tile. -/
def row (r : Fin 512) : Row.Row where
  x n := x4 (ix2 r n)
  mx n := x6 (ix2 r n)
  a n := xs0 (ix2 r n)
  gt n := x7 (ix2 r n)

/-- The residual of half a tile is the rows'. -/
theorem x1h_apply (r : ℕ) (hr : r + 256 ≤ 512) (i : Fin 256) (n : Fin 1024) :
    x1h (F := Ideal) arg5 harg5 arg6 harg6 arg7 harg7 arg8 harg8 arg10 harg10 arg11 harg11 arg12 harg12 arg16 harg16 x4 x5 x6 x7 x9 x10 x11 xs0 r hr (ix2 i n) =
      Row.x1 (par x5 x8 x9 x10 x11 x12 x13) (row x4 x6 x7 xs0 ⟨r + i, by omega⟩) n := by
  unfold x1h
  rw [pay_x1]
  simp only [ld_apply, Nat.zero_add, Row.x1, par, row]
  rfl

/-- The normalized rows of half a tile. -/
theorem hbh_apply (r : ℕ) (hr : r + 256 ≤ 512) (i : Fin 256) (n : Fin 1024) :
    hbh (F := Ideal) arg5 harg5 arg6 harg6 arg7 harg7 arg8 harg8 arg9 harg9 arg10 harg10 arg11 harg11 arg12 harg12 arg16 harg16 x4 x5 x6 x7 x8 x9 x10 x11 xs0 r hr (ix2 i n) =
      Row.norm (par x5 x8 x9 x10 x11 x12 x13) (Row.x1 (par x5 x8 x9 x10 x11 x12 x13) (row x4 x6 x7 xs0 ⟨r + i, by omega⟩)) n := by
  unfold hbh
  rw [pay_norm, msq_apply]
  simp only [x1h_apply (x8 := x8) (x12 := x12) (x13 := x13)]
  unfold Row.norm
  simp only [ld_apply, Nat.zero_add]
  rfl

/-- The normalized rows of the tile. -/
theorem hbt_apply (r : Fin 512) (n : Fin 1024) :
    hbt (F := Ideal) arg5 harg5 arg6 harg6 arg7 harg7 arg8 harg8 arg9 harg9 arg10 harg10 arg11 harg11 arg12 harg12 arg16 harg16 x4 x5 x6 x7 x8 x9 x10 x11 xs0 (ix2 r n) =
      Row.norm (par x5 x8 x9 x10 x11 x12 x13) (Row.x1 (par x5 x8 x9 x10 x11 x12 x13) (row x4 x6 x7 xs0 r)) n := by
  unfold hbt
  refine cat_apply (e := .bf16) (fun r n => Row.norm (par x5 x8 x9 x10 x11 x12 x13) (Row.x1 (par x5 x8 x9 x10 x11 x12 x13) (row x4 x6 x7 xs0 r)) n) _ _ (fun i n => ?_) (fun i n => ?_) r n
  · refine (hbh_apply (x12 := x12) (x13 := x13) ..).trans ?_
    simp only [Nat.zero_add]
  · exact hbh_apply (x12 := x12) (x13 := x13) ..

/-- The residual of the tile. -/
theorem x1t_apply (r : Fin 512) (n : Fin 1024) :
    x1t (F := Ideal) arg5 harg5 arg6 harg6 arg7 harg7 arg8 harg8 arg10 harg10 arg11 harg11 arg12 harg12 arg16 harg16 x4 x5 x6 x7 x9 x10 x11 xs0 (ix2 r n) =
      Row.x1 (par x5 x8 x9 x10 x11 x12 x13) (row x4 x6 x7 xs0 r) n := by
  unfold x1t k0_pay160
  refine cat_apply (e := .f32) (fun r n => Row.x1 (par x5 x8 x9 x10 x11 x12 x13) (row x4 x6 x7 xs0 r) n) _ _ (fun i n => ?_) (fun i n => ?_) r n
  · refine (x1h_apply (x8 := x8) (x12 := x12) (x13 := x13) ..).trans ?_
    simp only [Nat.zero_add]
  · exact x1h_apply (x8 := x8) (x12 := x12) (x13 := x13) ..

/-- The activations by the index of their buffer, from the normalized rows `h`. -/
def actG (h : Fin 512 → Fin 1024 → EReal) : S512x2816.Idx → Elt Ideal .bf16 := fun y => Row.act (par x5 x8 x9 x10 x11 x12 x13) (h (y 0)) (y 1)

/-- A store of activations is a block of them. -/
theorem actPiece_of (h : Fin 512 → Fin 1024 → EReal) (hb : FVec Ideal S512x1024 .bf16) (hh : ∀ (r : Fin 512) (n : Fin 1024), hb (ix2 r n) = h r n) (k : ℕ) (hk : k < 11)
    (L' : List (View.Piece (Elt Ideal) S512x2816 .bf16)) (hL : View.PiecesOf (actG x5 x8 x9 x10 x11 x12 x13 h) L') :
    View.PiecesOf (actG x5 x8 x9 x10 x11 x12 x13 h) (actPiece (F := Ideal) arg13 harg13 x12 hb k hk :: L') := by
  refine ⟨fun x => ?_, hL⟩
  obtain ⟨r, c, rfl⟩ : ∃ (r : Fin 512) (c : Fin 256), x = ix2 r c := ⟨_, _, eq_ix2 (n0 := 512) (n1 := 256) x⟩
  have hi : (actRect k hk).emb (ix2 r c) = (ix2 r (⟨256 * k + c, by omega⟩ : Fin 2816) : S512x2816.Idx) := by
    funext a
    fin_cases a <;> apply Fin.ext
    · show 0 + 1 * r.val = r.val
      omega
    · show 256 * k + 1 * c.val = 256 * k + c.val
      omega
  show k0_pay168 (F := Ideal) hb _ _ (ix2 r c) = actG x5 x8 x9 x10 x11 x12 x13 h ((actRect k hk).emb (ix2 r c))
  rw [hi, pay_act]
  simp only [ld_apply, Nat.zero_add, hh, Nat.add_assoc]
  rfl

/-- The activation buffer after the eleven stores. -/
theorem actPieces_apply (h : Fin 512 → Fin 1024 → EReal) (hb : FVec Ideal S512x1024 .bf16) (hh : ∀ (r : Fin 512) (n : Fin 1024), hb (ix2 r n) = h r n) (r : Fin 512) (c : Fin 2816) :
    View.canon (actPieces (F := Ideal) arg13 harg13 x12 hb) (ix2 r c) = Row.act (par x5 x8 x9 x10 x11 x12 x13) (h r) c := by
  refine (congrArg (fun L => View.canon L (ix2 r c)) (List.append_nil _).symm).trans
    (View.canon_append_of_piecesOf (actG x5 x8 x9 x10 x11 x12 x13 h) [] (actPieces (F := Ideal) arg13 harg13 x12 hb) ?_ (ix2 r c) ?_)
  · unfold actPieces
    iterate 11 refine actPiece_of (hh := hh) (hL := ?_) ..
    trivial
  · have hm : ∀ (k : ℕ) (hk : k < 11), c.val / 256 = k → (ix2 r c : S512x2816.Idx) ∈ (actPiece (F := Ideal) arg13 harg13 x12 hb k hk).1.set := by
      intro k hk hc
      refine (Rect.mem_set_unit (inb := fit2 (by omega) (by omega))).mpr fun a => ?_
      fin_cases a
      · exact ⟨Nat.zero_le _, by show r.val < 0 + 512; omega⟩
      · exact ⟨by show 256 * k ≤ c.val; omega, by show c.val < 256 * k + 256; omega⟩
    have hk : c.val / 256 < 11 := by omega
    refine ⟨actPiece (F := Ideal) arg13 harg13 x12 hb (c.val / 256) hk, ?_, hm _ hk rfl⟩
    unfold actPieces
    generalize c.val / 256 = k at hk
    interval_cases k <;> simp

/-- The output tile is the rows' tails. -/
theorem outT_apply (r : Fin 512) (n : Fin 1024) :
    outT (F := Ideal) arg5 harg5 arg6 harg6 arg7 harg7 arg8 harg8 arg9 harg9 arg10 harg10 arg11 harg11 arg12 harg12 arg13 harg13 arg14 harg14 arg16 harg16 arg20 x4 x5 x6 x7 x8 x9 x10 x11 x12 x13 xs0 (ix2 r n) =
      Row.tail (par x5 x8 x9 x10 x11 x12 x13) (row x4 x6 x7 xs0 r) n := by
  unfold outT
  rw [pay_out, x1t_apply (x8 := x8) (x12 := x12) (x13 := x13), View.readCov_eq_canon']
  have ha : ∀ c : Fin 2816, View.canon (actPieces (F := Ideal) arg13 harg13 x12 (hbt (F := Ideal) arg5 harg5 arg6 harg6 arg7 harg7 arg8 harg8 arg9 harg9 arg10 harg10 arg11 harg11 arg12 harg12 arg16 harg16 x4 x5 x6 x7 x8 x9 x10 x11 xs0))
      ((Rect.unit (s := S512x2816) ![0, 0] S512x2816.size (fit2 (by omega) (by omega))).toLoadRect.idx (ix2 r c)) =
      Row.act (par x5 x8 x9 x10 x11 x12 x13) (Row.norm (par x5 x8 x9 x10 x11 x12 x13) (Row.x1 (par x5 x8 x9 x10 x11 x12 x13) (row x4 x6 x7 xs0 r))) c := by
    intro c
    refine (congrArg (View.canon _) ?_).trans (actPieces_apply arg13 harg13 x5 x8 x9 x10 x11 x12 x13
      (fun r => Row.norm (par x5 x8 x9 x10 x11 x12 x13) (Row.x1 (par x5 x8 x9 x10 x11 x12 x13) (row x4 x6 x7 xs0 r))) _ (fun r n => hbt_apply (x12 := x12) (x13 := x13) ..) r c)
    funext a
    fin_cases a <;> apply Fin.ext
    · show 0 + 1 * r.val = r.val
      omega
    · show 0 + 1 * c.val = c.val
      omega
  refine congrArg (Row.x1 (par x5 x8 x9 x10 x11 x12 x13) (row x4 x6 x7 xs0 r) n + ·) (congrArg₂ (· * ·) ?_ (Finset.sum_congr rfl fun c _ => congrArg₂ (· * ·) (ha c) ?_))
  · exact ld2 arg6 harg6 x5 0 5120 (by omega) (by omega) 0 n
  · refine (ld2 arg14 harg14 x13 0 0 (by omega) (by omega) c n).trans ?_
    simp only [Nat.zero_add]
    rfl

/-- What the store of the output leaves. -/
theorem outPieces_apply (r : Fin 512) (n : Fin 1024) :
    View.canon (outPieces (F := Ideal) arg5 harg5 arg6 harg6 arg7 harg7 arg8 harg8 arg9 harg9 arg10 harg10 arg11 harg11 arg12 harg12 arg13 harg13 arg14 harg14 arg16 harg16 arg20 x4 x5 x6 x7 x8 x9 x10 x11 x12 x13 xs0) (ix2 r n) =
      Row.tail (par x5 x8 x9 x10 x11 x12 x13) (row x4 x6 x7 xs0 r) n := by
  unfold outPieces
  have h : (ix2 r n : S512x1024.Idx) = (Rect.unit (s := S512x1024) ![0, 0] S512x1024.size (fit2 (by omega) (by omega))).emb (ix2 r n) := by
    funext a
    fin_cases a <;> apply Fin.ext
    · show r.val = 0 + 1 * r.val
      omega
    · show n.val = 0 + 1 * n.val
      omega
  rw [h, View.canon_cons_emb]
  exact outT_apply ..

end Cert.KernelIdeal.Tail
-- ==== Proof.IdealFrame.lean ====
/- The frame of `KernelIdeal`: what its output and the carried attention rows hold after each grid point, the obligation of the body at each
   point, the run of the program, and that it ends without fault with its arguments and counters as they were. -/
module

public import proofs.«01_k».proof.Proof.IdealRunC
public import Idealize.ShloMosaic.Lib.Claim

@[expose] public section

-- the covers are checked along long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Pieces

variable (c : Dev nD) (i : grid0.Coords) (arg1 : Memref sig .tc .smem S8 .f32) (harg1 : arg1.IsWhole) (arg2 : Memref sig .tc .vmem S512x512 .bf16) (harg2 : arg2.IsWhole) (arg3 : Memref sig .tc .vmem S256x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S8x6144 .f32) (harg6 : arg6.IsWhole) (arg7 : Memref sig .tc .vmem S512x512 .bf16) (harg7 : arg7.IsWhole) (arg8 : Memref sig .tc .vmem S512x2048 .bf16) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S512x1024 .f32) (harg15 : arg15.IsWhole) (arg16 : Memref sig .tc .vmem S512x512 .bf16) (harg16 : arg16.IsWhole) (arg17 : Memref sig .tc .vmem S2x512x512 .f32) (harg17 : arg17.IsWhole) (arg18 : Memref sig .tc .vmem S2x512x512 .bf16) (harg18 : arg18.IsWhole) (arg19 : Memref sig .tc .vmem S2x512x128 .f32) (harg19 : arg19.IsWhole) (arg20 : Memref sig .tc .vmem S512x2816 .bf16) (harg20 : arg20.IsWhole)

section

variable (hc0 : cond0_0 i) (hc1 : ¬cond0_1 i) (hc2 : ¬cond0_2 i)
  (x0 : Vec F S8 .f32) (x1 : Vec F S512x512 .bf16) (x2 : Vec F S256x512 .bf16) (x3 : Vec F S512x256 .bf16) (x4 : Vec F S512x1024 .f32) (x5 : Vec F S8x6144 .f32) (x6 : Vec F S512x512 .bf16) (x7 : Vec F S512x2048 .bf16) (x8 : Vec F S1x1024 .f32) (x9 : Vec F S512x1024 .bf16) (x10 : Vec F S512x1024 .bf16) (x11 : Vec F S1024x1024 .bf16) (x12 : Vec F S1024x5632 .bf16) (x13 : Vec F S2816x1024 .bf16)

/-- What case A leaves in the output's staging buffer, which it does not store to. -/
def out0_A_14 : Vec F S512x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13).1)

/-- The pieces case A stores to the carried scratch cover it. -/
theorem scover0_A_0 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13).2.1, y ∈ pc.1.set :=
  View.cover_of_tiledL (_ : List (View.Piece (Elt F) S512x512 .bf16)) S256x128.size (by sl_kernel_rfl) y

/-- What case A leaves in the carried scratch. -/
def sout0_A_0 : Vec F S512x512 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13).2.1)

end

section

variable (hc0 : ¬cond0_0 i) (hc1 : cond0_1 i) (hc2 : ¬cond0_2 i)
  (x0 : Vec F S8 .f32) (x1 : Vec F S512x512 .bf16) (x2 : Vec F S256x512 .bf16) (x3 : Vec F S512x256 .bf16) (x4 : Vec F S512x1024 .f32) (x5 : Vec F S8x6144 .f32) (x6 : Vec F S512x512 .bf16) (x7 : Vec F S512x2048 .bf16) (x8 : Vec F S1x1024 .f32) (x9 : Vec F S512x1024 .bf16) (x10 : Vec F S512x1024 .bf16) (x11 : Vec F S1024x1024 .bf16) (x12 : Vec F S1024x5632 .bf16) (x13 : Vec F S2816x1024 .bf16) (xs0 : Vec F S512x512 .bf16)

/-- The pieces case B stores to the output cover its block. -/
theorem cover0_B_14 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).1, y ∈ pc.1.set :=
  View.cover_of_tiledL (_ : List (View.Piece (Elt F) S512x1024 .f32)) S512x1024.size (by sl_kernel_rfl) y

/-- What case B leaves in the output's staging buffer. -/
def out0_B_14 : Vec F S512x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).1)

/-- The pieces case B stores to the carried scratch cover it. -/
theorem scover0_B_0 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).2.1, y ∈ pc.1.set :=
  View.cover_of_tiledL (_ : List (View.Piece (Elt F) S512x512 .bf16)) S256x128.size (by sl_kernel_rfl) y

/-- What case B leaves in the carried scratch. -/
def sout0_B_0 : Vec F S512x512 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).2.1)

end

section

variable (hc0 : ¬cond0_0 i) (hc1 : ¬cond0_1 i) (hc2 : cond0_2 i)
  (x0 : Vec F S8 .f32) (x1 : Vec F S512x512 .bf16) (x2 : Vec F S256x512 .bf16) (x3 : Vec F S512x256 .bf16) (x4 : Vec F S512x1024 .f32) (x5 : Vec F S8x6144 .f32) (x6 : Vec F S512x512 .bf16) (x7 : Vec F S512x2048 .bf16) (x8 : Vec F S1x1024 .f32) (x9 : Vec F S512x1024 .bf16) (x10 : Vec F S512x1024 .bf16) (x11 : Vec F S1024x1024 .bf16) (x12 : Vec F S1024x5632 .bf16) (x13 : Vec F S2816x1024 .bf16) (xs0 : Vec F S512x512 .bf16)

/-- The pieces case C stores to the output cover its block. -/
theorem cover0_C_14 (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).1, y ∈ pc.1.set :=
  View.cover_of_tiledL (_ : List (View.Piece (Elt F) S512x1024 .f32)) S512x1024.size (by sl_kernel_rfl) y

/-- What case C leaves in the output's staging buffer. -/
def out0_C_14 : Vec F S512x1024 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 xs0).1)

end

end Pieces

/-! ## What the outputs hold after each point -/

/-- What a point of case A leaves in the output's staging buffer and in the carried scratch. -/
def left_A (c : Dev nD) (t : Fin cfg0.N) (h0 : t.val % 17 = 0) (h1 : ¬(1 ≤ t.val % 17 ∧ t.val % 17 ≤ 15)) (h2 : ¬t.val % 17 = 16) :
    Vec F S512x1024 .f32 × Vec F S512x512 .bf16 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

/-- What a point of case B leaves in the output's staging buffer and in the carried scratch, over what the point before left in the scratch. -/
def left_B (c : Dev nD) (t : Fin cfg0.N) (h0 : ¬t.val % 17 = 0) (h1 : (1 ≤ t.val % 17 ∧ t.val % 17 ≤ 15)) (h2 : ¬t.val % 17 = 16) (acc : Vec F S512x512 .bf16) :
    Vec F S512x1024 .f32 × Vec F S512x512 .bf16 :=
  (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) acc, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) acc)

/-- What a point of case C leaves in the output's staging buffer and in the carried scratch, over what the point before left in the scratch. -/
def left_C (c : Dev nD) (t : Fin cfg0.N) (h0 : ¬t.val % 17 = 0) (h1 : ¬(1 ≤ t.val % 17 ∧ t.val % 17 ≤ 15)) (h2 : t.val % 17 = 16) (acc : Vec F S512x512 .bf16) :
    Vec F S512x1024 .f32 × Vec F S512x512 .bf16 :=
  (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) acc, acc)

/-- What the output's staging buffer and the carried scratch hold after the body at position `n`: what the point's case leaves, over what the
    point before left in the scratch. -/
def outsAt0 (c : Dev nD) : (n : ℕ) → n < cfg0.N → Vec F S512x1024 .f32 × Vec F S512x512 .bf16
  | 0, hn => left_A m c ⟨0, hn⟩ (Nat.zero_mod _) (by dsimp only; omega) (by dsimp only; omega)
  | n + 1, hn =>
    if h0 : (n + 1) % 17 = 0 then
      if h1 : (1 ≤ (n + 1) % 17 ∧ (n + 1) % 17 ≤ 15) then
        False.elim (by have hN : n + 1 < 17 := lt_of_lt_of_eq hn (show cfg0.N = 17 from N_0); omega)
      else
        if h2 : (n + 1) % 17 = 16 then
          False.elim (by have hN : n + 1 < 17 := lt_of_lt_of_eq hn (show cfg0.N = 17 from N_0); omega)
        else
          left_A m c ⟨n + 1, hn⟩ h0 h1 h2
    else
      if h1 : (1 ≤ (n + 1) % 17 ∧ (n + 1) % 17 ≤ 15) then
        if h2 : (n + 1) % 17 = 16 then
          False.elim (by have hN : n + 1 < 17 := lt_of_lt_of_eq hn (show cfg0.N = 17 from N_0); omega)
        else
          left_B m c ⟨n + 1, hn⟩ h0 h1 h2 (outsAt0 c n (Nat.lt_of_succ_lt hn)).2
      else
        if h2 : (n + 1) % 17 = 16 then
          left_C m c ⟨n + 1, hn⟩ h0 h1 h2 (outsAt0 c n (Nat.lt_of_succ_lt hn)).2
        else
          False.elim (by have hN : n + 1 < 17 := lt_of_lt_of_eq hn (show cfg0.N = 17 from N_0); omega)

/-- `outsAt0` at a point of case A: that case's contents. -/
theorem outsAt0_A (c : Dev nD) (t : Fin cfg0.N) (h0 : t.val % 17 = 0) (h1 : ¬(1 ≤ t.val % 17 ∧ t.val % 17 ≤ 15)) (h2 : ¬t.val % 17 = 16) :
    outsAt0 m c t.val t.isLt = left_A m c t h0 h1 h2 := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 17 = 0) (h1 : (1 ≤ t.val % 17 ∧ t.val % 17 ≤ 15)) (h2 : ¬t.val % 17 = 16) :
    outsAt0 m c t.val t.isLt = left_B m c t h0 h1 h2 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 17 = 0) (h1 : ¬(1 ≤ t.val % 17 ∧ t.val % 17 ≤ 15)) (h2 : t.val % 17 = 16) :
    outsAt0 m c t.val t.isLt = left_C m c t h0 h1 h2 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body leaves of each input: its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, ← after0_0 m c t]
theorem leaves0_1 (c : Dev nD) (t : Fin cfg0.N) : (dats m 0 c).leavesExact 1 t = owns (c : Thread nD τ) (ms0_1 t) fullShare (iblk m c 1 t) := by
  unfold Dat.leavesExact; rw [liveAt0_1 t, ← after0_1 m c t]
theorem leaves0_2 (c : Dev nD) (t : Fin cfg0.N) : (dats m 0 c).leavesExact 2 t = owns (c : Thread nD τ) (ms0_2 t) fullShare (iblk m c 2 t) := by
  unfold Dat.leavesExact; rw [liveAt0_2 t, ← after0_2 m c t]
theorem leaves0_3 (c : Dev nD) (t : Fin cfg0.N) : (dats m 0 c).leavesExact 3 t = owns (c : Thread nD τ) (ms0_3 t) fullShare (iblk m c 3 t) := by
  unfold Dat.leavesExact; rw [liveAt0_3 t, ← after0_3 m c t]
theorem leaves0_4 (c : Dev nD) (t : Fin cfg0.N) : (dats m 0 c).leavesExact 4 t = owns (c : Thread nD τ) (ms0_4 t) fullShare (iblk m c 4 t) := by
  unfold Dat.leavesExact; rw [liveAt0_4 t, ← after0_4 m c t]
theorem leaves0_5 (c : Dev nD) (t : Fin cfg0.N) : (dats m 0 c).leavesExact 5 t = owns (c : Thread nD τ) (ms0_5 t) fullShare (iblk m c 5 t) := by
  unfold Dat.leavesExact; rw [liveAt0_5 t, ← after0_5 m c t]
theorem leaves0_6 (c : Dev nD) (t : Fin cfg0.N) : (dats m 0 c).leavesExact 6 t = owns (c : Thread nD τ) (ms0_6 t) fullShare (iblk m c 6 t) := by
  unfold Dat.leavesExact; rw [liveAt0_6 t, ← after0_6 m c t]
theorem leaves0_7 (c : Dev nD) (t : Fin cfg0.N) : (dats m 0 c).leavesExact 7 t = owns (c : Thread nD τ) (ms0_7 t) fullShare (iblk m c 7 t) := by
  unfold Dat.leavesExact; rw [liveAt0_7 t, ← after0_7 m c t]
theorem leaves0_8 (c : Dev nD) (t : Fin cfg0.N) : (dats m 0 c).leavesExact 8 t = owns (c : Thread nD τ) (ms0_8 t) fullShare (iblk m c 8 t) := by
  unfold Dat.leavesExact; rw [liveAt0_8 t, ← after0_8 m c t]
theorem leaves0_9 (c : Dev nD) (t : Fin cfg0.N) : (dats m 0 c).leavesExact 9 t = owns (c : Thread nD τ) (ms0_9 t) fullShare (iblk m c 9 t) := by
  unfold Dat.leavesExact; rw [liveAt0_9 t, ← after0_9 m c t]
theorem leaves0_10 (c : Dev nD) (t : Fin cfg0.N) : (dats m 0 c).leavesExact 10 t = owns (c : Thread nD τ) (ms0_10 t) fullShare (iblk m c 10 t) := by
  unfold Dat.leavesExact; rw [liveAt0_10 t, ← after0_10 m c t]
theorem leaves0_11 (c : Dev nD) (t : Fin cfg0.N) : (dats m 0 c).leavesExact 11 t = owns (c : Thread nD τ) (ms0_11 t) fullShare (iblk m c 11 t) := by
  unfold Dat.leavesExact; rw [liveAt0_11 t, ← after0_11 m c t]
theorem leaves0_12 (c : Dev nD) (t : Fin cfg0.N) : (dats m 0 c).leavesExact 12 t = owns (c : Thread nD τ) (ms0_12 t) fullShare (iblk m c 12 t) := by
  unfold Dat.leavesExact; rw [liveAt0_12 t, ← after0_12 m c t]
theorem leaves0_13 (c : Dev nD) (t : Fin cfg0.N) : (dats m 0 c).leavesExact 13 t = owns (c : Thread nD τ) (ms0_13 t) fullShare (iblk m c 13 t) := by
  unfold Dat.leavesExact; rw [liveAt0_13 t, ← after0_13 m c t]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 24000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  by_cases h0 : t.val % 17 = 0
  · by_cases h1 : (1 ≤ t.val % 17 ∧ t.val % 17 ≤ 15)
    · exfalso; omega
    · by_cases h2 : t.val % 17 = 16
      · exfalso; omega
      · rw [leaves0_0, leaves0_1, leaves0_2, leaves0_3, leaves0_4, leaves0_5, leaves0_6, leaves0_7, leaves0_8, leaves0_9, leaves0_10, leaves0_11, leaves0_12, leaves0_13]
        rw [Dat.leavesExact_idle (dats m 0 c) 14 t (idleAt0_14_A t ((hcond0_0 t).mpr h0) (fun h => h1 ((hcond0_1 t).mp h)) (fun h => h2 ((hcond0_2 t).mp h))) (noFlush0_14_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold left_A sout0_A_0; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, H14, ⟨%es0, HS0⟩, ⟨%fT1, HS1⟩, ⟨%fT2, HS2⟩, HS3, HS4⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · iexists _; unfold owns; iexists _; isplitr
                swap; · iexact HS2
                ipureintro; rfl
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexists _; iexact H14
        · exfalso; have hN : t.val < 17 := lt_of_lt_of_eq t.isLt (show cfg0.N = 17 from N_0); omega
  · by_cases h1 : (1 ≤ t.val % 17 ∧ t.val % 17 ≤ 15)
    · by_cases h2 : t.val % 17 = 16
      · exfalso; omega
      · rw [leaves0_0, leaves0_1, leaves0_2, leaves0_3, leaves0_4, leaves0_5, leaves0_6, leaves0_7, leaves0_8, leaves0_9, leaves0_10, leaves0_11, leaves0_12, leaves0_13]
        rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1) (fun h => h2 ((hcond0_2 t).mp h))], after0_14]
        by_cases hz : t.val = 0
        · exfalso; have hN : t.val < 17 := lt_of_lt_of_eq t.isLt (show cfg0.N = 17 from N_0); omega
        · rw [PhiS_castSucc m c t, PhiS_pos m c _ _ hz]
          rw [outsAt0_B m c t h0 h1 h2]
          unfold left_B out0_B_14 sout0_B_0; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexists _; iexact H14
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, ⟨%e14, H14⟩, ⟨%es0, HS0⟩, ⟨%fT1, HS1⟩, ⟨%fT2, HS2⟩, HS3, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · iexists _; unfold owns; iexists _; isplitr
                swap; · iexact HS2
                ipureintro; rfl
              isplitl [HS3]
              · iexact HS3
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 17 = 16
      · rw [leaves0_0, leaves0_1, leaves0_2, leaves0_3, leaves0_4, leaves0_5, leaves0_6, leaves0_7, leaves0_8, leaves0_9, leaves0_10, leaves0_11, leaves0_12, leaves0_13]
        rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) ((hcond0_2 t).mpr h2)], after0_14]
        by_cases hz : t.val = 0
        · exfalso; have hN : t.val < 17 := lt_of_lt_of_eq t.isLt (show cfg0.N = 17 from N_0); omega
        · rw [PhiS_castSucc m c t, PhiS_pos m c _ _ hz]
          rw [outsAt0_C m c t h0 h1 h2]
          unfold left_C out0_C_14; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexists _; iexact H14
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, ⟨%e14, H14⟩, HS0, HS1, HS2, HS3, ⟨%fT4, HS4⟩⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 17 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Gen

end
-- ==== Proof.IdealValue.lean ====
/- The run, with its output array named. -/
module

public import proofs.«01_k».proof.Proof.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The output array after the run. -/
theorem post14 (r : PUnit × MemSt nD τ sig (Elt F)) (h : Pipeline.FramePost cfgs (dats m) 0 (V m) r) (c : Dev nD) :
    r.2.mem ((c : Thread nD τ).loc main_v0) = (dats m 0 c).arrAt 14 cfg0.N :=
  (h c).1 14

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- The run, with the output array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.KernelIdeal.Value

end
-- ==== Proof.IdealArray.lean ====
/- The kernel's output array: every entry is the layer's tail of its row, over the attention of that row, in the global arrays. -/
module

public import proofs.«01_k».proof.Proof.TailTile
public import proofs.«01_k».proof.Proof.IdealValue

@[expose] public section

set_option maxRecDepth 16384

noncomputable section

namespace Cert.KernelIdeal.Arr

open Cert.KernelIdeal Cert.KernelIdeal.Gen Cert.KernelIdeal.Att Cert.KernelIdeal.Tail Idealize.ShloMosaic Idealize.ShloMosaic.TcCoe Idealize.SL.Sem

/-! ## The rows of the whole arrays -/

section Global

variable (X0 : Vec Ideal S8 .f32) (X1 : Vec Ideal S8192x512 .bf16) (X2 : Vec Ideal S256x8192 .bf16) (X3 : Vec Ideal S8192x256 .bf16)
  (X4 : Vec Ideal S8192x1024 .f32) (X5 : Vec Ideal S16x6144 .f32) (X6 : Vec Ideal S8192x512 .bf16)
  (X7 : Vec Ideal S8192x2048 .bf16) (X8 : Vec Ideal S1x1024 .f32) (X9 : Vec Ideal S512x1024 .bf16) (X10 : Vec Ideal S512x1024 .bf16)
  (X11 : Vec Ideal S1024x1024 .bf16) (X12 : Vec Ideal S1024x5632 .bf16) (X13 : Vec Ideal S2816x1024 .bf16)

/-- The score of query row `r` and key `j` of its sequence in head `h`. -/
def gScore (r : Fin 8192) (h : Fin 8) (j : Fin 256) : EReal :=
  ∑ d : Fin 64, X1 (ix2 r (⟨64 * h + d, by omega⟩ : Fin 512)) *
    X2 (ix2 (⟨64 * (2 * (h / 4) + h % 2) + d, by omega⟩ : Fin 256) (⟨256 * (r / 256) + j, by omega⟩ : Fin 8192))

/-- The values of channel `c` in the sequence of row `r`. -/
def gVal (r : Fin 8192) (c : Fin 512) (j : Fin 256) : EReal :=
  X3 (ix2 (⟨256 * (r / 256) + j, by omega⟩ : Fin 8192) (⟨128 * (c / 256) + c % 128, by omega⟩ : Fin 256))

/-- The attention of row `r` in channel `c`. -/
def gAtt (r : Fin 8192) (c : Fin 512) : EReal :=
  kHead (sinkLog X0 (c / 64) (by omega)) (gScore X1 X2 r ⟨c / 64, by omega⟩) (gVal X3 r c)

/-- What all rows share: row 8 of the modulation, the gain and the weights. -/
def gPar : Row.Par where
  md n := X5 (ix2 (8 : Fin 16) n)
  g2 n := X8 (ix2 (0 : Fin 1) n)
  wf k n := X9 (ix2 k n)
  wao k n := X10 (ix2 k n)
  wout k n := X11 (ix2 k n)
  wup k n := X12 (ix2 k n)
  wdn k n := X13 (ix2 k n)

/-- Row `r` of the arrays, with the attention rows `A`. -/
def gRow (A : Fin 8192 → Fin 512 → EReal) (r : Fin 8192) : Row.Row where
  x n := X4 (ix2 r n)
  mx n := X6 (ix2 r n)
  a n := A r n
  gt n := X7 (ix2 r n)

/-- The layer's output array. -/
def gOut (A : Fin 8192 → Fin 512 → EReal) : Vec Ideal S8192x1024 .f32 := fun y =>
  Row.tail (gPar X5 X8 X9 X10 X11 X12 X13) (gRow X4 X6 X7 A (y 0)) (y 1)

end Global

/-! ## The blocks -/

theorem idx : ∀ t : Fin cfg0.N, win0_0.index t = ![0] ∧ win0_1.index t = ![min t.val 15, 0] ∧ win0_2.index t = ![0, min t.val 15] ∧ win0_3.index t = ![min t.val 15, 0] ∧
    win0_4.index t = ![t.val - 1, 0] ∧ win0_5.index t = ![1, 0] ∧ win0_6.index t = ![t.val - 1, 0] ∧ win0_7.index t = ![t.val - 1, 0] ∧
    win0_8.index t = ![0, 0] ∧ win0_9.index t = ![0, 0] ∧ win0_10.index t = ![0, 0] ∧ win0_11.index t = ![0, 0] ∧ win0_12.index t = ![0, 0] ∧ win0_13.index t = ![0, 0] ∧
    win0_14.index t = ![t.val - 1, 0] :=
  (by decide +kernel : ∀ t : Fin grid0.N, _)

variable (m : (ℓ : Loc nD τ sig) → Buf (Elt Ideal) ℓ) (c : Dev nD) (t : Fin cfg0.N)

/-- The sinks' block is the array. -/
theorem blk0 (i : Fin 8) : iblk m c 0 t (ix1 i) = m ((c : Thread nD τ).loc main_arg0) (ix1 i) := by
  blk_ext [iblk, V, idx t]

/-- The queries' block. -/
theorem blk1 (r n : Fin 512) (R : Fin 8192) (hR : R.val = 512 * min t.val 15 + r.val) : iblk m c 1 t (ix2 r n) = m ((c : Thread nD τ).loc main_arg1) (ix2 R n) := by
  blk_ext [iblk, V, idx t]

theorem blk2 (r : Fin 256) (n : Fin 512) (R : Fin 8192) (hR : R.val = 512 * min t.val 15 + n.val) : iblk m c 2 t (ix2 r n) = m ((c : Thread nD τ).loc main_arg2) (ix2 r R) := by
  blk_ext [iblk, V, idx t]

theorem blk3 (r : Fin 512) (n : Fin 256) (R : Fin 8192) (hR : R.val = 512 * min t.val 15 + r.val) : iblk m c 3 t (ix2 r n) = m ((c : Thread nD τ).loc main_arg3) (ix2 R n) := by
  blk_ext [iblk, V, idx t]

theorem blk4 (r : Fin 512) (n : Fin 1024) (R : Fin 8192) (hR : R.val = 512 * (t.val - 1) + r.val) : iblk m c 4 t (ix2 r n) = m ((c : Thread nD τ).loc main_arg4) (ix2 R n) := by
  blk_ext [iblk, V, idx t]

theorem blk5 (n : Fin 6144) : iblk m c 5 t (ix2 (0 : Fin 8) n) = m ((c : Thread nD τ).loc main_arg5) (ix2 (8 : Fin 16) n) := by
  blk_ext [iblk, V, idx t]

theorem blk6 (r : Fin 512) (n : Fin 512) (R : Fin 8192) (hR : R.val = 512 * (t.val - 1) + r.val) : iblk m c 6 t (ix2 r n) = m ((c : Thread nD τ).loc main_arg6) (ix2 R n) := by
  blk_ext [iblk, V, idx t]

theorem blk7 (r : Fin 512) (n : Fin 2048) (R : Fin 8192) (hR : R.val = 512 * (t.val - 1) + r.val) : iblk m c 7 t (ix2 r n) = m ((c : Thread nD τ).loc main_arg7) (ix2 R n) := by
  blk_ext [iblk, V, idx t]

theorem blk8 (r : Fin 1) (n : Fin 1024) : iblk m c 8 t (ix2 r n) = m ((c : Thread nD τ).loc main_arg8) (ix2 r n) := by
  blk_ext [iblk, V, idx t]

theorem blk9 (r : Fin 512) (n : Fin 1024) : iblk m c 9 t (ix2 r n) = m ((c : Thread nD τ).loc main_arg9) (ix2 r n) := by
  blk_ext [iblk, V, idx t]

theorem blk10 (r : Fin 512) (n : Fin 1024) : iblk m c 10 t (ix2 r n) = m ((c : Thread nD τ).loc main_arg10) (ix2 r n) := by
  blk_ext [iblk, V, idx t]

theorem blk11 (r : Fin 1024) (n : Fin 1024) : iblk m c 11 t (ix2 r n) = m ((c : Thread nD τ).loc main_arg11) (ix2 r n) := by
  blk_ext [iblk, V, idx t]

theorem blk12 (r : Fin 1024) (n : Fin 5632) : iblk m c 12 t (ix2 r n) = m ((c : Thread nD τ).loc main_arg12) (ix2 r n) := by
  blk_ext [iblk, V, idx t]

theorem blk13 (r : Fin 2816) (n : Fin 1024) : iblk m c 13 t (ix2 r n) = m ((c : Thread nD τ).loc main_arg13) (ix2 r n) := by
  blk_ext [iblk, V, idx t]

/-! ## The attention rows carried to the next point -/

/-- The attention rows of the arrays. -/
abbrev att : Fin 8192 → Fin 512 → EReal :=
  gAtt (m ((c : Thread nD τ).loc main_arg0)) (m ((c : Thread nD τ).loc main_arg1)) (m ((c : Thread nD τ).loc main_arg2)) (m ((c : Thread nD τ).loc main_arg3))

/-- The tile of a point's blocks is the rows of the arrays. -/
theorem attTile_blk (r n : Fin 512) (R : Fin 8192) (hR : R.val = 512 * min t.val 15 + r.val) :
    attTile (iblk m c 0 t) (iblk m c 1 t) (iblk m c 2 t) (iblk m c 3 t) r n = att m c R n := by
  unfold attTile att gAtt
  have h0 : sinkLog (iblk m c 0 t) (n / 64) (by omega) = sinkLog (m ((c : Thread nD τ).loc main_arg0)) (n / 64) (by omega) := congrArg (k0_pay6 (F := Ideal)) (blk0 m c t _)
  have h1 : score (iblk m c 1 t) (iblk m c 2 t) r ⟨n / 64, by omega⟩ =
      gScore (m ((c : Thread nD τ).loc main_arg1)) (m ((c : Thread nD τ).loc main_arg2)) R ⟨n / 64, by omega⟩ := by
    funext j
    unfold score gScore
    exact Finset.sum_congr rfl fun d _ => congrArg₂ (· * ·) (blk1 m c t _ _ R hR) (blk2 m c t _ _ _ (by show 256 * (R.val / 256) + j.val = 512 * min t.val 15 + (256 * (r.val / 256) + j.val); omega))
  have h2 : (fun j : Fin 256 => iblk m c 3 t (ix2 (⟨256 * (r / 256) + j, by omega⟩ : Fin 512) (⟨128 * (n / 256) + n % 128, by omega⟩ : Fin 256))) =
      gVal (m ((c : Thread nD τ).loc main_arg3)) R n := by
    funext j
    exact blk3 m c t _ _ _ (by show 256 * (R.val / 256) + j.val = 512 * min t.val 15 + (256 * (r.val / 256) + j.val); omega)
  rw [h0, h1]
  exact congrArg _ h2

/-- What a point before the last leaves: the attention rows of its blocks. -/
theorem carried (ht : t.val ≤ 15) (r n : Fin 512) (R : Fin 8192) (hR : R.val = 512 * t.val + r.val) : (outsAt0 m c t.val t.isLt).2 (ix2 r n) = att m c R n := by
  refine Eq.trans ?_ (attTile_blk m c t r n R (by omega))
  by_cases h0 : t.val % 17 = 0
  · rw [outsAt0_A m c t h0 (by omega) (by omega)]
    dsimp only [left_A]
    unfold sout0_A_0
    rw [View.read_writes_junk_eq_canon, A.att_eq]
    exact attPieces_apply ..
  · rw [outsAt0_B m c t h0 (by omega) (by omega)]
    dsimp only [left_B]
    unfold sout0_B_0
    rw [View.read_writes_junk_eq_canon, B.att_eq]
    exact attPieces_apply ..

/-! ## The output -/

/-- The output array of the arrays. -/
abbrev out : Vec Ideal S8192x1024 .f32 :=
  gOut (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (att m c)

/-- The tail of a point's blocks over the rows carried to it is the rows of the arrays. -/
theorem tail_blk (ht : 1 ≤ t.val) (xs : Vec Ideal S512x512 .bf16) (hxs : ∀ (r n : Fin 512) (R : Fin 8192), R.val = 512 * (t.val - 1) + r.val → xs (ix2 r n) = att m c R n)
    (r : Fin 512) (n : Fin 1024) (R : Fin 8192) (hR : R.val = 512 * (t.val - 1) + r.val) :
    Row.tail (par (iblk m c 5 t) (iblk m c 8 t) (iblk m c 9 t) (iblk m c 10 t) (iblk m c 11 t) (iblk m c 12 t) (iblk m c 13 t))
      (row (iblk m c 4 t) (iblk m c 6 t) (iblk m c 7 t) xs r) n = out m c (ix2 R n) := by
  have hp : par (iblk m c 5 t) (iblk m c 8 t) (iblk m c 9 t) (iblk m c 10 t) (iblk m c 11 t) (iblk m c 12 t) (iblk m c 13 t) =
      gPar (m ((c : Thread nD τ).loc main_arg5)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) := by
    unfold par gPar
    congr 1
    · funext n; exact blk5 m c t n
    · funext n; exact blk8 m c t 0 n
    · funext k n; exact blk9 m c t k n
    · funext k n; exact blk10 m c t k n
    · funext k n; exact blk11 m c t k n
    · funext k n; exact blk12 m c t k n
    · funext k n; exact blk13 m c t k n
  have hr : row (iblk m c 4 t) (iblk m c 6 t) (iblk m c 7 t) xs r =
      gRow (m ((c : Thread nD τ).loc main_arg4)) (m ((c : Thread nD τ).loc main_arg6)) (m ((c : Thread nD τ).loc main_arg7)) (att m c) R := by
    unfold row gRow
    congr 1
    · funext n; exact blk4 m c t r n R hR
    · funext n; exact blk6 m c t r n R hR
    · funext n; exact hxs r n R hR
    · funext n; exact blk7 m c t r n R hR
  rw [hp, hr]
  rfl

/-- What a point after the first writes: the rows of the layer's output. -/
theorem written (ht : 1 ≤ t.val) (r : Fin 512) (n : Fin 1024) (R : Fin 8192) (hR : R.val = 512 * (t.val - 1) + r.val) :
    (outsAt0 m c t.val t.isLt).1 (ix2 r n) = out m c (ix2 R n) := by
  have hN : t.val < 17 := lt_of_lt_of_eq t.isLt N_0
  have hxs : ∀ (r n : Fin 512) (R : Fin 8192), R.val = 512 * (t.val - 1) + r.val → (outsAt0 m c (t.val - 1) (Nat.lt_of_le_of_lt (Nat.sub_le _ _) t.isLt)).2 (ix2 r n) = att m c R n :=
    fun r n R hR => carried m c ⟨t.val - 1, Nat.lt_of_le_of_lt (Nat.sub_le _ _) t.isLt⟩ (by show t.val - 1 ≤ 15; omega) r n R hR
  refine Eq.trans ?_ (tail_blk m c t ht _ hxs r n R hR)
  by_cases h2 : t.val % 17 = 16
  · rw [outsAt0_C m c t (by omega) (by omega) h2]
    dsimp only [left_C]
    unfold out0_C_14
    rw [View.read_writes_junk_eq_canon, C.out_eq]
    exact outPieces_apply ..
  · rw [outsAt0_B m c t (by omega) (by omega) h2]
    dsimp only [left_B]
    unfold out0_B_14
    rw [View.read_writes_junk_eq_canon, B.out_eq]
    exact outPieces_apply ..

/-- The output array after the run. -/
theorem final : (dats m 0 c).arrAt 14 cfg0.N = out m c := by
  refine (dats m 0 c).arrAt_eq_of_covers 14 _ (by decide +kernel) fun t hf y => ?_
  have ht : 1 ≤ t.val := by
    by_contra h
    have h0 : ∀ t : Fin grid0.N, ¬1 ≤ t.val → win0_14.flush t = false := by decide +kernel
    exact absurd (hf.symm.trans (h0 t h)) (by decide)
  obtain ⟨r, n, rfl⟩ : ∃ (r : Fin 512) (n : Fin 1024), y = ix2 r n := ⟨_, _, eq_ix2 (n0 := 512) (n1 := 1024) y⟩
  have hN : t.val < 17 := lt_of_lt_of_eq t.isLt N_0
  blk_simp
  rw [after0_14]
  refine (written m c t ht r n ⟨512 * (t.val - 1) + r.val, by omega⟩ rfl).trans ?_
  blk_ext [idx t]

end Cert.KernelIdeal.Arr
-- ==== Proof.AttEq.lean ====
/- The attention of one head computed with powers of two, the sink's logit scaled by `(log 2)⁻¹`, is the attention computed with the
   exponential, the scores scaled by `log 2`: where the scores and the sink's logit are real. The values may be infinite. -/
module

public import proofs.«01_k».proof.Proof.AttSpec
public import proofs.«01_k».proof.Proof.RefRow
public import proofs.«01_k».proof.Proof.IdealArray

@[expose] public section

noncomputable section

namespace Cert.AttEq

open Cert.KernelIdeal.Att Cert.ReferenceIdeal.Row Idealize.ShloMosaic

/-- Coercion to the extended reals and sums. -/
theorem coe_sum {ι : Type} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- Coercion to the extended reals and maxima. -/
theorem coe_max (a b : ℝ) : ((max a b : ℝ) : EReal) = max (a : EReal) b := EReal.coe_strictMono.monotone.map_max

/-- A sum times a nonnegative real. -/
theorem sum_mul_real {ι : Type} (t : Finset ι) (f : ι → EReal) (c : ℝ) (hc : 0 ≤ c) : (∑ i ∈ t, f i) * (c : EReal) = ∑ i ∈ t, f i * (c : EReal) := by
  classical
  induction t using Finset.induction_on with
  | empty => simp
  | insert a t h ih =>
    rw [Finset.sum_insert h, Finset.sum_insert h, EReal.right_distrib_of_nonneg_of_ne_top (EReal.coe_nonneg.2 hc) (EReal.coe_ne_top c), ih]

/-- The maximum of finitely many reals is a real, and scales with them. -/
theorem fold_real (S : Fin 256 → ℝ) (L : ℝ) (hL : 0 ≤ L) (t : Finset (Fin 256)) (ht : t.Nonempty) :
    ∃ M : ℝ, Finset.fold max ⊥ (fun j => (S j : EReal)) t = (M : EReal) ∧ Finset.fold max ⊥ (fun j => (S j : EReal) * (L : EReal)) t = ((M * L : ℝ) : EReal) := by
  induction ht using Finset.Nonempty.cons_induction with
  | singleton a => exact ⟨S a, by rw [Finset.fold_singleton, max_bot_right], by rw [Finset.fold_singleton, max_bot_right, EReal.coe_mul]⟩
  | cons a t h ht ih =>
    obtain ⟨M, h1, h2⟩ := ih
    refine ⟨max (S a) M, ?_, ?_⟩
    · rw [Finset.fold_cons, h1, coe_max]
    · rw [Finset.fold_cons, h2, max_mul_of_nonneg _ _ hL, coe_max, ← EReal.coe_mul]

/-- The two forms of the attention of one head agree. -/
theorem head_eq (s : ℝ) (S : Fin 256 → ℝ) (v : Fin 256 → EReal) :
    kHead ((s : EReal) * (((Real.log 2)⁻¹ : ℝ) : EReal)) (fun j => (S j : EReal)) v =
      rHead (s : EReal) (fun j => (S j : EReal) * ((Real.log 2 : ℝ) : EReal)) v := by
  have hL : 0 < Real.log 2 := Real.log_pos (by norm_num)
  obtain ⟨M, h1, h2⟩ := fold_real S (Real.log 2) hL.le Finset.univ Finset.univ_nonempty
  generalize hm : max (s * (Real.log 2)⁻¹) M = m
  have hk : kMax ((s : EReal) * (((Real.log 2)⁻¹ : ℝ) : EReal)) (fun j => (S j : EReal)) = (m : EReal) := by
    unfold kMax
    rw [h1, ← EReal.coe_mul, ← coe_max, hm]
  have hr : rMax (s : EReal) (fun j => (S j : EReal) * ((Real.log 2 : ℝ) : EReal)) = ((m * Real.log 2 : ℝ) : EReal) := by
    unfold rMax sMax
    rw [h2, ← coe_max, ← hm, max_mul_of_nonneg _ _ hL.le, inv_mul_cancel_right₀ hL.ne', max_comm]
  have he : ∀ x : ℝ, Ideal.exp2 ((x - m : ℝ) : EReal) = ((Real.exp (x * Real.log 2 - m * Real.log 2) : ℝ) : EReal) := by
    intro x
    rw [Ideal.exp2_coe]
    congr 1
    show (2 : ℝ) ^ (x - m) = _
    rw [Real.rpow_def_of_pos (by norm_num)]
    congr 1
    ring
  unfold kHead rHead kW
  rw [hk, hr, ← EReal.coe_mul]
  simp only [← EReal.coe_mul, ← EReal.coe_sub, he, Ideal.exp_coe]
  rw [inv_mul_cancel_right₀ hL.ne', ← coe_sum, ← EReal.coe_add]
  generalize hw : (fun j : Fin 256 => Real.exp (S j * Real.log 2 - m * Real.log 2)) = w
  have hw' : ∀ j : Fin 256, Real.exp (S j * Real.log 2 - m * Real.log 2) = w j := fun j => congrFun hw j
  simp only [hw']
  have hpos : 0 < ∑ i, w i + Real.exp (s - m * Real.log 2) :=
    add_pos_of_nonneg_of_pos (Finset.sum_nonneg fun j _ => by rw [← hw']; exact (Real.exp_pos _).le) (Real.exp_pos _)
  simp only [Ideal.div_coe hpos.ne']
  rw [sum_mul_real _ _ _ (by positivity)]
  refine Finset.sum_congr rfl fun j _ => ?_
  rw [mul_comm (w j : EReal) (v j), mul_assoc]

/-- An extended real that is neither infinity is real. -/
theorem real_of_ne {x : EReal} (h : x ≠ ⊥ ∧ x ≠ ⊤) : ∃ r : ℝ, x = (r : EReal) := ⟨x.toReal, (EReal.coe_toReal h.2 h.1).symm⟩

/-- The logarithm of the word of 2. -/
theorem log_word_two : Ideal.log (Ideal.ofBits FTy.f32 1073741824#32) = ((Real.log 2 : ℝ) : EReal) := by
  rw [word_two, Ideal.log_coe, if_neg (by norm_num)]

/-- The kernel's scaled logit of a sink. -/
theorem sinkLog_eq (x0 : Vec Ideal Cert.KernelIdeal.S8 .f32) (h : ℕ) (hh : h < 8) :
    sinkLog x0 h hh = x0 (ix1 (⟨h, hh⟩ : Fin 8)) * (((Real.log 2)⁻¹ : ℝ) : EReal) := by
  unfold sinkLog Cert.KernelIdeal.Gen.k0_pay6
  rw [IdealRules.named_const.ideal_named_scalar _ _ _ _ rfl]
  rfl

open Cert.KernelIdeal Cert.KernelIdeal.Arr in
/-- The attention of a row and channel is the reference's, where the sinks, the queries and the keys are finite. -/
theorem att_eq (x0 : Vec Ideal S8 .f32) (x1 : Vec Ideal S8192x512 .bf16) (x2 : Vec Ideal S256x8192 .bf16) (x3 : Vec Ideal S8192x256 .bf16)
    (h0 : ∀ i, (x0 i : EReal) ≠ ⊥ ∧ (x0 i : EReal) ≠ ⊤) (h1 : ∀ i, (x1 i : EReal) ≠ ⊥ ∧ (x1 i : EReal) ≠ ⊤)
    (h2 : ∀ i, (x2 i : EReal) ≠ ⊥ ∧ (x2 i : EReal) ≠ ⊤) (r : Fin 8192) (n : Fin 512) :
    gAtt x0 x1 x2 x3 r n = Cert.ReferenceIdeal.Read.val_main_v37 (F := Ideal) x0 x1 x2 x3 (ix2 r n) := by
  rw [Cert.ReferenceIdeal.Row.att_apply, log_word_two]
  unfold gAtt gScore gVal
  rw [sinkLog_eq]
  obtain ⟨s, hs⟩ := real_of_ne (h0 (ix1 (⟨n / 64, by omega⟩ : Fin 8)))
  choose y1 hy1 using fun i => real_of_ne (h1 i)
  choose y2 hy2 using fun i => real_of_ne (h2 i)
  rw [hs]
  simp only [hy1, hy2, ← EReal.coe_mul (y1 _), ← coe_sum]
  exact head_eq _ _ _

end Cert.AttEq
-- ==== Proof.Finite.lean ====
/- The side conditions of the precondition's operations, and what the precondition says: the sinks, the queries and the keys are finite. -/
module

public import proofs.«01_k».proof.Pre_finite_scores
public import Idealize.ShloMosaic.Lib.Pipeline.ValueKit

@[expose] public section

noncomputable section

namespace Cert.Pre_finite_scores

open Idealize.ShloMosaic Idealize.ShloMosaic.TcCoe

instance facts : Facts where
  bcast_S_S8 := by decide
  bitsLt_bf16_f32 := by decide
  bcast_S_S8192x512 := by decide
  bcast_S_S256x8192 := by decide

/-- An extended real whose absolute value is below the word of infinity is finite. -/
theorem finite_of_lt (x : EReal) (h : Ideal.cmp .olt (max x (-x)) (Ideal.ofBits .f32 0x7F800000#32) = 1#1) : x ≠ ⊥ ∧ x ≠ ⊤ := by
  have hw : Ideal.ofBits .f32 0x7F800000#32 = (⊤ : EReal) := by
    simp [Ideal.ofBits, Ideal.ieee]
  rw [hw] at h
  constructor
  · rintro rfl
    simp [Ideal.cmp] at h
  · rintro rfl
    simp [Ideal.cmp] at h

variable (x0 : FVec Ideal S8 .f32) (x1 : FVec Ideal S8192x512 .bf16) (x2 : FVec Ideal S256x8192 .bf16) (x3 : FVec Ideal S8192x256 .bf16)
  (x4 : FVec Ideal S8192x1024 .f32) (x5 : FVec Ideal S16x6144 .f32) (x6 : FVec Ideal S8192x512 .bf16)
  (x7 : FVec Ideal S8192x2048 .bf16) (x8 : FVec Ideal S1x1024 .f32) (x9 : FVec Ideal S512x1024 .bf16) (x10 : FVec Ideal S512x1024 .bf16)
  (x11 : FVec Ideal S1024x1024 .bf16) (x12 : FVec Ideal S1024x5632 .bf16) (x13 : FVec Ideal S2816x1024 .bf16)

/-- Where the precondition's first array is all ones, the sinks are finite. -/
theorem finite0 (h : (fn (F := Ideal) x0 x1 x2 x3 x4 x5 x6 x7 x8 x9 x10 x11 x12 x13).1 = fun _ => 1#1) (i : S8.Idx) :
    (x0 i : EReal) ≠ ⊥ ∧ (x0 i : EReal) ≠ ⊤ := finite_of_lt _ (congrFun h i)

/-- Where its second array is all ones, the queries are finite. -/
theorem finite1 (h : (fn (F := Ideal) x0 x1 x2 x3 x4 x5 x6 x7 x8 x9 x10 x11 x12 x13).2.1 = fun _ => 1#1) (i : S8192x512.Idx) :
    (x1 i : EReal) ≠ ⊥ ∧ (x1 i : EReal) ≠ ⊤ := finite_of_lt _ (congrFun h i)

/-- Where its third array is all ones, the keys are finite. -/
theorem finite2 (h : (fn (F := Ideal) x0 x1 x2 x3 x4 x5 x6 x7 x8 x9 x10 x11 x12 x13).2.2 = fun _ => 1#1) (i : S256x8192.Idx) :
    (x2 i : EReal) ≠ ⊥ ∧ (x2 i : EReal) ≠ ⊤ := finite_of_lt _ (congrFun h i)

end Cert.Pre_finite_scores
-- ==== Proof.LatRead.lean ====
/- The values of the second reference's lines, as functions of its arguments, and its result as the last of them. -/
module

public import proofs.«01_k».proof.Proof.Gen.Reference2Ideal.Run
public import Idealize.ShloMosaic.Lib.Pipeline.Value
public import Idealize.ShloMosaic.Lib.ValueIdx
public import Idealize.ShloMosaic.PureOps.Ideal.Laws

@[expose] public section

noncomputable section

namespace Cert.Reference2Ideal.Read

open Cert.Reference2Ideal Cert.Reference2Ideal.Gen Idealize.ShloMosaic Idealize.ShloMosaic.TcCoe Idealize.SL.Sem Idealize.ShloMosaic.StableHlo

variable {F : FTy → Type} [FloatOps F]
  (x0 : (⟨S8, .f32⟩ : BufTy).Contents (Elt F))
  (x1 : (⟨S8192x512, .bf16⟩ : BufTy).Contents (Elt F))
  (x2 : (⟨S256x8192, .bf16⟩ : BufTy).Contents (Elt F))
  (x3 : (⟨S8192x256, .bf16⟩ : BufTy).Contents (Elt F))
  (x4 : (⟨S8x128x256, .f32⟩ : BufTy).Contents (Elt F))
  (x5 : (⟨S8x128x256, .f32⟩ : BufTy).Contents (Elt F))
  (x6 : (⟨S8192x1024, .f32⟩ : BufTy).Contents (Elt F))
  (x7 : (⟨S16x6144, .f32⟩ : BufTy).Contents (Elt F))
  (x8 : (⟨S8192x512, .bf16⟩ : BufTy).Contents (Elt F))
  (x9 : (⟨S8192x2048, .bf16⟩ : BufTy).Contents (Elt F))
  (x10 : (⟨S1x1024, .f32⟩ : BufTy).Contents (Elt F))
  (x11 : (⟨S512x1024, .bf16⟩ : BufTy).Contents (Elt F))
  (x12 : (⟨S512x1024, .bf16⟩ : BufTy).Contents (Elt F))
  (x13 : (⟨S1024x1024, .bf16⟩ : BufTy).Contents (Elt F))
  (x14 : (⟨S1024x5632, .bf16⟩ : BufTy).Contents (Elt F))
  (x15 : (⟨S2816x1024, .bf16⟩ : BufTy).Contents (Elt F))

def val_main_v0 : (⟨S8192x512, .f32⟩ : BufTy).Contents (Elt F) :=
  extf .f32 (x1) bitsLt_bf16_f32

def val_main_v1 : (⟨S256x8192, .f32⟩ : BufTy).Contents (Elt F) :=
  extf .f32 (x2) bitsLt_bf16_f32

def val_main_v2 : (⟨S8192x256, .f32⟩ : BufTy).Contents (Elt F) :=
  extf .f32 (x3) bitsLt_bf16_f32

def val_main_v3 : (⟨S8192x512, .f32⟩ : BufTy).Contents (Elt F) :=
  extf .f32 (x8) bitsLt_bf16_f32

def val_main_v4 : (⟨S8192x2048, .f32⟩ : BufTy).Contents (Elt F) :=
  extf .f32 (x9) bitsLt_bf16_f32

def val_main_v5 : (⟨S512x1024, .f32⟩ : BufTy).Contents (Elt F) :=
  extf .f32 (x11) bitsLt_bf16_f32

def val_main_v6 : (⟨S512x1024, .f32⟩ : BufTy).Contents (Elt F) :=
  extf .f32 (x12) bitsLt_bf16_f32

def val_main_v7 : (⟨S1024x1024, .f32⟩ : BufTy).Contents (Elt F) :=
  extf .f32 (x13) bitsLt_bf16_f32

def val_main_v8 : (⟨S1024x5632, .f32⟩ : BufTy).Contents (Elt F) :=
  extf .f32 (x14) bitsLt_bf16_f32

def val_main_v9 : (⟨S2816x1024, .f32⟩ : BufTy).Contents (Elt F) :=
  extf .f32 (x15) bitsLt_bf16_f32

def val_main_v10 : (⟨S8x1024x2x2x2x64, .f32⟩ : BufTy).Contents (Elt F) :=
  shapeCast _ (val_main_v0 (F := F) x1) shapeCasts_S8192x512_S8x1024x2x2x2x64

def val_main_v11 : (⟨S2x2x64x8x1024, .f32⟩ : BufTy).Contents (Elt F) :=
  shapeCast _ (val_main_v1 (F := F) x2) shapeCasts_S256x8192_S2x2x64x8x1024

def val_main_v12 : (⟨S8x1024x2x2x64, .f32⟩ : BufTy).Contents (Elt F) :=
  shapeCast _ (val_main_v2 (F := F) x3) shapeCasts_S8192x256_S8x1024x2x2x64

def val_main_v13 : (⟨S8x2x64x256, .f32⟩ : BufTy).Contents (Elt F) :=
  shapeCast _ (x4) shapeCasts_S8x128x256_S8x2x64x256

def val_main_v14 : (⟨S8x2x64x256, .f32⟩ : BufTy).Contents (Elt F) :=
  shapeCast _ (x5) shapeCasts_S8x128x256_S8x2x64x256

def val_main_v15 : (⟨S1024x1024, .i32⟩ : BufTy).Contents (Elt F) :=
  iotaInDim S1024x1024 32 0

def val_main_v16 : (⟨S1024x1024, .i32⟩ : BufTy).Contents (Elt F) :=
  iotaInDim S1024x1024 32 1

def val_main_v17 : (⟨S1024x1024, .i32⟩ : BufTy).Contents (Elt F) :=
  subi (val_main_v15 (F := F)) (val_main_v16 (F := F))

def val_main_v18 : (⟨S1024x1024, .i32⟩ : BufTy).Contents (Elt F) :=
  absi (val_main_v17 (F := F))

def val_main_c : (⟨S_, .i32⟩ : BufTy).Contents (Elt F) :=
  constantI S_ 32 128#32

def val_main_v19 : (⟨S1024x1024, .i32⟩ : BufTy).Contents (Elt F) :=
  broadcastInDim S1024x1024 ![] bcast_S_S1024x1024 (val_main_c (F := F))

def val_main_v20 : (⟨S1024x1024, .i1⟩ : BufTy).Contents (Elt F) :=
  cmpi .sle (val_main_v18 (F := F)) (val_main_v19 (F := F))

def val_main_cst : (⟨S_, .f32⟩ : BufTy).Contents (Elt F) :=
  constant S_ .f32 0x40000000#32

def val_main_v21 : (⟨S_, .f32⟩ : BufTy).Contents (Elt F) :=
  Host.log (val_main_cst (F := F))

def val_main_v22 : (⟨S8x2x2x1024x1024x2, .f32⟩ : BufTy).Contents (Elt F) :=
  Host.dotGeneral dot_S2x2x64x8x1024_S8x1024x2x2x2x64_S8x2x2x1024x1024x2_2_5_4_13_301_024 none (val_main_v11 (F := F) x2) (val_main_v10 (F := F) x1)

def val_main_v23 : (⟨S8x2x2x2x1024x1024, .f32⟩ : BufTy).Contents (Elt F) :=
  transpose S8x2x2x2x1024x1024 [0, 1, 5, 2, 4, 3] (val_main_v22 (F := F) x1 x2) transposes_S8x2x2x1024x1024x2_S8x2x2x2x1024x1024_0_1_5_2_4_3

def val_main_v24 : (⟨S8x2x2x2x1024x1024, .f32⟩ : BufTy).Contents (Elt F) :=
  broadcastInDim S8x2x2x2x1024x1024 ![] bcast_S_S8x2x2x2x1024x1024 (val_main_v21 (F := F))

def val_main_v25 : (⟨S8x2x2x2x1024x1024, .f32⟩ : BufTy).Contents (Elt F) :=
  mulf (val_main_v23 (F := F) x1 x2) (val_main_v24 (F := F))

def val_main_cst_0 : (⟨S_, .f32⟩ : BufTy).Contents (Elt F) :=
  constant S_ .f32 0xFF800000#32

def val_main_call0_v0 : (⟨S_, .f32⟩ : BufTy).Contents (Elt F) :=
  id (val_main_cst_0 (F := F))

def val_main_call0_v1 : (⟨S8x2x2x2x1024x1024, .i1⟩ : BufTy).Contents (Elt F) :=
  broadcastInDim S8x2x2x2x1024x1024 ![4, 5] bcast_S1024x1024_S8x2x2x2x1024x1024_4_5 (val_main_v20 (F := F))

def val_main_call0_v2 : (⟨S8x2x2x2x1024x1024, .f32⟩ : BufTy).Contents (Elt F) :=
  broadcastInDim S8x2x2x2x1024x1024 ![] bcast_S_S8x2x2x2x1024x1024 (val_main_call0_v0 (F := F))

def val_main_v26 : (⟨S8x2x2x2x1024x1024, .f32⟩ : BufTy).Contents (Elt F) :=
  select (val_main_call0_v1 (F := F)) (val_main_v25 (F := F) x1 x2) (val_main_call0_v2 (F := F))

def val_main_v27 : (⟨S8x2x256x1024x2x2, .f32⟩ : BufTy).Contents (Elt F) :=
  Host.dotGeneral dot_S8x2x64x256_S8x1024x2x2x2x64_S8x2x256x1024x2x2_2_5_3_134_01_02 none (val_main_v13 (F := F) x4) (val_main_v10 (F := F) x1)

def val_main_v28 : (⟨S8x2x2x2x1024x256, .f32⟩ : BufTy).Contents (Elt F) :=
  transpose S8x2x2x2x1024x256 [0, 1, 4, 5, 3, 2] (val_main_v27 (F := F) x1 x4) transposes_S8x2x256x1024x2x2_S8x2x2x2x1024x256_0_1_4_5_3_2

def val_main_v29 : (⟨S8x2x2x2x1024x256, .f32⟩ : BufTy).Contents (Elt F) :=
  broadcastInDim S8x2x2x2x1024x256 ![] bcast_S_S8x2x2x2x1024x256 (val_main_v21 (F := F))

def val_main_v30 : (⟨S8x2x2x2x1024x256, .f32⟩ : BufTy).Contents (Elt F) :=
  mulf (val_main_v28 (F := F) x1 x4) (val_main_v29 (F := F))

def val_main_v31 : (⟨S8x2x2x2x1024x1280, .f32⟩ : BufTy).Contents (Elt F) :=
  concatenate S8x2x2x2x1024x1280 5 [⟨S8x2x2x2x1024x1024, (val_main_v26 (F := F) x1 x2)⟩, ⟨S8x2x2x2x1024x256, (val_main_v30 (F := F) x1 x4)⟩] concatenates_S8x2x2x2x1024x1024_S8x2x2x2x1024x256_S8x2x2x2x1024x1280_d5

def val_main_v32 : (⟨S2x2x2, .f32⟩ : BufTy).Contents (Elt F) :=
  shapeCast _ (x0) shapeCasts_S8_S2x2x2

def val_main_v33 : (⟨S1x2x2x2x1, .f32⟩ : BufTy).Contents (Elt F) :=
  broadcastInDim S1x2x2x2x1 ![1, 2, 3] bcast_S2x2x2_S1x2x2x2x1_1_2_3 (val_main_v32 (F := F) x0)

def val_main_cst_1 : (⟨S_, .f32⟩ : BufTy).Contents (Elt F) :=
  constant S_ .f32 0xFF800000#32

def val_main_v34 : (⟨S8x2x2x2x1024, .f32⟩ : BufTy).Contents (Elt F) :=
  Host.reduce FloatOps.maximumf (val_main_v31 (F := F) x1 x2 x4) (val_main_cst_1 (F := F)) reducesTo_S8x2x2x2x1024x1280_S8x2x2x2x1024_d5 h_S_

def val_main_v35 : (⟨S8x2x2x2x1024, .f32⟩ : BufTy).Contents (Elt F) :=
  broadcastInDim S8x2x2x2x1024 ![0, 1, 2, 3, 4] bcast_S1x2x2x2x1_S8x2x2x2x1024_0_1_2_3_4 (val_main_v33 (F := F) x0)

def val_main_v36 : (⟨S8x2x2x2x1024, .f32⟩ : BufTy).Contents (Elt F) :=
  maximumf (val_main_v34 (F := F) x1 x2 x4) (val_main_v35 (F := F) x0)

def val_main_v37 : (⟨S8x2x2x2x1024x1, .f32⟩ : BufTy).Contents (Elt F) :=
  broadcastInDim S8x2x2x2x1024x1 ![0, 1, 2, 3, 4] bcast_S8x2x2x2x1024_S8x2x2x2x1024x1_0_1_2_3_4 (val_main_v36 (F := F) x0 x1 x2 x4)

def val_main_v38 : (⟨S8x2x2x2x1024x1280, .f32⟩ : BufTy).Contents (Elt F) :=
  broadcastInDim S8x2x2x2x1024x1280 ![0, 1, 2, 3, 4, 5] bcast_S8x2x2x2x1024x1_S8x2x2x2x1024x1280_0_1_2_3_4_5 (val_main_v37 (F := F) x0 x1 x2 x4)

def val_main_v39 : (⟨S8x2x2x2x1024x1280, .f32⟩ : BufTy).Contents (Elt F) :=
  subf (val_main_v31 (F := F) x1 x2 x4) (val_main_v38 (F := F) x0 x1 x2 x4)

def val_main_v40 : (⟨S8x2x2x2x1024x1280, .f32⟩ : BufTy).Contents (Elt F) :=
  Host.exp (val_main_v39 (F := F) x0 x1 x2 x4)

def val_main_cst_2 : (⟨S_, .f32⟩ : BufTy).Contents (Elt F) :=
  constant S_ .f32 0x00000000#32

def val_main_v41 : (⟨S8x2x2x2x1024, .f32⟩ : BufTy).Contents (Elt F) :=
  Host.reduceAdd (val_main_v40 (F := F) x0 x1 x2 x4) (val_main_cst_2 (F := F)) reducesTo_S8x2x2x2x1024x1280_S8x2x2x2x1024_d5 h_S_

def val_main_v42 : (⟨S8x2x2x2x1024, .f32⟩ : BufTy).Contents (Elt F) :=
  broadcastInDim S8x2x2x2x1024 ![0, 1, 2, 3, 4] bcast_S1x2x2x2x1_S8x2x2x2x1024_0_1_2_3_4 (val_main_v33 (F := F) x0)

def val_main_v43 : (⟨S8x2x2x2x1024, .f32⟩ : BufTy).Contents (Elt F) :=
  subf (val_main_v42 (F := F) x0) (val_main_v36 (F := F) x0 x1 x2 x4)

def val_main_v44 : (⟨S8x2x2x2x1024, .f32⟩ : BufTy).Contents (Elt F) :=
  Host.exp (val_main_v43 (F := F) x0 x1 x2 x4)

def val_main_v45 : (⟨S8x2x2x2x1024, .f32⟩ : BufTy).Contents (Elt F) :=
  addf (val_main_v41 (F := F) x0 x1 x2 x4) (val_main_v44 (F := F) x0 x1 x2 x4)

def val_main_v46 : (⟨S8x2x2x2x1024x1, .f32⟩ : BufTy).Contents (Elt F) :=
  broadcastInDim S8x2x2x2x1024x1 ![0, 1, 2, 3, 4] bcast_S8x2x2x2x1024_S8x2x2x2x1024x1_0_1_2_3_4 (val_main_v45 (F := F) x0 x1 x2 x4)

def val_main_v47 : (⟨S8x2x2x2x1024x1280, .f32⟩ : BufTy).Contents (Elt F) :=
  broadcastInDim S8x2x2x2x1024x1280 ![0, 1, 2, 3, 4, 5] bcast_S8x2x2x2x1024x1_S8x2x2x2x1024x1280_0_1_2_3_4_5 (val_main_v46 (F := F) x0 x1 x2 x4)

def val_main_v48 : (⟨S8x2x2x2x1024x1280, .f32⟩ : BufTy).Contents (Elt F) :=
  Host.divf (val_main_v40 (F := F) x0 x1 x2 x4) (val_main_v47 (F := F) x0 x1 x2 x4)

def val_main_v49 : (⟨S8x2x2x2x1024x1024, .f32⟩ : BufTy).Contents (Elt F) :=
  extractStridedSlice S8x2x2x2x1024x1024 ![0, 0, 0, 0, 0, 0] (val_main_v48 (F := F) x0 x1 x2 x4) slices_S8x2x2x2x1024x1280_S8x2x2x2x1024x1024_0_0_0_0_0_0

def val_main_v50 : (⟨S8x2x2x64x2x1024, .f32⟩ : BufTy).Contents (Elt F) :=
  Host.dotGeneral dot_S8x1024x2x2x64_S8x2x2x2x1024x1024_S8x2x2x64x2x1024_1_5_4_24_023_013 none (val_main_v12 (F := F) x3) (val_main_v49 (F := F) x0 x1 x2 x4)

def val_main_v51 : (⟨S8x1024x2x2x2x64, .f32⟩ : BufTy).Contents (Elt F) :=
  transpose S8x1024x2x2x2x64 [0, 5, 1, 4, 2, 3] (val_main_v50 (F := F) x0 x1 x2 x3 x4) transposes_S8x2x2x64x2x1024_S8x1024x2x2x2x64_0_5_1_4_2_3

def val_main_v52 : (⟨S8x2x2x2x1024x256, .f32⟩ : BufTy).Contents (Elt F) :=
  extractStridedSlice S8x2x2x2x1024x256 ![0, 0, 0, 0, 0, 1024] (val_main_v48 (F := F) x0 x1 x2 x4) slices_S8x2x2x2x1024x1280_S8x2x2x2x1024x256_0_0_0_0_0_1024

def val_main_v53 : (⟨S8x2x64x2x2x1024, .f32⟩ : BufTy).Contents (Elt F) :=
  Host.dotGeneral dot_S8x2x64x256_S8x2x2x2x1024x256_S8x2x64x2x2x1024_3_5_2_234_01_01 none (val_main_v14 (F := F) x5) (val_main_v52 (F := F) x0 x1 x2 x4)

def val_main_v54 : (⟨S8x1024x2x2x2x64, .f32⟩ : BufTy).Contents (Elt F) :=
  transpose S8x1024x2x2x2x64 [0, 5, 1, 3, 4, 2] (val_main_v53 (F := F) x0 x1 x2 x4 x5) transposes_S8x2x64x2x2x1024_S8x1024x2x2x2x64_0_5_1_3_4_2

def val_main_v55 : (⟨S8x1024x2x2x2x64, .f32⟩ : BufTy).Contents (Elt F) :=
  addf (val_main_v51 (F := F) x0 x1 x2 x3 x4) (val_main_v54 (F := F) x0 x1 x2 x4 x5)

def val_main_v56 : (⟨S8192x512, .f32⟩ : BufTy).Contents (Elt F) :=
  shapeCast _ (val_main_v55 (F := F) x0 x1 x2 x3 x4 x5) shapeCasts_S8x1024x2x2x2x64_S8192x512

def val_main_v57 : (⟨S8x6144, .f32⟩ : BufTy).Contents (Elt F) :=
  extractStridedSlice S8x6144 ![0, 0] (x7) slices_S16x6144_S8x6144_0_0

def val_main_v58 : (⟨S8x1x6144, .f32⟩ : BufTy).Contents (Elt F) :=
  broadcastInDim S8x1x6144 ![0, 2] bcast_S8x6144_S8x1x6144_0_2 (val_main_v57 (F := F) x7)

def val_main_v59 : (⟨S8x1024x6144, .f32⟩ : BufTy).Contents (Elt F) :=
  broadcastInDim S8x1024x6144 ![0, 1, 2] bcast_S8x1x6144_S8x1024x6144_0_1_2 (val_main_v58 (F := F) x7)

def val_main_v60 : (⟨S8192x6144, .f32⟩ : BufTy).Contents (Elt F) :=
  shapeCast _ (val_main_v59 (F := F) x7) shapeCasts_S8x1024x6144_S8192x6144

def val_main_v61 : (⟨S8192x1024, .f32⟩ : BufTy).Contents (Elt F) :=
  extractStridedSlice S8192x1024 ![0, 0] (val_main_v60 (F := F) x7) slices_S8192x6144_S8192x1024_0_0

def val_main_v62 : (⟨S8192x1024, .f32⟩ : BufTy).Contents (Elt F) :=
  extractStridedSlice S8192x1024 ![0, 1024] (val_main_v60 (F := F) x7) slices_S8192x6144_S8192x1024_0_1024

def val_main_v63 : (⟨S8192x1024, .f32⟩ : BufTy).Contents (Elt F) :=
  extractStridedSlice S8192x1024 ![0, 2048] (val_main_v60 (F := F) x7) slices_S8192x6144_S8192x1024_0_2048

def val_main_v64 : (⟨S8192x1024, .f32⟩ : BufTy).Contents (Elt F) :=
  extractStridedSlice S8192x1024 ![0, 3072] (val_main_v60 (F := F) x7) slices_S8192x6144_S8192x1024_0_3072

def val_main_v65 : (⟨S8192x1024, .f32⟩ : BufTy).Contents (Elt F) :=
  extractStridedSlice S8192x1024 ![0, 4096] (val_main_v60 (F := F) x7) slices_S8192x6144_S8192x1024_0_4096

def val_main_v66 : (⟨S8192x1024, .f32⟩ : BufTy).Contents (Elt F) :=
  extractStridedSlice S8192x1024 ![0, 5120] (val_main_v60 (F := F) x7) slices_S8192x6144_S8192x1024_0_5120

def val_main_v67 : (⟨S8192x1024, .f32⟩ : BufTy).Contents (Elt F) :=
  extractStridedSlice S8192x1024 ![0, 0] (val_main_v4 (F := F) x9) slices_S8192x2048_S8192x1024_0_0

def val_main_v68 : (⟨S8192x1024, .f32⟩ : BufTy).Contents (Elt F) :=
  extractStridedSlice S8192x1024 ![0, 1024] (val_main_v4 (F := F) x9) slices_S8192x2048_S8192x1024_0_1024

def val_main_v69 : (⟨S8192x1024, .f32⟩ : BufTy).Contents (Elt F) :=
  Host.dotGeneral dot_S8192x512_S512x1024_S8192x1024_1_0_0_1_n_n none (val_main_v3 (F := F) x8) (val_main_v5 (F := F) x11)

def val_main_v70 : (⟨S8192x1024, .f32⟩ : BufTy).Contents (Elt F) :=
  Host.dotGeneral dot_S8192x512_S512x1024_S8192x1024_1_0_0_1_n_n none (val_main_v56 (F := F) x0 x1 x2 x3 x4 x5) (val_main_v6 (F := F) x12)

def val_main_v71 : (⟨S8192x1024, .f32⟩ : BufTy).Contents (Elt F) :=
  mulf (val_main_v67 (F := F) x9) (val_main_v69 (F := F) x8 x11)

def val_main_v72 : (⟨S8192x1024, .f32⟩ : BufTy).Contents (Elt F) :=
  mulf (val_main_v68 (F := F) x9) (val_main_v70 (F := F) x0 x1 x2 x3 x4 x5 x12)

def val_main_v73 : (⟨S8192x1024, .f32⟩ : BufTy).Contents (Elt F) :=
  addf (val_main_v71 (F := F) x8 x9 x11) (val_main_v72 (F := F) x0 x1 x2 x3 x4 x5 x9 x12)

def val_main_v74 : (⟨S8192x1024, .f32⟩ : BufTy).Contents (Elt F) :=
  Host.dotGeneral dot_S8192x1024_S1024x1024_S8192x1024_1_0_0_1_n_n none (val_main_v73 (F := F) x0 x1 x2 x3 x4 x5 x8 x9 x11 x12) (val_main_v7 (F := F) x13)

def val_main_v75 : (⟨S8192x1024, .f32⟩ : BufTy).Contents (Elt F) :=
  mulf (val_main_v63 (F := F) x7) (val_main_v74 (F := F) x0 x1 x2 x3 x4 x5 x8 x9 x11 x12 x13)

def val_main_v76 : (⟨S8192x1024, .f32⟩ : BufTy).Contents (Elt F) :=
  addf (x6) (val_main_v75 (F := F) x0 x1 x2 x3 x4 x5 x7 x8 x9 x11 x12 x13)

def val_main_v77 : (⟨S8192x1024, .f32⟩ : BufTy).Contents (Elt F) :=
  mulf (val_main_v76 (F := F) x0 x1 x2 x3 x4 x5 x6 x7 x8 x9 x11 x12 x13) (val_main_v76 (F := F) x0 x1 x2 x3 x4 x5 x6 x7 x8 x9 x11 x12 x13)

def val_main_cst_3 : (⟨S_, .f32⟩ : BufTy).Contents (Elt F) :=
  constant S_ .f32 0x00000000#32

def val_main_v78 : (⟨S8192, .f32⟩ : BufTy).Contents (Elt F) :=
  Host.reduceAdd (val_main_v77 (F := F) x0 x1 x2 x3 x4 x5 x6 x7 x8 x9 x11 x12 x13) (val_main_cst_3 (F := F)) reducesTo_S8192x1024_S8192_d1 h_S_

def val_main_v79 : (⟨S8192x1, .f32⟩ : BufTy).Contents (Elt F) :=
  broadcastInDim S8192x1 ![0] bcast_S8192_S8192x1_0 (val_main_v78 (F := F) x0 x1 x2 x3 x4 x5 x6 x7 x8 x9 x11 x12 x13)

def val_main_cst_4 : (⟨S_, .f32⟩ : BufTy).Contents (Elt F) :=
  constant S_ .f32 0x44800000#32

def val_main_v80 : (⟨S8192x1, .f32⟩ : BufTy).Contents (Elt F) :=
  broadcastInDim S8192x1 ![] bcast_S_S8192x1 (val_main_cst_4 (F := F))

def val_main_v81 : (⟨S8192x1, .f32⟩ : BufTy).Contents (Elt F) :=
  Host.divf (val_main_v79 (F := F) x0 x1 x2 x3 x4 x5 x6 x7 x8 x9 x11 x12 x13) (val_main_v80 (F := F))

def val_main_cst_5 : (⟨S_, .f32⟩ : BufTy).Contents (Elt F) :=
  constant S_ .f32 0x358637BD#32

def val_main_v82 : (⟨S8192x1, .f32⟩ : BufTy).Contents (Elt F) :=
  broadcastInDim S8192x1 ![] bcast_S_S8192x1 (val_main_cst_5 (F := F))

def val_main_v83 : (⟨S8192x1, .f32⟩ : BufTy).Contents (Elt F) :=
  addf (val_main_v81 (F := F) x0 x1 x2 x3 x4 x5 x6 x7 x8 x9 x11 x12 x13) (val_main_v82 (F := F))

def val_main_v84 : (⟨S8192x1, .f32⟩ : BufTy).Contents (Elt F) :=
  Host.rsqrt (val_main_v83 (F := F) x0 x1 x2 x3 x4 x5 x6 x7 x8 x9 x11 x12 x13)

def val_main_v85 : (⟨S8192x1024, .f32⟩ : BufTy).Contents (Elt F) :=
  broadcastInDim S8192x1024 ![0, 1] bcast_S8192x1_S8192x1024_0_1 (val_main_v84 (F := F) x0 x1 x2 x3 x4 x5 x6 x7 x8 x9 x11 x12 x13)

def val_main_v86 : (⟨S8192x1024, .f32⟩ : BufTy).Contents (Elt F) :=
  mulf (val_main_v76 (F := F) x0 x1 x2 x3 x4 x5 x6 x7 x8 x9 x11 x12 x13) (val_main_v85 (F := F) x0 x1 x2 x3 x4 x5 x6 x7 x8 x9 x11 x12 x13)

def val_main_v87 : (⟨S8192x1024, .f32⟩ : BufTy).Contents (Elt F) :=
  broadcastInDim S8192x1024 ![0, 1] bcast_S1x1024_S8192x1024_0_1 (x10)

def val_main_v88 : (⟨S8192x1024, .f32⟩ : BufTy).Contents (Elt F) :=
  mulf (val_main_v86 (F := F) x0 x1 x2 x3 x4 x5 x6 x7 x8 x9 x11 x12 x13) (val_main_v87 (F := F) x10)

def val_main_cst_6 : (⟨S_, .f32⟩ : BufTy).Contents (Elt F) :=
  constant S_ .f32 0x3F800000#32

def val_main_v89 : (⟨S8192x1024, .f32⟩ : BufTy).Contents (Elt F) :=
  broadcastInDim S8192x1024 ![] bcast_S_S8192x1024 (val_main_cst_6 (F := F))

def val_main_v90 : (⟨S8192x1024, .f32⟩ : BufTy).Contents (Elt F) :=
  addf (val_main_v89 (F := F)) (val_main_v65 (F := F) x7)

def val_main_v91 : (⟨S8192x1024, .f32⟩ : BufTy).Contents (Elt F) :=
  mulf (val_main_v88 (F := F) x0 x1 x2 x3 x4 x5 x6 x7 x8 x9 x10 x11 x12 x13) (val_main_v90 (F := F) x7)

def val_main_v92 : (⟨S8192x1024, .f32⟩ : BufTy).Contents (Elt F) :=
  addf (val_main_v91 (F := F) x0 x1 x2 x3 x4 x5 x6 x7 x8 x9 x10 x11 x12 x13) (val_main_v64 (F := F) x7)

def val_main_v93 : (⟨S8192x5632, .f32⟩ : BufTy).Contents (Elt F) :=
  Host.dotGeneral dot_S8192x1024_S1024x5632_S8192x5632_1_0_0_1_n_n none (val_main_v92 (F := F) x0 x1 x2 x3 x4 x5 x6 x7 x8 x9 x10 x11 x12 x13) (val_main_v8 (F := F) x14)

def val_main_v94 : (⟨S8192x2816, .f32⟩ : BufTy).Contents (Elt F) :=
  extractStridedSlice S8192x2816 ![0, 0] (val_main_v93 (F := F) x0 x1 x2 x3 x4 x5 x6 x7 x8 x9 x10 x11 x12 x13 x14) slices_S8192x5632_S8192x2816_0_0

def val_main_v95 : (⟨S8192x2816, .f32⟩ : BufTy).Contents (Elt F) :=
  extractStridedSlice S8192x2816 ![0, 2816] (val_main_v93 (F := F) x0 x1 x2 x3 x4 x5 x6 x7 x8 x9 x10 x11 x12 x13 x14) slices_S8192x5632_S8192x2816_0_2816

def val_main_call1_v0 : (⟨S8192x2816, .f32⟩ : BufTy).Contents (Elt F) :=
  Host.negf (val_main_v94 (F := F) x0 x1 x2 x3 x4 x5 x6 x7 x8 x9 x10 x11 x12 x13 x14)

def val_main_call1_v1 : (⟨S8192x2816, .f32⟩ : BufTy).Contents (Elt F) :=
  Host.exp (val_main_call1_v0 (F := F) x0 x1 x2 x3 x4 x5 x6 x7 x8 x9 x10 x11 x12 x13 x14)

def val_main_call1_cst : (⟨S_, .f32⟩ : BufTy).Contents (Elt F) :=
  constant S_ .f32 0x3F800000#32

def val_main_call1_v2 : (⟨S8192x2816, .f32⟩ : BufTy).Contents (Elt F) :=
  broadcastInDim S8192x2816 ![] bcast_S_S8192x2816 (val_main_call1_cst (F := F))

def val_main_call1_v3 : (⟨S8192x2816, .f32⟩ : BufTy).Contents (Elt F) :=
  addf (val_main_call1_v2 (F := F)) (val_main_call1_v1 (F := F) x0 x1 x2 x3 x4 x5 x6 x7 x8 x9 x10 x11 x12 x13 x14)

def val_main_call1_cst_0 : (⟨S_, .f32⟩ : BufTy).Contents (Elt F) :=
  constant S_ .f32 0x3F800000#32

def val_main_call1_v4 : (⟨S8192x2816, .f32⟩ : BufTy).Contents (Elt F) :=
  broadcastInDim S8192x2816 ![] bcast_S_S8192x2816 (val_main_call1_cst_0 (F := F))

def val_main_call1_v5 : (⟨S8192x2816, .f32⟩ : BufTy).Contents (Elt F) :=
  Host.divf (val_main_call1_v4 (F := F)) (val_main_call1_v3 (F := F) x0 x1 x2 x3 x4 x5 x6 x7 x8 x9 x10 x11 x12 x13 x14)

def val_main_v96 : (⟨S8192x2816, .f32⟩ : BufTy).Contents (Elt F) :=
  mulf (val_main_v94 (F := F) x0 x1 x2 x3 x4 x5 x6 x7 x8 x9 x10 x11 x12 x13 x14) (val_main_call1_v5 (F := F) x0 x1 x2 x3 x4 x5 x6 x7 x8 x9 x10 x11 x12 x13 x14)

def val_main_v97 : (⟨S8192x2816, .f32⟩ : BufTy).Contents (Elt F) :=
  mulf (val_main_v96 (F := F) x0 x1 x2 x3 x4 x5 x6 x7 x8 x9 x10 x11 x12 x13 x14) (val_main_v95 (F := F) x0 x1 x2 x3 x4 x5 x6 x7 x8 x9 x10 x11 x12 x13 x14)

def val_main_v98 : (⟨S8192x1024, .f32⟩ : BufTy).Contents (Elt F) :=
  Host.dotGeneral dot_S8192x2816_S2816x1024_S8192x1024_1_0_0_1_n_n none (val_main_v97 (F := F) x0 x1 x2 x3 x4 x5 x6 x7 x8 x9 x10 x11 x12 x13 x14) (val_main_v9 (F := F) x15)

def val_main_v99 : (⟨S8192x1024, .f32⟩ : BufTy).Contents (Elt F) :=
  mulf (val_main_v66 (F := F) x7) (val_main_v98 (F := F) x0 x1 x2 x3 x4 x5 x6 x7 x8 x9 x10 x11 x12 x13 x14 x15)

def val_main_v100 : (⟨S8192x1024, .f32⟩ : BufTy).Contents (Elt F) :=
  addf (val_main_v76 (F := F) x0 x1 x2 x3 x4 x5 x6 x7 x8 x9 x11 x12 x13) (val_main_v99 (F := F) x0 x1 x2 x3 x4 x5 x6 x7 x8 x9 x10 x11 x12 x13 x14 x15)

theorem val_main_v100_eq (V0 : Valuation τ sig (Elt F)) :
    addf (Cert.Reference2Ideal.Value.res_main_v76 V0) (mulf (extractStridedSlice S8192x1024 ![0, 5120] (Cert.Reference2Ideal.Value.res_main_v60 V0) slices_S8192x6144_S8192x1024_0_5120) (Host.dotGeneral dot_S8192x2816_S2816x1024_S8192x1024_1_0_0_1_n_n none (mulf (mulf (Cert.Reference2Ideal.Value.res_main_v94 V0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Cert.Reference2Ideal.Value.res_main_v94 V0)))))) (extractStridedSlice S8192x2816 ![0, 2816] (Cert.Reference2Ideal.Value.res_main_v93 V0) slices_S8192x5632_S8192x2816_0_2816)) (extf .f32 (V0 (Proc.devRef .tc main_arg15)) bitsLt_bf16_f32)))
      = val_main_v100 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := rfl

end Cert.Reference2Ideal.Read

end
-- ==== Proof.LatRefRow.lean ====
/- The second reference's result, row by row: the layer's tail of a row over the reference's attention, and that attention in one head. -/
module

public import proofs.«01_k».proof.Proof.LatRead
public import proofs.«01_k».proof.Proof.RefRow

@[expose] public section

set_option maxRecDepth 16384

noncomputable section

namespace Cert.Reference2Ideal.Row

open Cert.Reference2Ideal Cert.Reference2Ideal.Gen Cert.Reference2Ideal.Read Idealize.ShloMosaic Idealize.ShloMosaic.TcCoe Idealize.SL.Sem

variable (x0 : Vec Ideal S8 .f32) (x1 : Vec Ideal S8192x512 .bf16) (x2 : Vec Ideal S256x8192 .bf16) (x3 : Vec Ideal S8192x256 .bf16)
  (x4 x5 : Vec Ideal S8x128x256 .f32) (x6 : Vec Ideal S8192x1024 .f32) (x7 : Vec Ideal S16x6144 .f32) (x8 : Vec Ideal S8192x512 .bf16)
  (x9 : Vec Ideal S8192x2048 .bf16) (x10 : Vec Ideal S1x1024 .f32) (x11 : Vec Ideal S512x1024 .bf16) (x12 : Vec Ideal S512x1024 .bf16)
  (x13 : Vec Ideal S1024x1024 .bf16) (x14 : Vec Ideal S1024x5632 .bf16) (x15 : Vec Ideal S2816x1024 .bf16)

/-! ## The tail -/

/-- What the rows of the sequence of row `r` share. -/
def par (r : Fin 8192) : Row.Par where
  md n := x7 (ix2 (⟨r / 1024, by omega⟩ : Fin 16) n)
  g2 n := x10 (ix2 (0 : Fin 1) n)
  wf k n := x11 (ix2 k n)
  wao k n := x12 (ix2 k n)
  wout k n := x13 (ix2 k n)
  wup k n := x14 (ix2 k n)
  wdn k n := x15 (ix2 k n)

/-- A row, over the reference's attention. -/
def row (r : Fin 8192) : Row.Row where
  x n := x6 (ix2 r n)
  mx n := x8 (ix2 r n)
  a n := val_main_v56 (F := Ideal) x0 x1 x2 x3 x4 x5 (ix2 r n)
  gt n := x9 (ix2 r n)

/-- The modulation of a row: that of its sequence. -/
theorem mod_apply (r : Fin 8192) (n : Fin 6144) : val_main_v60 (F := Ideal) x7 (ix2 r n) = x7 (ix2 (⟨r / 1024, by omega⟩ : Fin 16) n) := by
  pointwise [val_main_v60, val_main_v59, val_main_v58, val_main_v57]

/-- The residual stream after the mixers. -/
theorem x1_apply (r : Fin 8192) (n : Fin 1024) :
    val_main_v76 (F := Ideal) x0 x1 x2 x3 x4 x5 x6 x7 x8 x9 x11 x12 x13 (ix2 r n) =
      Row.x1 (par x7 x10 x11 x12 x13 x14 x15 r) (row x0 x1 x2 x3 x4 x5 x6 x8 x9 r) n := by
  pointwise [val_main_v76, val_main_v75, val_main_v74, val_main_v73, val_main_v72, val_main_v71, val_main_v70, val_main_v69, val_main_v68, val_main_v67, val_main_v63, val_main_v3, val_main_v4, val_main_v5, val_main_v6, val_main_v7]
  simp only [mod_apply]
  rfl

/-- The normalized row. -/
theorem norm_apply (r : Fin 8192) (n : Fin 1024) :
    val_main_v92 (F := Ideal) x0 x1 x2 x3 x4 x5 x6 x7 x8 x9 x10 x11 x12 x13 (ix2 r n) =
      Row.norm (par x7 x10 x11 x12 x13 x14 x15 r) (Row.x1 (par x7 x10 x11 x12 x13 x14 x15 r) (row x0 x1 x2 x3 x4 x5 x6 x8 x9 r)) n := by
  pointwise [val_main_v92, val_main_v91, val_main_v90, val_main_v89, val_main_v88, val_main_v87, val_main_v86, val_main_v85, val_main_v84, val_main_v83, val_main_v82, val_main_v81, val_main_v80, val_main_v79, val_main_v78, val_main_v77, val_main_v65, val_main_v64, val_main_cst_3, val_main_cst_4, val_main_cst_5, val_main_cst_6]
  simp only [mod_apply, x1_apply (x10 := x10) (x14 := x14) (x15 := x15)]
  rfl

/-- The activations over the normalized row as the reference writes it. -/
theorem act_of_norm (r : Fin 8192) (c : Fin 2816) :
    val_main_v97 (F := Ideal) x0 x1 x2 x3 x4 x5 x6 x7 x8 x9 x10 x11 x12 x13 x14 (ix2 r c) =
      Row.act (par x7 x10 x11 x12 x13 x14 x15 r) (fun n => val_main_v92 (F := Ideal) x0 x1 x2 x3 x4 x5 x6 x7 x8 x9 x10 x11 x12 x13 (ix2 r n)) c := by
  unfold Row.act
  rw [zero_sub]
  pointwise [val_main_v97, val_main_v96, val_main_v95, val_main_v94, val_main_v93, val_main_call1_v5, val_main_call1_v4, val_main_call1_v3, val_main_call1_v2, val_main_call1_v1, val_main_call1_v0, val_main_call1_cst, val_main_call1_cst_0, val_main_v8]
  rfl

/-- The activations. -/
theorem act_apply (r : Fin 8192) (c : Fin 2816) :
    val_main_v97 (F := Ideal) x0 x1 x2 x3 x4 x5 x6 x7 x8 x9 x10 x11 x12 x13 x14 (ix2 r c) =
      Row.act (par x7 x10 x11 x12 x13 x14 x15 r) (Row.norm (par x7 x10 x11 x12 x13 x14 x15 r) (Row.x1 (par x7 x10 x11 x12 x13 x14 x15 r) (row x0 x1 x2 x3 x4 x5 x6 x8 x9 r))) c := by
  rw [act_of_norm (x15 := x15)]
  exact congrArg (fun y => Row.act (par x7 x10 x11 x12 x13 x14 x15 r) y c) (funext fun n => norm_apply (x14 := x14) (x15 := x15) ..)

/-- The reference's result is the tail of each row over the reference's attention. -/
theorem out_apply (r : Fin 8192) (n : Fin 1024) :
    val_main_v100 (F := Ideal) x0 x1 x2 x3 x4 x5 x6 x7 x8 x9 x10 x11 x12 x13 x14 x15 (ix2 r n) = Row.tail (par x7 x10 x11 x12 x13 x14 x15 r) (row x0 x1 x2 x3 x4 x5 x6 x8 x9 r) n := by
  pointwise [val_main_v100, val_main_v99, val_main_v98, val_main_v66, val_main_v9]
  simp only [mod_apply, act_apply (x15 := x15), x1_apply (x10 := x10) (x14 := x14) (x15 := x15)]
  rfl

/-! ## The attention -/

/-- The maximum of the scores of 1280 keys. -/
def sMax (S : Fin 1280 → EReal) : EReal := Finset.fold max ⊥ S Finset.univ

/-- The maximum of the scores and the sink's logit. -/
def rMax (s : EReal) (S : Fin 1280 → EReal) : EReal := max (sMax S) s

/-- The weight of a key. -/
def rW (s : EReal) (S : Fin 1280 → EReal) (j : Fin 1280) : EReal :=
  Ideal.div (Ideal.exp (S j - rMax s S)) ((∑ k, Ideal.exp (S k - rMax s S)) + Ideal.exp (s - rMax s S))

theorem red : S8x2x2x2x1024x1280.Reduces [5] S8x2x2x2x1024 := by decide

/-- An index with the reduced coordinate put back. -/
theorem lift_red (a : Fin 8) (b c d : Fin 2) (q : Fin 1024) (k : Fin 1280) : red.lift (ix5 a b c d q) k = (ix6 a b c d q k : S8x2x2x2x1024x1280.Idx) := by
  funext e
  apply Fin.ext
  match e with
  | ⟨0, _⟩ => rfl
  | ⟨1, _⟩ => rfl
  | ⟨2, _⟩ => rfl
  | ⟨3, _⟩ => rfl
  | ⟨4, _⟩ => rfl
  | ⟨5, _⟩ => rfl

variable (a : Fin 8) (b c d : Fin 2) (q : Fin 1024)

/-- The scores of the keys of the sequence. -/
theorem score_apply (k : Fin 1024) :
    val_main_v25 (F := Ideal) x1 x2 (ix6 a b c d q k) =
      (∑ x : Fin 64, x2 (ix2 (⟨b * 128 + d * 64 + x, by omega⟩ : Fin 256) (⟨a * 1024 + k, by omega⟩ : Fin 8192)) *
          x1 (ix2 (⟨a * 1024 + q, by omega⟩ : Fin 8192) (⟨b * 256 + c * 128 + d * 64 + x, by omega⟩ : Fin 512))) *
        Ideal.log (Ideal.ofBits FTy.f32 1073741824#32) := by
  pointwise [val_main_v25, val_main_v24, val_main_v23, val_main_v22, val_main_v21, val_main_v11, val_main_v10, val_main_v0, val_main_v1, val_main_cst]

/-- The scores of the keys of the context. -/
theorem ctx_apply (k : Fin 256) :
    val_main_v30 (F := Ideal) x1 x4 (ix6 a b c d q k) =
      (∑ x : Fin 64, x4 (ix3 a (⟨b * 64 + x, by omega⟩ : Fin 128) k) *
          x1 (ix2 (⟨a * 1024 + q, by omega⟩ : Fin 8192) (⟨b * 256 + c * 128 + d * 64 + x, by omega⟩ : Fin 512))) *
        Ideal.log (Ideal.ofBits FTy.f32 1073741824#32) := by
  pointwise [val_main_v30, val_main_v29, val_main_v28, val_main_v27, val_main_v21, val_main_v13, val_main_v10, val_main_v0, val_main_cst]

end Cert.Reference2Ideal.Row
-- ==== Proof.LatPieces.lean ====
/- The attention stages of one grid point of the second call, written once: the pieces the stages store in the distance, key, value, score,
   weight, sink and attention buffers, as functions of the loads they make. -/
module

public import proofs.«01_k».proof.Proof.Gen.Kernel2Ideal.Skeleton
public import Idealize.ShloMosaic.Lib.Pipeline.ValueKit
public import Idealize.ShloMosaic.Lib.Pipeline.ReadBack

@[expose] public section

set_option maxRecDepth 16384

noncomputable section

namespace Cert.Kernel2Ideal.Att

open Cert.Kernel2Ideal Cert.Kernel2Ideal.Gen Idealize.ShloMosaic Idealize.ShloMosaic.TcCoe Idealize.SL.Sem

variable {F : FTy → Type} [FloatOps F] [Named F]

/-- An offset and a size per axis of a rank-3 buffer fit when they fit axis by axis. -/
theorem fit3 {a b c d e f x y z : ℕ} (h0 : a + d ≤ x) (h1 : b + e ≤ y) (h2 : c + f ≤ z) :
    ∀ i : Fin 3, (![a, b, c] : Fin 3 → ℕ) i + (![d, e, f] : Fin 3 → ℕ) i ≤ (![x, y, z] : Fin 3 → ℕ) i := by
  intro i; fin_cases i <;> assumption

/-- The same at rank 2. -/
theorem fit2 {a b c d x y : ℕ} (h0 : a + c ≤ x) (h1 : b + d ≤ y) :
    ∀ i : Fin 2, (![a, b] : Fin 2 → ℕ) i + (![c, d] : Fin 2 → ℕ) i ≤ (![x, y] : Fin 2 → ℕ) i := by
  intro i; fin_cases i <;> assumption

/-! ## Where a grid point works -/

/-- Which half of its sequence grid point `n` attends from, as the kernel computes it. -/
def tileW (n : ℕ) : BitVec 32 :=
  let v11 : BitVec 32 := Scalar.minsi (BitVec.ofNat 32 n) 15#32
  let v13 : BitVec 32 := Scalar.select (Scalar.cmpi .eq 2#32 0#32) 1#32 2#32
  let v14 : BitVec 32 := Scalar.remsi v11 v13
  Scalar.select (Scalar.andi (Scalar.xori (Scalar.cmpi .slt v14 0#32) (Scalar.cmpi .slt v13 0#32)) (Scalar.cmpi .ne v14 0#32)) (Scalar.addi v14 v13) v14

/-- The first key of the window of query block `rr`, as the kernel computes it. -/
def startW (n rr : ℕ) : BitVec 32 :=
  Scalar.minsi 640#32 (Scalar.maxsi 0#32 (Scalar.subi (Scalar.addi (Scalar.muli (tileW n) 512#32) (BitVec.ofNat 32 (128 * rr))) 128#32))

/-- The same as an offset. -/
def start (n rr : ℕ) : ℕ := (Scalar.indexCast (startW n rr) : Index).toNat

/-- It is the first query less 128, clipped to the keys that leave room for 384. -/
theorem start_eq : ∀ n : Fin 17, ∀ rr : Fin 4, start n rr = min 640 (512 * (min n.val 15 % 2) + 128 * rr - 128) := by decide +kernel

/-- The window fits in the sequence. -/
theorem start_le (n : ℕ) (hn : n < 17) (rr : ℕ) (hr : rr < 4) : start n rr + 384 ≤ 1024 := by
  have := start_eq ⟨n, hn⟩ ⟨rr, hr⟩
  simp only at this
  omega

/-- The operands that the attention stages read and the buffers that they keep their work in. -/
structure Env (F : FTy → Type) where
  n : ℕ
  hn : n < 17
  arg1 : Memref sig .tc .smem S8 .f32
  harg1 : arg1.IsWhole
  arg2 : Memref sig .tc .vmem S512x512 .bf16
  harg2 : arg2.IsWhole
  arg3 : Memref sig .tc .vmem S256x1024 .bf16
  harg3 : arg3.IsWhole
  arg4 : Memref sig .tc .vmem S1024x256 .bf16
  harg4 : arg4.IsWhole
  arg5 : Memref sig .tc .vmem S1x128x256 .f32
  harg5 : arg5.IsWhole
  arg6 : Memref sig .tc .vmem S1x128x256 .f32
  harg6 : arg6.IsWhole
  arg19 : Memref sig .tc .vmem S2x256x1280 .f32
  arg20 : Memref sig .tc .vmem S2x256x1280 .bf16
  arg21 : Memref sig .tc .vmem S2x256x128 .f32
  arg22 : Memref sig .tc .vmem S4x128x384 .i32
  arg23 : Memref sig .tc .vmem S256x256 .bf16
  arg24 : Memref sig .tc .vmem S256x256 .bf16
  x0 : Vec F S8 .f32
  x1 : Vec F S512x512 .bf16
  x2 : Vec F S256x1024 .bf16
  x3 : Vec F S1024x256 .bf16
  x4 : Vec F S1x128x256 .f32
  x5 : Vec F S1x128x256 .f32

variable (v : Env F)

/-! ## The buffers that all units read -/

/-- The store of the distances of query block `rr`. -/
def distPiece (rr : ℕ) (hr : rr < 4) : View.Piece (Elt F) S4x128x384 .i32 :=
  ⟨Rect.unit (s := S4x128x384) ![rr, 0, 0] S1x128x384.size (fit3 (by omega) (by omega) (by omega)),
    k0_pay8 (Scalar.muli (tileW v.n) 512#32) (BitVec.ofNat 32 (128 * rr))⟩

/-- The four stores of distances. -/
def distPieces : List (View.Piece (Elt F) S4x128x384 .i32) :=
  [distPiece v 3 (by omega), distPiece v 2 (by omega), distPiece v 1 (by omega), distPiece v 0 (by omega)]

/-- The store of the context keys. -/
def cktPieces : List (View.Piece (Elt F) S256x256 .bf16) :=
  [⟨Rect.unit (s := S256x256) ![0, 0] S256x256.size (fit2 (by omega) (by omega)),
    k0_pay6 (View.readAt (Elt F) v.arg5.view (Rect.unit (s := S1x128x256) ![0, 0, 0] S1x128x256.size (fit3 (by omega) (by omega) (by omega))).toLoadRect (v.harg5.unread v.x4))⟩]

/-- The store of the context values. -/
def cvdPieces : List (View.Piece (Elt F) S256x256 .bf16) :=
  [⟨Rect.unit (s := S256x256) ![0, 0] S256x256.size (fit2 (by omega) (by omega)),
    k0_pay7 (View.readAt (Elt F) v.arg6.view (Rect.unit (s := S1x128x256) ![0, 0, 0] S1x128x256.size (fit3 (by omega) (by omega) (by omega))).toLoadRect (v.harg6.unread v.x5))⟩]

/-- The load of the distances of 64 rows of query block `rr`. -/
def dLd (rr r0 : ℕ) (hr : rr < 4) (h0 : r0 + 64 ≤ 128) : Vec F S1x64x384 .i32 :=
  v.arg22.view.readCov (distPieces v) (Rect.unit (s := S4x128x384) ![rr, r0, 0] S1x64x384.size (fit3 (by omega) h0 (by omega))).toLoadRect

/-- The load of sink logit `i`, times the constant. -/
def sk (i : ℕ) (hi : i + 1 ≤ 8) : F .f32 :=
  k0_pay16 (View.readAt (Elt F) v.arg1.view (Rect.unit (s := S8) ![i] S1.size (fun a => by fin_cases a; exact hi)).toLoadRect (v.harg1.unread v.x0)
    (Shape.Idx.first (show 0 < S1.numel by decide)))

/-- The load of 128 rows and 128 columns of the queries. -/
def qLd (r c : ℕ) (hr : r + 128 ≤ 512) (hc : c + 128 ≤ 512) : Vec F S128x128 .bf16 :=
  View.readAt (Elt F) v.arg2.view (Rect.unit (s := S512x512) ![r, c] S128x128.size (fit2 hr hc)).toLoadRect (v.harg2.unread v.x1)

/-- The load of the window's transposed keys. -/
def kLd (r rr : ℕ) (hr : r + 128 ≤ 256) (hrr : rr < 4) : Vec F S128x384 .bf16 :=
  View.readAt (Elt F) v.arg3.view (Rect.unit (s := S256x1024) ![r, start v.n rr] S128x384.size (fit2 hr (start_le v.n v.hn rr hrr))).toLoadRect (v.harg3.unread v.x2)

/-- The load of the window's values. -/
def vLd (rr c : ℕ) (hrr : rr < 4) (hc : c + 128 ≤ 256) : Vec F S384x128 .bf16 :=
  View.readAt (Elt F) v.arg4.view (Rect.unit (s := S1024x256) ![start v.n rr, c] S384x128.size (fit2 (start_le v.n v.hn rr hrr) hc)).toLoadRect (v.harg4.unread v.x3)

/-- The load of the context keys. -/
def ckLd (r : ℕ) (hr : r + 128 ≤ 256) : Vec F S128x256 .bf16 :=
  v.arg23.view.readCov (cktPieces v) (Rect.unit (s := S256x256) ![r, 0] S128x256.size (fit2 hr (by omega))).toLoadRect

/-- The load of the context values. -/
def cvLd (c : ℕ) (hc : c + 128 ≤ 256) : Vec F S256x128 .bf16 :=
  v.arg24.view.readCov (cvdPieces v) (Rect.unit (s := S256x256) ![0, c] S256x128.size (fit2 (by omega) hc)).toLoadRect

/-! ## The units: two per query block, with two buffers in turn -/

/-- Buffer `b` of the score (or weight) buffers, whole. -/
abbrev bufRect (b : ℕ) (hb : b < 2) : Rect S2x256x1280 :=
  Rect.unit (s := S2x256x1280) ![b, 0, 0] S1x256x1280.size (fit3 (by omega) (by omega) (by omega))

/-- Buffer `b` of the sink buffers, whole. -/
abbrev skRect (b : ℕ) (hb : b < 2) : Rect S2x256x128 :=
  Rect.unit (s := S2x256x128) ![b, 0, 0] S1x256x128.size (fit3 (by omega) (by omega) (by omega))

/-- The scores of query block `rr` in head group `g`. -/
def sc (rr g : ℕ) (hr : rr < 4) (hg : g < 2) : Vec F S1x256x1280 .f32 :=
  k0_pay15 (qLd v (128 * rr) (256 * g) (by omega) (by omega)) (qLd v (128 * rr) (256 * g + 128) (by omega) (by omega))
    (kLd v (128 * g) rr (by omega) hr) (ckLd v (128 * g) (by omega))

/-- The score buffers after `k` units. -/
def S : (k : ℕ) → k ≤ 8 → List (View.Piece (Elt F) S2x256x1280 .f32)
  | 0, _ => []
  | k + 1, h => ⟨bufRect (k % 2) (by omega), sc v (k / 2) (k % 2) (by omega) (by omega)⟩ :: S k (by omega)

/-- The load of 64 rows and `w` columns of score buffer `b` at `(r0, c0)`, after the stores `L`. -/
def sChunk (w : ℕ) (L : List (View.Piece (Elt F) S2x256x1280 .f32)) (b : ℕ) (hb : b < 2)
    (r0 c0 : ℕ) (hr : r0 + 64 ≤ 256) (hc : c0 + w ≤ 1280) : Vec F ⟨2, ![64, w]⟩ .f32 :=
  LoadRect.valAlong (LoadRect.numel_consLift (d := ![256, 1280]) (Rect.unit (s := S256x1280) ![r0, c0] ![64, w] (fit2 hr hc)).toLoadRect ![1, 256, 1280] rfl
      (fun i => by fin_cases i <;> rfl))
    (v.arg19.view.readCov L ((bufRect b hb).withinL
      (LoadRect.consLift (d := ![256, 1280]) (Rect.unit (s := S256x1280) ![r0, c0] ![64, w] (fit2 hr hc)).toLoadRect ![1, 256, 1280] rfl
        (fun i => by fin_cases i <;> rfl)) (fun _ => rfl)))

section
variable (L : List (View.Piece (Elt F) S2x256x1280 .f32)) (b : ℕ) (hb : b < 2)

/-- The window's scores of 64 rows in half `e` of the columns. -/
abbrev chL (r0 e : ℕ) (hr : r0 + 64 ≤ 256) (he : e < 2) : Vec F S64x384 .f32 := sChunk v 384 L b hb r0 (640 * e) hr (by omega)

/-- The context's scores of 64 rows in half `e` of the columns. -/
abbrev chC (r0 e : ℕ) (hr : r0 + 64 ≤ 256) (he : e < 2) : Vec F S64x256 .f32 := sChunk v 256 L b hb r0 (640 * e + 384) hr (by omega)

/-- The store of the window's weights of 64 rows in half `e`, from the sink's logit `s`. -/
def wPieceL (rr r0 e : ℕ) (hrr : rr < 4) (hr : r0 + 64 ≤ 256) (he : e < 2) (s : F .f32) (hd : r0 % 128 + 64 ≤ 128) : View.Piece (Elt F) S2x256x1280 .bf16 :=
  ⟨Rect.unit (s := S2x256x1280) ![b, r0, 640 * e] S1x64x384.size (fit3 (by omega) hr (by omega)),
    k0_pay23 s (chL v L b hb r0 e hr he) (chC v L b hb r0 e hr he) (dLd v rr (r0 % 128) hrr hd)⟩

/-- The store of the context's weights of 64 rows in half `e`. -/
def wPieceC (rr r0 e : ℕ) (hrr : rr < 4) (hr : r0 + 64 ≤ 256) (he : e < 2) (s : F .f32) (hd : r0 % 128 + 64 ≤ 128) : View.Piece (Elt F) S2x256x1280 .bf16 :=
  ⟨Rect.unit (s := S2x256x1280) ![b, r0, 640 * e + 384] S1x64x256.size (fit3 (by omega) hr (by omega)),
    k0_pay36 s (chL v L b hb r0 e hr he) (chC v L b hb r0 e hr he) (dLd v rr (r0 % 128) hrr hd)⟩

/-- The four stores of weights of 64 rows, over the earlier stores. -/
def wChunk (rr r0 : ℕ) (hrr : rr < 4) (hr : r0 + 64 ≤ 256) (s s' : F .f32) (hd : r0 % 128 + 64 ≤ 128) (L' : List (View.Piece (Elt F) S2x256x1280 .bf16)) :
    List (View.Piece (Elt F) S2x256x1280 .bf16) :=
  wPieceC v L b hb rr r0 1 hrr hr (by omega) s' hd :: wPieceL v L b hb rr r0 1 hrr hr (by omega) s' hd ::
  wPieceC v L b hb rr r0 0 hrr hr (by omega) s hd :: wPieceL v L b hb rr r0 0 hrr hr (by omega) s hd :: L'

/-- A unit's stores of weights. -/
def wBuf (rr : ℕ) (hrr : rr < 4) (s0 s1 s2 s3 : F .f32) (L' : List (View.Piece (Elt F) S2x256x1280 .bf16)) : List (View.Piece (Elt F) S2x256x1280 .bf16) :=
  wChunk v L b hb rr 192 hrr (by omega) s2 s3 (by omega) <| wChunk v L b hb rr 128 hrr (by omega) s2 s3 (by omega) <|
  wChunk v L b hb rr 64 hrr (by omega) s0 s1 (by omega) <| wChunk v L b hb rr 0 hrr (by omega) s0 s1 (by omega) L'

/-- The store of the sink terms of 64 rows. -/
def skPiece (rr r0 : ℕ) (hrr : rr < 4) (hr : r0 + 64 ≤ 256) (s s' : F .f32) (hd : r0 % 128 + 64 ≤ 128) : View.Piece (Elt F) S2x256x128 .f32 :=
  ⟨(skRect b hb).within (Rect.consLift (d := ![256, 128]) (Rect.unit (s := S256x128) ![r0, 0] S64x128.size (fit2 hr (by omega))) ![1, 256, 128] rfl
      (fun i => by fin_cases i <;> rfl)) (fun _ => rfl),
    Rect.payAlong (Rect.numel_consLift (d := ![256, 128]) (Rect.unit (s := S256x128) ![r0, 0] S64x128.size (fit2 hr (by omega))) ![1, 256, 128] rfl
      (fun i => by fin_cases i <;> rfl))
      (k0_pay32 s' k0_pay20 (k0_pay26 s (k0_pay22 s (chL v L b hb r0 0 hr (by omega)) (chC v L b hb r0 0 hr (by omega)) (dLd v rr (r0 % 128) hrr hd)))
        (k0_pay22 s' (chL v L b hb r0 1 hr (by omega)) (chC v L b hb r0 1 hr (by omega)) (dLd v rr (r0 % 128) hrr hd)))⟩

/-- A unit's stores of sink terms. -/
def skBuf (rr : ℕ) (hrr : rr < 4) (s0 s1 s2 s3 : F .f32) (L' : List (View.Piece (Elt F) S2x256x128 .f32)) : List (View.Piece (Elt F) S2x256x128 .f32) :=
  skPiece v L b hb rr 192 hrr (by omega) s2 s3 (by omega) :: skPiece v L b hb rr 128 hrr (by omega) s2 s3 (by omega) ::
  skPiece v L b hb rr 64 hrr (by omega) s0 s1 (by omega) :: skPiece v L b hb rr 0 hrr (by omega) s0 s1 (by omega) :: L'
end

/-- The weight buffers after `k` units: unit `k` reads the scores after the unit behind it has stored its own. -/
def P : (k : ℕ) → k ≤ 8 → List (View.Piece (Elt F) S2x256x1280 .bf16)
  | 0, _ => []
  | k + 1, h => wBuf v (S v (min (k + 2) 8) (by omega)) (k % 2) (by omega) (k / 2) (by omega)
      (sk v (4 * (k % 2)) (by omega)) (sk v (4 * (k % 2) + 1) (by omega)) (sk v (4 * (k % 2) + 2) (by omega)) (sk v (4 * (k % 2) + 3) (by omega)) (P k (by omega))

/-- The sink buffers after `k` units. -/
def K : (k : ℕ) → k ≤ 8 → List (View.Piece (Elt F) S2x256x128 .f32)
  | 0, _ => []
  | k + 1, h => skBuf v (S v (min (k + 2) 8) (by omega)) (k % 2) (by omega) (k / 2) (by omega)
      (sk v (4 * (k % 2)) (by omega)) (sk v (4 * (k % 2) + 1) (by omega)) (sk v (4 * (k % 2) + 2) (by omega)) (sk v (4 * (k % 2) + 3) (by omega)) (K k (by omega))

/-- A unit's attention rows: the weights after the stores `P'` and the sink terms after the stores `K'`, in buffer `b`. -/
def att (P' : List (View.Piece (Elt F) S2x256x1280 .bf16)) (K' : List (View.Piece (Elt F) S2x256x128 .f32)) (b : ℕ) (hb : b < 2)
    (vl : Vec F S384x128 .bf16) (vc : Vec F S256x128 .bf16) : FVec F S256x128 .f32 :=
  k0_pay74 (k0_pay69 vl vc) k0_pay70 k0_pay71 k0_pay72 (k0_pay73 vl vc) (v.arg20.view.readCov P' (bufRect b hb).toLoadRect) (v.arg21.view.readCov K' (skRect b hb).toLoadRect)

/-- A unit's two stores of attention rows at rows `r` and query columns `c`. -/
def attStores (o : FVec F S256x128 .f32) (r c : ℕ) (hr : r + 128 ≤ 512) (hc : c + 256 ≤ 512) (L' : List (View.Piece (Elt F) S512x512 .bf16)) :
    List (View.Piece (Elt F) S512x512 .bf16) :=
  ⟨Rect.unit (s := S512x512) ![r, c + 128] S128x128.size (fit2 hr (by omega)),
    shapeCast S128x128 (truncf .bf16 (extractStridedSlice S128x128 ![128, 0] o slices_S256x128_o128_0_S128x128) bitsLt_bf16_f32) shapeCasts_S128x128_S128x128⟩ ::
  ⟨Rect.unit (s := S512x512) ![r, c] S128x128.size (fit2 hr (by omega)),
    shapeCast S128x128 (truncf .bf16 (extractStridedSlice S128x128 ![0, 0] o slices_S256x128_o0_0_S128x128) bitsLt_bf16_f32) shapeCasts_S128x128_S128x128⟩ :: L'

/-- The stores of attention rows of the first `k` units. -/
def attPieces : (k : ℕ) → k ≤ 8 → List (View.Piece (Elt F) S512x512 .bf16)
  | 0, _ => []
  | k + 1, h => attStores (att v (P v (k + 1) h) (K v (k + 1) h) (k % 2) (by omega) (vLd v (k / 2) (128 * (k % 2)) (by omega) (by omega)) (cvLd v (128 * (k % 2)) (by omega)))
      (128 * (k / 2)) (256 * (k % 2)) (by omega) (by omega) (attPieces k (by omega))

end Cert.Kernel2Ideal.Att
-- ==== Proof.LatTailPieces.lean ====
/- The tail of one grid point, written once, for the second call: what it stores in the output and in the activation buffer, as functions of the loads it
   makes. -/
module

public import proofs.«01_k».proof.Proof.LatPieces

@[expose] public section

set_option maxRecDepth 16384

noncomputable section

namespace Cert.Kernel2Ideal.Tail

open Cert.Kernel2Ideal Cert.Kernel2Ideal.Gen Cert.Kernel2Ideal.Att Idealize.ShloMosaic Idealize.ShloMosaic.TcCoe Idealize.SL.Sem

variable {F : FTy → Type} [FloatOps F] [Named F]

/-- A load of a unit-stride rectangle of a whole matrix. -/
abbrev ld {n m : ℕ} {e : EltTy} (a b : ℕ) (arg : Memref sig .tc .vmem ⟨2, ![n, m]⟩ e) (harg : arg.IsWhole) (x : Vec F ⟨2, ![n, m]⟩ e) (r c : ℕ)
    (hr : r + a ≤ n) (hc : c + b ≤ m) : Vec F ⟨2, ![a, b]⟩ e :=
  View.readAt (Elt F) arg.view (Rect.unit (s := ⟨2, ![n, m]⟩) ![r, c] (⟨2, ![a, b]⟩ : Shape).size (fit2 hr hc)).toLoadRect (harg.unread x)

/-- The row of the modulation block that grid point `n` reads, as the kernel computes it. -/
def mrow (n : ℕ) : ℕ :=
  let arg0 : BitVec 32 := BitVec.ofNat 32 n
  let c1_i32_43 : BitVec 32 := 1#32
  let v111 : BitVec 32 := Scalar.subi arg0 c1_i32_43
  let c0_i32_45 : BitVec 32 := 0#32
  let v113 : BitVec 1 := Scalar.cmpi .sgt v111 c0_i32_45
  let v114 : BitVec 32 := Scalar.extui v113
  let c0_i32_46 : BitVec 32 := 0#32
  let v115 : BitVec 1 := Scalar.cmpi .slt v111 c0_i32_46
  let v116 : BitVec 32 := Scalar.extui v115
  let v117 : BitVec 32 := Scalar.subi v114 v116
  let c2_i32_44 : BitVec 32 := 2#32
  let c0_i32_47 : BitVec 32 := 0#32
  let v118 : BitVec 1 := Scalar.cmpi .sgt c2_i32_44 c0_i32_47
  let v119 : BitVec 32 := Scalar.extui v118
  let c0_i32_48 : BitVec 32 := 0#32
  let v120 : BitVec 1 := Scalar.cmpi .slt c2_i32_44 c0_i32_48
  let v121 : BitVec 32 := Scalar.extui v120
  let v122 : BitVec 32 := Scalar.subi v119 v121
  let v123 : BitVec 1 := Scalar.cmpi .ne v117 v122
  let v124 : BitVec 32 := Scalar.remsi v111 c2_i32_44
  let c0_i32_49 : BitVec 32 := 0#32
  let v125 : BitVec 1 := Scalar.cmpi .ne v124 c0_i32_49
  let v126 : BitVec 1 := Scalar.andi v123 v125
  let v112 : BitVec 32 := Scalar.divsi v111 c2_i32_44
  let c1_i32_50 : BitVec 32 := 1#32
  let v127 : BitVec 32 := Scalar.subi v112 c1_i32_50
  let v128 : BitVec 32 := Scalar.select v126 v127 v112
  let v129 : Index := Scalar.indexCast v128
  v129.toNat

/-- It is the number of the sequence of the tile before. -/
theorem mrow_eq : ∀ n : Fin 17, 1 ≤ n.val → mrow n = (n.val - 1) / 2 := by decide +kernel

theorem mrow_le (n : ℕ) (hn : n < 17) (h1 : 1 ≤ n) : mrow n + 1 ≤ 8 := by
  have := mrow_eq ⟨n, hn⟩ h1
  simp only at this
  omega

/-- The sum of the squares of each row. -/
def msq (v : FVec F S256x1024 .f32) : FVec F S256x1 .f32 :=
  shapeCast S256x1 (multiReduction .add [1] S256 (mulf v v) 0x00000000#32 reduces_S256x1024_S256 (.inl rfl) rfl) shapeCasts_S256_S256x1

variable (arg7 : Memref sig .tc .vmem S512x1024 .f32) (harg7 : arg7.IsWhole) (arg8 : Memref sig .tc .vmem S8x6144 .f32)
  (harg8 : arg8.IsWhole) (arg9 : Memref sig .tc .vmem S512x512 .bf16) (harg9 : arg9.IsWhole)
  (arg10 : Memref sig .tc .vmem S512x2048 .bf16) (harg10 : arg10.IsWhole) (arg11 : Memref sig .tc .vmem S1x1024 .f32) (harg11 : arg11.IsWhole)
  (arg12 : Memref sig .tc .vmem S512x1024 .bf16) (harg12 : arg12.IsWhole)
  (arg13 : Memref sig .tc .vmem S512x1024 .bf16) (harg13 : arg13.IsWhole) (arg14 : Memref sig .tc .vmem S1024x1024 .bf16)
  (harg14 : arg14.IsWhole) (arg15 : Memref sig .tc .vmem S1024x5632 .bf16) (harg15 : arg15.IsWhole)
  (arg16 : Memref sig .tc .vmem S2816x1024 .bf16) (harg16 : arg16.IsWhole) (arg18 : Memref sig .tc .vmem S512x512 .bf16) (harg18 : arg18.IsWhole)
  (arg25 : Memref sig .tc .vmem S512x2816 .bf16)
  (x6 : Vec F S512x1024 .f32) (x7 : Vec F S8x6144 .f32) (x8 : Vec F S512x512 .bf16)
  (x9 : Vec F S512x2048 .bf16) (x10 : Vec F S1x1024 .f32) (x11 : Vec F S512x1024 .bf16) (x12 : Vec F S512x1024 .bf16)
  (x13 : Vec F S1024x1024 .bf16) (x14 : Vec F S1024x5632 .bf16) (x15 : Vec F S2816x1024 .bf16) (xs0 : Vec F S512x512 .bf16)

/-- The residual after the mixers, of the 256 rows from `r`. -/
def x1h (n : ℕ) (hm : mrow n + 1 ≤ 8) (r : ℕ) (hr : r + 256 ≤ 512) : FVec F S256x1024 .f32 :=
  k0_pay499 (ld 1 1024 arg8 harg8 x7 (mrow n) 2048 hm (by omega)) (ld 256 512 arg9 harg9 x8 r 0 hr (by omega)) (ld 512 1024 arg12 harg12 x11 0 0 (by omega) (by omega))
    (ld 256 512 arg18 harg18 xs0 r 0 hr (by omega)) (ld 512 1024 arg13 harg13 x12 0 0 (by omega) (by omega)) (ld 256 1024 arg10 harg10 x9 r 0 hr (by omega))
    (ld 256 1024 arg10 harg10 x9 r 1024 hr (by omega)) (ld 256 1024 arg7 harg7 x6 r 0 hr (by omega)) (ld 1024 1024 arg14 harg14 x13 0 0 (by omega) (by omega))

/-- The normalized and modulated residual of the 256 rows from `r`, narrowed. -/
def hbh (n : ℕ) (hm : mrow n + 1 ≤ 8) (r : ℕ) (hr : r + 256 ≤ 512) : FVec F S256x1024 .bf16 :=
  k0_pay502 (ld 1 1024 arg8 harg8 x7 (mrow n) 3072 hm (by omega)) (ld 1 1024 arg8 harg8 x7 (mrow n) 4096 hm (by omega))
    (x1h arg7 harg7 arg8 harg8 arg9 harg9 arg10 harg10 arg12 harg12 arg13 harg13 arg14 harg14 arg18 harg18 x6 x7 x8 x9 x11 x12 x13 xs0 n hm r hr)
    (msq (x1h arg7 harg7 arg8 harg8 arg9 harg9 arg10 harg10 arg12 harg12 arg13 harg13 arg14 harg14 arg18 harg18 x6 x7 x8 x9 x11 x12 x13 xs0 n hm r hr))
    k0_pay501 (ld 1 1024 arg11 harg11 x10 0 0 (by omega) (by omega))

/-- The residual of the tile. -/
def x1t (n : ℕ) (hm : mrow n + 1 ≤ 8) : FVec F S512x1024 .f32 :=
  k0_pay505 (x1h arg7 harg7 arg8 harg8 arg9 harg9 arg10 harg10 arg12 harg12 arg13 harg13 arg14 harg14 arg18 harg18 x6 x7 x8 x9 x11 x12 x13 xs0 n hm 0 (by omega))
    (x1h arg7 harg7 arg8 harg8 arg9 harg9 arg10 harg10 arg12 harg12 arg13 harg13 arg14 harg14 arg18 harg18 x6 x7 x8 x9 x11 x12 x13 xs0 n hm 256 (by omega))

/-- The normalized and modulated residual of the tile. -/
def hbt (n : ℕ) (hm : mrow n + 1 ≤ 8) : FVec F S512x1024 .bf16 :=
  concatenate S512x1024 0 [⟨S256x1024, hbh arg7 harg7 arg8 harg8 arg9 harg9 arg10 harg10 arg11 harg11 arg12 harg12 arg13 harg13 arg14 harg14 arg18 harg18 x6 x7 x8 x9 x10 x11 x12 x13 xs0 n hm 0 (by omega)⟩,
    ⟨S256x1024, hbh arg7 harg7 arg8 harg8 arg9 harg9 arg10 harg10 arg11 harg11 arg12 harg12 arg13 harg13 arg14 harg14 arg18 harg18 x6 x7 x8 x9 x10 x11 x12 x13 xs0 n hm 256 (by omega)⟩]
    concatenates_S256x1024_S256x1024_S512x1024_d0

/-- The columns `256 k` to `256 k + 255` of the activation buffer. -/
abbrev actRect (k : ℕ) (hk : k < 11) : Rect S512x2816 :=
  Rect.unit (s := S512x2816) ![0, 256 * k] S512x256.size (fit2 (by omega) (by omega))

/-- The store of those columns, from the normalized tile `hb`. -/
def actPiece (hb : FVec F S512x1024 .bf16) (k : ℕ) (hk : k < 11) : View.Piece (Elt F) S512x2816 .bf16 :=
  ⟨actRect k hk, k0_pay698 hb (ld 1024 256 arg15 harg15 x14 0 (256 * k) (by omega) (by omega)) (ld 1024 256 arg15 harg15 x14 0 (2816 + 256 * k) (by omega) (by omega))⟩

/-- The eleven stores of activations, the last first. -/
def actPieces (hb : FVec F S512x1024 .bf16) : List (View.Piece (Elt F) S512x2816 .bf16) :=
  [actPiece arg15 harg15 x14 hb 10 (by omega), actPiece arg15 harg15 x14 hb 9 (by omega), actPiece arg15 harg15 x14 hb 8 (by omega),
   actPiece arg15 harg15 x14 hb 7 (by omega), actPiece arg15 harg15 x14 hb 6 (by omega), actPiece arg15 harg15 x14 hb 5 (by omega),
   actPiece arg15 harg15 x14 hb 4 (by omega), actPiece arg15 harg15 x14 hb 3 (by omega), actPiece arg15 harg15 x14 hb 2 (by omega),
   actPiece arg15 harg15 x14 hb 1 (by omega), actPiece arg15 harg15 x14 hb 0 (by omega)]

/-- The output tile. -/
def outT (n : ℕ) (hm : mrow n + 1 ≤ 8) : FVec F S512x1024 .f32 :=
  k0_pay5 (ld 1 1024 arg8 harg8 x7 (mrow n) 5120 hm (by omega))
    (x1t arg7 harg7 arg8 harg8 arg9 harg9 arg10 harg10 arg12 harg12 arg13 harg13 arg14 harg14 arg18 harg18 x6 x7 x8 x9 x11 x12 x13 xs0 n hm)
    (arg25.view.readCov (actPieces arg15 harg15 x14 (hbt arg7 harg7 arg8 harg8 arg9 harg9 arg10 harg10 arg11 harg11 arg12 harg12 arg13 harg13 arg14 harg14 arg18 harg18 x6 x7 x8 x9 x10 x11 x12 x13 xs0 n hm))
      (Rect.unit (s := S512x2816) ![0, 0] S512x2816.size (fit2 (by omega) (by omega))).toLoadRect)
    (ld 2816 1024 arg16 harg16 x15 0 0 (by omega) (by omega))

/-- The one store of the output tile. -/
def outPieces (n : ℕ) (hm : mrow n + 1 ≤ 8) : List (View.Piece (Elt F) S512x1024 .f32) :=
  [⟨Rect.unit (s := S512x1024) ![0, 0] S512x1024.size (fit2 (by omega) (by omega)),
    outT arg7 harg7 arg8 harg8 arg9 harg9 arg10 harg10 arg11 harg11 arg12 harg12 arg13 harg13 arg14 harg14 arg15 harg15 arg16 harg16 arg18 harg18 arg25 x6 x7 x8 x9 x10 x11 x12 x13 x14 x15 xs0 n hm⟩]

end Cert.Kernel2Ideal.Tail
-- ==== Proof.LatTailRunB.lean ====
/- The run's store of the second call's output is the tail's, in case B. -/
module

public import proofs.«01_k».proof.Proof.LatTailPieces
public import proofs.«01_k».proof.Proof.Gen.Kernel2Ideal.Frame.RunB

@[expose] public section

set_option maxRecDepth 65536

noncomputable section

set_option maxHeartbeats 4000000
namespace Cert.Kernel2Ideal.Tail

open Cert.Kernel2Ideal Cert.Kernel2Ideal.Gen Idealize.ShloMosaic Idealize.ShloMosaic.TcCoe Idealize.SL.Sem

variable {F : FTy → Type} [FloatOps F] [Named F]
  (c : Dev nD) (i : grid0.Coords) (arg1 : Memref sig .tc .smem S8 .f32) (harg1 : arg1.IsWhole) (arg2 : Memref sig .tc .vmem S512x512 .bf16) (harg2 : arg2.IsWhole) (arg3 : Memref sig .tc .vmem S256x1024 .bf16) (harg3 : arg3.IsWhole) (arg4 : Memref sig .tc .vmem S1024x256 .bf16) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S512x1024 .f32) (harg7 : arg7.IsWhole) (arg8 : Memref sig .tc .vmem S8x6144 .f32) (harg8 : arg8.IsWhole) (arg9 : Memref sig .tc .vmem S512x512 .bf16) (harg9 : arg9.IsWhole) (arg10 : Memref sig .tc .vmem S512x2048 .bf16) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x512 .bf16) (harg18 : arg18.IsWhole) (arg19 : Memref sig .tc .vmem S2x256x1280 .f32) (harg19 : arg19.IsWhole) (arg20 : Memref sig .tc .vmem S2x256x1280 .bf16) (harg20 : arg20.IsWhole) (arg21 : Memref sig .tc .vmem S2x256x128 .f32) (harg21 : arg21.IsWhole) (arg22 : Memref sig .tc .vmem S4x128x384 .i32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S512x2816 .bf16) (harg25 : arg25.IsWhole) (x0 : Vec F S8 .f32) (x1 : Vec F S512x512 .bf16) (x2 : Vec F S256x1024 .bf16) (x3 : Vec F S1024x256 .bf16) (x4 : Vec F S1x128x256 .f32) (x5 : Vec F S1x128x256 .f32) (x6 : Vec F S512x1024 .f32) (x7 : Vec F S8x6144 .f32) (x8 : Vec F S512x512 .bf16) (x9 : Vec F S512x2048 .bf16) (x10 : Vec F S1x1024 .f32) (x11 : Vec F S512x1024 .bf16) (x12 : Vec F S512x1024 .bf16) (x13 : Vec F S1024x1024 .bf16) (x14 : Vec F S1024x5632 .bf16) (x15 : Vec F S2816x1024 .bf16) (xs0 : Vec F S512x512 .bf16)

/-- The run stores exactly this output. -/
theorem out_eq_B (hm : mrow (i 0).val + 1 ≤ 8) (hc0 : ¬cond0_0 i) (hc1 : cond0_1 i) (hc2 : ¬cond0_2 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).1 =
      outPieces arg7 harg7 arg8 harg8 arg9 harg9 arg10 harg10 arg11 harg11 arg12 harg12 arg13 harg13 arg14 harg14 arg15 harg15 arg16 harg16 arg18 harg18 arg25 x6 x7 x8 x9 x10 x11 x12 x13 x14 x15 xs0 (i 0).val hm := rfl

end Cert.Kernel2Ideal.Tail
-- ==== Proof.LatIdealRunC.lean ====
/- The run of the kernel's body at the last grid point, where the conditionals of the attention stages are not taken: they are decided before
   the body is run, so that only the tail is looked at. -/
module

public import proofs.«01_k».proof.Proof.Gen.Kernel2Ideal.Frame.RunB

@[expose] public section

-- the covers are checked along long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at the last grid point, where only the tail runs: what its stores leave in the output and in the activation buffer, as
    pieces (last first), with the proof that from whole buffers the body runs to its continuation and hands them back with these pieces
    written, the inputs and the carried attention rows as they were. -/
noncomputable def kernelRun0_C (c : Dev nD) (i : grid0.Coords) (arg1 : Memref sig .tc .smem S8 .f32) (harg1 : arg1.IsWhole) (arg2 : Memref sig .tc .vmem S512x512 .bf16) (harg2 : arg2.IsWhole) (arg3 : Memref sig .tc .vmem S256x1024 .bf16) (harg3 : arg3.IsWhole) (arg4 : Memref sig .tc .vmem S1024x256 .bf16) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S512x1024 .f32) (harg7 : arg7.IsWhole) (arg8 : Memref sig .tc .vmem S8x6144 .f32) (harg8 : arg8.IsWhole) (arg9 : Memref sig .tc .vmem S512x512 .bf16) (harg9 : arg9.IsWhole) (arg10 : Memref sig .tc .vmem S512x2048 .bf16) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x512 .bf16) (harg18 : arg18.IsWhole) (arg19 : Memref sig .tc .vmem S2x256x1280 .f32) (harg19 : arg19.IsWhole) (arg20 : Memref sig .tc .vmem S2x256x1280 .bf16) (harg20 : arg20.IsWhole) (arg21 : Memref sig .tc .vmem S2x256x128 .f32) (harg21 : arg21.IsWhole) (arg22 : Memref sig .tc .vmem S4x128x384 .i32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S512x2816 .bf16) (harg25 : arg25.IsWhole) (hc0 : ¬cond0_0 i) (hc1 : ¬cond0_1 i) (hc2 : cond0_2 i)
    (x0 : Vec F S8 .f32) (x1 : Vec F S512x512 .bf16) (x2 : Vec F S256x1024 .bf16) (x3 : Vec F S1024x256 .bf16) (x4 : Vec F S1x128x256 .f32) (x5 : Vec F S1x128x256 .f32) (x6 : Vec F S512x1024 .f32) (x7 : Vec F S8x6144 .f32) (x8 : Vec F S512x512 .bf16) (x9 : Vec F S512x2048 .bf16) (x10 : Vec F S1x1024 .f32) (x11 : Vec F S512x1024 .bf16) (x12 : Vec F S512x1024 .bf16) (x13 : Vec F S1024x1024 .bf16) (x14 : Vec F S1024x5632 .bf16) (x15 : Vec F S2816x1024 .bf16) (xs0 : Vec F S512x512 .bf16) :
    Σ' (L16 : List (View.Piece (Elt F) S512x1024 .f32)), Σ' (LS0 : List (View.Piece (Elt F) S512x512 .bf16)), Σ' (LT1 : List (View.Piece (Elt F) S2x256x1280 .f32)), Σ' (LT2 : List (View.Piece (Elt F) S2x256x1280 .bf16)), Σ' (LT4 : List (View.Piece (Elt F) S4x128x384 .i32)), Σ' (LT5 : List (View.Piece (Elt F) S256x256 .bf16)), Σ' (LT6 : List (View.Piece (Elt F) S256x256 .bf16)), { LT7 : List (View.Piece (Elt F) S512x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare xs0 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ owns (c : Thread nD τ) arg18 fullShare xs0 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ f, arg25.view.loc (c : Thread nD τ) ↦[arg25.view.set]{fullShare} arg25.view.writes (Elt F) f LT7)) -∗ K ⟨⟩))
          ⊢ wp frame (wpE (defs₀ (F := F)) Variants.none c none) E (cc0_attn_tail_lat i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, [], [], [], [], [], [], ?_, fun E K => ?run⟩
  case run =>
    rw [cc0_attn_tail_lat_eq_skeleton]
    -- only the third conditional is taken: decide the three before the parts are unfolded
    have hsk := congrArg (wp frame (wpE (defs₀ (F := F)) Variants.none c none) E · K)
      (show cc0_attn_tail_lat_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 = _ from
        (dif_neg hc0).trans ((dif_neg hc1).trans (dif_pos hc2)))
    rw [hsk]
    simp only [k0_part216_eq_skeleton, k0_part217_eq_skeleton, k0_part218_eq_skeleton, k0_part219_eq_skeleton, k0_part220_eq_skeleton, k0_part221_eq_skeleton, k0_part222_eq_skeleton, k0_part223_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [HS0]
    · iexists _; isplitr; · ipureintro; exact harg18.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _; iexact HS7

end Cert.Kernel2Ideal.Gen

end
-- ==== Proof.LatTailRunC.lean ====
/- The run's store of the second call's output is the tail's, in case C. -/
module

public import proofs.«01_k».proof.Proof.LatTailPieces
public import proofs.«01_k».proof.Proof.LatIdealRunC

@[expose] public section

set_option maxRecDepth 65536

noncomputable section

set_option maxHeartbeats 4000000
namespace Cert.Kernel2Ideal.Tail

open Cert.Kernel2Ideal Cert.Kernel2Ideal.Gen Idealize.ShloMosaic Idealize.ShloMosaic.TcCoe Idealize.SL.Sem

variable {F : FTy → Type} [FloatOps F] [Named F]
  (c : Dev nD) (i : grid0.Coords) (arg1 : Memref sig .tc .smem S8 .f32) (harg1 : arg1.IsWhole) (arg2 : Memref sig .tc .vmem S512x512 .bf16) (harg2 : arg2.IsWhole) (arg3 : Memref sig .tc .vmem S256x1024 .bf16) (harg3 : arg3.IsWhole) (arg4 : Memref sig .tc .vmem S1024x256 .bf16) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S512x1024 .f32) (harg7 : arg7.IsWhole) (arg8 : Memref sig .tc .vmem S8x6144 .f32) (harg8 : arg8.IsWhole) (arg9 : Memref sig .tc .vmem S512x512 .bf16) (harg9 : arg9.IsWhole) (arg10 : Memref sig .tc .vmem S512x2048 .bf16) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x512 .bf16) (harg18 : arg18.IsWhole) (arg19 : Memref sig .tc .vmem S2x256x1280 .f32) (harg19 : arg19.IsWhole) (arg20 : Memref sig .tc .vmem S2x256x1280 .bf16) (harg20 : arg20.IsWhole) (arg21 : Memref sig .tc .vmem S2x256x128 .f32) (harg21 : arg21.IsWhole) (arg22 : Memref sig .tc .vmem S4x128x384 .i32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S512x2816 .bf16) (harg25 : arg25.IsWhole) (x0 : Vec F S8 .f32) (x1 : Vec F S512x512 .bf16) (x2 : Vec F S256x1024 .bf16) (x3 : Vec F S1024x256 .bf16) (x4 : Vec F S1x128x256 .f32) (x5 : Vec F S1x128x256 .f32) (x6 : Vec F S512x1024 .f32) (x7 : Vec F S8x6144 .f32) (x8 : Vec F S512x512 .bf16) (x9 : Vec F S512x2048 .bf16) (x10 : Vec F S1x1024 .f32) (x11 : Vec F S512x1024 .bf16) (x12 : Vec F S512x1024 .bf16) (x13 : Vec F S1024x1024 .bf16) (x14 : Vec F S1024x5632 .bf16) (x15 : Vec F S2816x1024 .bf16) (xs0 : Vec F S512x512 .bf16)

/-- The run stores exactly this output. -/
theorem out_eq_C (hm : mrow (i 0).val + 1 ≤ 8) (hc0 : ¬cond0_0 i) (hc1 : ¬cond0_1 i) (hc2 : cond0_2 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).1 =
      outPieces arg7 harg7 arg8 harg8 arg9 harg9 arg10 harg10 arg11 harg11 arg12 harg12 arg13 harg13 arg14 harg14 arg15 harg15 arg16 harg16 arg18 harg18 arg25 x6 x7 x8 x9 x10 x11 x12 x13 x14 x15 xs0 (i 0).val hm := rfl

end Cert.Kernel2Ideal.Tail
-- ==== Proof.LatSpec.lean ====
/- The attention with a sink of one head and one query over any number of keys, over the extended reals, as the kernel computes it, and the
   second call's tile of attention rows: every query reads a window of 384 keys of its sequence, those more than 128 tokens away masked,
   and the 256 context keys. -/
module

public import proofs.«01_k».proof.Proof.LatPieces

@[expose] public section

noncomputable section

namespace Cert.Kernel2Ideal.Att

open Cert.Kernel2Ideal Cert.Kernel2Ideal.Gen Idealize.ShloMosaic Idealize.ShloMosaic.TcCoe Idealize.SL.Sem

/-- Two entries of a matrix at the same row and column are the same. -/
theorem at2 {α : Type} {n m : ℕ} (x : (⟨2, ![n, m]⟩ : Shape).Idx → α) {a a' : Fin n} {b b' : Fin m} (ha : a.val = a'.val) (hb : b.val = b'.val) :
    x (ix2 a b) = x (ix2 a' b') := by
  rw [Fin.ext ha, Fin.ext hb]

/-- The maximum of a sink's logit and the scores. -/
def kMax {n : ℕ} (s : EReal) (S : Fin n → EReal) : EReal := max s (Finset.fold max ⊥ S Finset.univ)

/-- The weight of a score `x`, against the maximum of the sink's logit and the scores. -/
def kW {n : ℕ} (s : EReal) (S : Fin n → EReal) (x : EReal) : EReal := Ideal.exp2 (x - kMax s S)

/-- One query's attention in one head: the weighted sum of the values over the sum of the weights, the sink's among them. -/
def kHead {n : ℕ} (s : EReal) (S v : Fin n → EReal) : EReal :=
  Ideal.div (∑ j, kW s S (S j) * v j) (∑ j, kW s S (S j) + kW s S s)

/-- A lane below 64 or not: the select that the kernel makes over 128 lanes. -/
theorem select_lane {α : Type} (l : Fin 128) (a b : α) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]
  split <;> rfl

/-- The word of the negative infinity. -/
theorem word_bot : Ideal.ofBits .f32 4286578688#32 = (⊥ : EReal) := by
  simp [Ideal.ofBits, Ideal.ieee]

/-- A key at position `k` is at most 128 tokens from a query at position `q`. -/
abbrev near (q k : ℕ) : Prop := k ≤ q + 128 ∧ q ≤ k + 128

/-- The distance's comparison is nearness: a query at `a` and a key at `b`, both counted from the first key of the window. -/
theorem dist_le (a b : ℕ) (ha : a < 512) (hb : b < 512) :
    IntOp.cmpi .sle (IntOp.absi (IntOp.subi (BitVec.ofNat 32 a) (BitVec.ofNat 32 b))) 128#32 = if near a b then 1#1 else 0#1 := by
  have h1 : ∀ d : Fin 512, IntOp.cmpi .sle (IntOp.absi (BitVec.ofNat 32 d.val)) 128#32 = if d.val ≤ 128 then 1#1 else 0#1 := by decide +kernel
  have h2 : ∀ d : Fin 512, IntOp.cmpi .sle (IntOp.absi (-BitVec.ofNat 32 d.val)) 128#32 = if d.val ≤ 128 then 1#1 else 0#1 := by decide +kernel
  by_cases h : b ≤ a
  · have e : IntOp.subi (BitVec.ofNat 32 a) (BitVec.ofNat 32 b) = BitVec.ofNat 32 (a - b) := by
      show BitVec.ofNat 32 a - BitVec.ofNat 32 b = _
      apply BitVec.eq_of_toNat_eq
      simp only [BitVec.toNat_sub, BitVec.toNat_ofNat]
      omega
    rw [e]
    exact (h1 ⟨a - b, by omega⟩).trans (if_congr (by simp only; omega) rfl rfl)
  · have e : IntOp.subi (BitVec.ofNat 32 a) (BitVec.ofNat 32 b) = -BitVec.ofNat 32 (b - a) := by
      show BitVec.ofNat 32 a - BitVec.ofNat 32 b = _
      apply BitVec.eq_of_toNat_eq
      simp only [BitVec.toNat_sub, BitVec.toNat_neg, BitVec.toNat_ofNat]
      omega
    rw [e]
    exact (h2 ⟨b - a, by omega⟩).trans (if_congr (by simp only; omega) rfl rfl)

variable (v : Env Ideal)

/-- The half of its sequence that a grid point attends from. -/
def half (n : ℕ) : ℕ := min n 15 % 2

/-- The sink's logit of head `h`, times the constant. -/
def sinkLog (x0 : Vec Ideal S8 .f32) (h : ℕ) (hh : h < 8) : EReal := k0_pay16 (F := Ideal) (x0 (ix1 (⟨h, hh⟩ : Fin 8)))

/-- Channel `c` of key `k` of query block `rr`: the window's keys, then the context's. -/
def key (rr : ℕ) (hr : rr < 4) (c : Fin 256) (k : Fin 640) : EReal :=
  if h : k.val < 384 then v.x2 (ix2 c (⟨start v.n rr + k, by have := start_le v.n v.hn rr hr; omega⟩ : Fin 1024))
  else v.x4 (ix3 (0 : Fin 1) (⟨64 * (c / 128) + c % 64, by omega⟩ : Fin 128) (⟨k - 384, by omega⟩ : Fin 256))

/-- Channel `c` of the value of key `k` of query block `rr`. -/
def val (rr : ℕ) (hr : rr < 4) (c : Fin 256) (k : Fin 640) : EReal :=
  if h : k.val < 384 then v.x3 (ix2 (⟨start v.n rr + k, by have := start_le v.n v.hn rr hr; omega⟩ : Fin 1024) c)
  else v.x5 (ix3 (0 : Fin 1) (⟨64 * (c / 128) + c % 64, by omega⟩ : Fin 128) (⟨k - 384, by omega⟩ : Fin 256))

/-- The score of query row `r` and key `k` in head `h`, not masked. -/
def score (r : Fin 512) (h : Fin 8) (k : Fin 640) : EReal :=
  ∑ d : Fin 64, v.x1 (ix2 r (⟨64 * h + d, by omega⟩ : Fin 512)) *
    key v (r / 128) (by omega) ⟨64 * (2 * (h / 4) + h % 2) + d, by omega⟩ k

/-- The window's keys out of reach are masked. -/
def masked (r : Fin 512) (k : Fin 640) (x : EReal) : EReal :=
  if k.val < 384 ∧ ¬ near (512 * half v.n + r) (start v.n (r / 128) + k) then ⊥ else x

/-- The tile of attention rows: 512 rows and 8 heads of 64 channels. -/
def attTile (r c : Fin 512) : EReal :=
  kHead (sinkLog v.x0 (c / 64) (by omega)) (fun k => masked v r k (score v r ⟨c / 64, by omega⟩ k))
    (val v (r / 128) (by omega) ⟨128 * (c / 256) + c % 128, by omega⟩)

end Cert.Kernel2Ideal.Att
-- ==== Proof.LatUnit.lean ====
/- One unit of the second call's attention stages, over the extended reals: from the scores that its buffer holds to the weights and sink
   terms that it stores. -/
module

public import proofs.«01_k».proof.Proof.LatSpec

@[expose] public section

set_option maxRecDepth 16384

noncomputable section

namespace Cert.Kernel2Ideal.Att

open Cert.Kernel2Ideal Cert.Kernel2Ideal.Gen Idealize.ShloMosaic Idealize.ShloMosaic.TcCoe Idealize.SL.Sem

variable (v : Env Ideal)

/-- A load of scores reads what the stores `L` left at its place. -/
theorem sChunk_apply (w : ℕ) (L : List (View.Piece (Elt Ideal) S2x256x1280 .f32)) (b : ℕ) (hb : b < 2)
    (r0 c0 : ℕ) (hr : r0 + 64 ≤ 256) (hc : c0 + w ≤ 1280) (r : Fin 64) (c : Fin w) :
    sChunk v w L b hb r0 c0 hr hc (ix2 r c) =
      View.canon L (ix3 (⟨b, hb⟩ : Fin 2) (⟨r0 + r, by omega⟩ : Fin 256) (⟨c0 + c, by omega⟩ : Fin 1280)) := by
  unfold sChunk
  rw [View.readCov_eq_canon']
  refine congrArg (View.canon L) ?_
  rw [Rect.idx_withinL]
  have hne : (⟨2, ![64, w]⟩ : Shape).numel = (⟨3, ![1, 64, w]⟩ : Shape).numel := by
    simp [Shape.numel, Fin.prod_univ_succ]
  refine (congrArg (fun z => (bufRect b hb).emb (LoadRect.idx _ z)) (Shape.reshapeEquiv_cons_one (d := ![64, w]) hne (ix2 r c))).trans ?_
  funext a
  fin_cases a <;> apply Fin.ext
  · show b + 1 * (0 + 1 * 0) = b
    omega
  · show 0 + 1 * (r0 + 1 * r.val) = r0 + r
    omega
  · show 0 + 1 * (c0 + 1 * c.val) = c0 + c
    omega

/-- A store of a whole score or weight buffer is read back at every index of that buffer. -/
theorem canon_buf {e : EltTy} (b : ℕ) (hb : b < 2) (w : (bufRect b hb).shape.Idx → Elt Ideal e) (L : List (View.Piece (Elt Ideal) S2x256x1280 e))
    (r : Fin 256) (c : Fin 1280) : View.canon (⟨bufRect b hb, w⟩ :: L) (ix3 (⟨b, hb⟩ : Fin 2) r c) = w (ix3 (0 : Fin 1) r c) := by
  have h : (ix3 (⟨b, hb⟩ : Fin 2) r c : S2x256x1280.Idx) = (bufRect b hb).emb (ix3 (0 : Fin 1) r c) := by
    funext a
    fin_cases a <;> apply Fin.ext
    · show b = b + 1 * 0
      omega
    · show r.val = 0 + 1 * r.val
      omega
    · show c.val = 0 + 1 * c.val
      omega
  rw [h, View.canon_cons_emb]

/-- A store of a whole buffer leaves the other as it was. -/
theorem canon_skip {e : EltTy} (b b' : ℕ) (hb : b < 2) (hb' : b' < 2) (h : b ≠ b') (w : (bufRect b hb).shape.Idx → Elt Ideal e)
    (L : List (View.Piece (Elt Ideal) S2x256x1280 e)) (r : Fin 256) (c : Fin 1280) :
    View.canon (⟨bufRect b hb, w⟩ :: L) (ix3 (⟨b', hb'⟩ : Fin 2) r c) = View.canon L (ix3 (⟨b', hb'⟩ : Fin 2) r c) := by
  apply View.canon_cons_of_not_mem
  rw [Rect.mem_set_unit]
  intro hh
  have h0 : b ≤ b' ∧ b' < b + 1 := hh 0
  omega

/-! ## The distances -/

/-- The distance of query `r` and key `k` of query block `rr`. -/
def dist (rr : Fin 4) (r : Fin 128) (k : Fin 384) : BitVec 32 :=
  IntOp.absi (IntOp.subi (IntOp.addi (IntOp.subi (IntOp.addi (IntOp.muli (tileW v.n) 512#32) (BitVec.ofNat 32 (128 * rr))) (startW v.n rr)) (BitVec.ofNat 32 r)) (BitVec.ofNat 32 k))

/-- The distances by the index of their buffer. -/
def distG : S4x128x384.Idx → Elt Ideal .i32 := fun y => dist v (y 0) (y 1) (y 2)

/-- A store of distances is a block of them. -/
theorem distPiece_of (rr : ℕ) (hr : rr < 4) (L' : List (View.Piece (Elt Ideal) S4x128x384 .i32)) (hL : View.PiecesOf (distG v) L') :
    View.PiecesOf (distG v) (distPiece (F := Ideal) v rr hr :: L') := by
  refine ⟨fun x => ?_, hL⟩
  obtain ⟨a, r, k, rfl⟩ : ∃ (a : Fin 1) (r : Fin 128) (k : Fin 384), x = ix3 a r k := ⟨_, _, _, eq_ix3 x⟩
  have e : (distPiece (F := Ideal) v rr hr).1.emb (ix3 a r k) = (ix3 (⟨rr, hr⟩ : Fin 4) r k : S4x128x384.Idx) := by
    funext i
    fin_cases i <;> apply Fin.ext
    · show rr + 1 * a.val = rr
      omega
    · show 0 + 1 * r.val = r.val
      omega
    · show 0 + 1 * k.val = k.val
      omega
  rw [e, Subsingleton.elim a 0]
  show k0_pay8 _ _ (ix3 (0 : Fin 1) r k) = dist v ⟨rr, hr⟩ r k
  pointwise [k0_pay8]
  rfl

/-- The load of distances. -/
theorem dLd_apply (rr r0 : ℕ) (hr : rr < 4) (h0 : r0 + 64 ≤ 128) (r : Fin 64) (k : Fin 384) :
    dLd (F := Ideal) v rr r0 hr h0 (ix3 (0 : Fin 1) r k) = dist v ⟨rr, hr⟩ ⟨r0 + r, by omega⟩ k := by
  unfold dLd
  rw [View.readCov_eq_canon']
  have e : (Rect.unit (s := S4x128x384) ![rr, r0, 0] S1x64x384.size (fit3 (by omega) h0 (by omega))).toLoadRect.idx (ix3 (0 : Fin 1) r k) =
      (ix3 (⟨rr, hr⟩ : Fin 4) (⟨r0 + r, by omega⟩ : Fin 128) k : S4x128x384.Idx) := by
    funext i
    fin_cases i <;> apply Fin.ext
    · show rr + 1 * 0 = rr
      omega
    · show r0 + 1 * r.val = r0 + r.val
      omega
    · show 0 + 1 * k.val = k.val
      omega
  refine (congrArg (View.canon _) e).trans ((congrArg (fun L => View.canon L _) (List.append_nil _).symm).trans
    (View.canon_append_of_piecesOf (distG v) [] (distPieces (F := Ideal) v) ?_ _ ?_))
  · unfold distPieces
    iterate 4 refine distPiece_of (hL := ?_) ..
    trivial
  · refine ⟨distPiece (F := Ideal) v rr hr, ?_, ?_⟩
    · unfold distPieces
      interval_cases rr <;> simp
    · refine (Rect.mem_set_unit (inb := fit3 (by omega) (by omega) (by omega))).mpr fun a => ?_
      fin_cases a
      · exact ⟨le_rfl, by show rr < rr + 1; omega⟩
      · exact ⟨Nat.zero_le _, by show r0 + r.val < 0 + 128; omega⟩
      · exact ⟨Nat.zero_le _, by show k.val < 0 + 384; omega⟩

/-- The grid point's half and the window's first key, as words. -/
theorem words : ∀ n : Fin 17, ∀ rr : Fin 4,
    IntOp.subi (IntOp.addi (IntOp.muli (tileW n) 512#32) (BitVec.ofNat 32 (128 * rr))) (startW n rr) =
      BitVec.ofNat 32 (512 * half n + 128 * rr - start n rr) := by decide +kernel

/-- The distance's comparison is nearness of the query's and the key's positions in the sequence. -/
theorem dist_near (rr : Fin 4) (r : Fin 128) (k : Fin 384) :
    IntOp.cmpi .sle (dist v rr r k) 128#32 = if near (512 * half v.n + (128 * rr + r)) (start v.n rr + k) then 1#1 else 0#1 := by
  have hw := words ⟨v.n, v.hn⟩ rr
  have hs := start_eq ⟨v.n, v.hn⟩ rr
  have hh : half v.n < 2 := Nat.mod_lt _ (by omega)
  simp only at hw hs
  have hs' : start v.n rr = min 640 (512 * half v.n + 128 * rr - 128) := hs
  unfold dist
  rw [hw]
  have e : IntOp.addi (BitVec.ofNat 32 (512 * half v.n + 128 * rr - start v.n rr)) (BitVec.ofNat 32 r) =
      BitVec.ofNat 32 (512 * half v.n + 128 * rr - start v.n rr + r) := (BitVec.ofNat_add _ _).symm
  rw [e, dist_le _ _ (by omega) (by omega)]
  exact if_congr (by constructor <;> (intro h; constructor <;> omega)) rfl rfl

/-! ## The payloads -/

/-- A window's score, masked where the distance is above 128. -/
theorem pay_mask (ch : Vec Ideal S64x384 .f32) (d : Vec Ideal S1x64x384 .i32) (r : Fin 64) (k : Fin 384) :
    k0_pay21 (F := Ideal) ch d (ix2 r k) = Scalar.select (IntOp.cmpi .sle (d (ix3 (0 : Fin 1) r k)) 128#32) (ch (ix2 r k)) ⊥ := by
  pointwise [k0_pay21]
  rfl

/-- The maximum's payload. -/
theorem pay_max (σ : EReal) (ch : Vec Ideal S64x384 .f32) (cc : Vec Ideal S64x256 .f32) (d : Vec Ideal S1x64x384 .i32) (r : Fin 64) :
    k0_pay22 (F := Ideal) σ ch cc d (ix2 r (0 : Fin 1)) =
      max (max σ (Finset.fold max ⊥ (fun k : Fin 384 => k0_pay21 (F := Ideal) ch d (ix2 r k)) Finset.univ)) (Finset.fold max ⊥ (fun k : Fin 256 => cc (ix2 r k)) Finset.univ) := by
  generalize hm : k0_pay21 (F := Ideal) ch d = M
  unfold k0_pay22
  rw [hm]
  pointwise []
  rw [word_bot]

/-- The window's weights' payload. -/
theorem pay_wL (σ : EReal) (ch : Vec Ideal S64x384 .f32) (cc : Vec Ideal S64x256 .f32) (d : Vec Ideal S1x64x384 .i32) (r : Fin 64) (k : Fin 384) :
    k0_pay23 (F := Ideal) σ ch cc d (ix3 (0 : Fin 1) r k) =
      Ideal.exp2 (k0_pay21 (F := Ideal) ch d (ix2 r k) - k0_pay22 (F := Ideal) σ ch cc d (ix2 r (0 : Fin 1))) := by
  unfold k0_pay23
  generalize k0_pay21 (F := Ideal) ch d = M
  generalize k0_pay22 (F := Ideal) σ ch cc d = m
  pointwise []
  rfl

/-- The context's weights' payload. -/
theorem pay_wC (σ : EReal) (ch : Vec Ideal S64x384 .f32) (cc : Vec Ideal S64x256 .f32) (d : Vec Ideal S1x64x384 .i32) (r : Fin 64) (k : Fin 256) :
    k0_pay36 (F := Ideal) σ ch cc d (ix3 (0 : Fin 1) r k) = Ideal.exp2 (cc (ix2 r k) - k0_pay22 (F := Ideal) σ ch cc d (ix2 r (0 : Fin 1))) := by
  unfold k0_pay36
  have e : k0_pay34 (F := Ideal) σ ch cc d = k0_pay22 (F := Ideal) σ ch cc d := rfl
  rw [e]
  generalize k0_pay22 (F := Ideal) σ ch cc d = m
  pointwise []
  rfl

/-- The sink terms' payload: the term of the lane's half. -/
theorem pay_sink (σ σ' : EReal) (m m' : FVec Ideal S64x1 .f32) (r : Fin 64) (l : Fin 128) :
    k0_pay32 (F := Ideal) σ' k0_pay20 (k0_pay26 (F := Ideal) σ m) m' (ix2 r l) =
      if l.val < 64 then Ideal.exp2 (σ - m (ix2 r (0 : Fin 1))) else Ideal.exp2 (σ' - m' (ix2 r (0 : Fin 1))) := by
  pointwise [k0_pay32, k0_pay20, k0_pay26]
  rw [select_lane]
  rfl

/-- The maximum of 640 scores is that of the window's 384 and the context's 256. -/
theorem fold_split (S : Fin 640 → EReal) :
    Finset.fold max ⊥ S Finset.univ = max (Finset.fold max ⊥ (fun k : Fin 384 => S ⟨k, by omega⟩) Finset.univ)
      (Finset.fold max ⊥ (fun k : Fin 256 => S ⟨384 + k, by omega⟩) Finset.univ) := by
  show Finset.univ.sup S = max (Finset.univ.sup fun k : Fin 384 => S ⟨k, by omega⟩) (Finset.univ.sup fun k : Fin 256 => S ⟨384 + k, by omega⟩)
  refine le_antisymm (Finset.sup_le fun k _ => ?_) (max_le (Finset.sup_le fun k _ => Finset.le_sup (f := S) (Finset.mem_univ _)) (Finset.sup_le fun k _ => Finset.le_sup (f := S) (Finset.mem_univ _)))
  by_cases h : k.val < 384
  · exact le_max_of_le_left (Finset.le_sup (f := fun k : Fin 384 => S ⟨k, by omega⟩) (Finset.mem_univ ⟨k, h⟩))
  · refine le_max_of_le_right ((le_of_eq ?_).trans (Finset.le_sup (f := fun k : Fin 256 => S ⟨384 + k, by omega⟩) (Finset.mem_univ ⟨k - 384, by omega⟩)))
    exact congrArg S (Fin.ext (by show k.val = 384 + (k.val - 384); omega))

/-! ## A unit's stores -/

/-- A row of half `e` of a unit's scores, masked. -/
def mS (rr : Fin 4) (SC : Fin 256 → Fin 1280 → EReal) (r : Fin 256) (e : Fin 2) (k : Fin 640) : EReal :=
  if k.val < 384 ∧ ¬ near (512 * half v.n + (128 * rr + r % 128)) (start v.n rr + k) then ⊥ else SC r ⟨640 * e + k, by omega⟩

/-- The weight that a unit keeps at row `r` and column `c`. -/
def unitW (rr : Fin 4) (s : Fin 2 → Fin 2 → EReal) (SC : Fin 256 → Fin 1280 → EReal) (r : Fin 256) (c : Fin 1280) : EReal :=
  kW (s ⟨r / 128, by omega⟩ ⟨c / 640, by omega⟩) (mS v rr SC r ⟨c / 640, by omega⟩) (mS v rr SC r ⟨c / 640, by omega⟩ ⟨c % 640, by omega⟩)

/-- The sink's term that a unit keeps at row `r` and lane `l`. -/
def unitSk (rr : Fin 4) (s : Fin 2 → Fin 2 → EReal) (SC : Fin 256 → Fin 1280 → EReal) (r : Fin 256) (l : Fin 128) : EReal :=
  kW (s ⟨r / 128, by omega⟩ ⟨l / 64, by omega⟩) (mS v rr SC r ⟨l / 64, by omega⟩) (s ⟨r / 128, by omega⟩ ⟨l / 64, by omega⟩)

/-- The unit's weights, by the index of the buffer. -/
def unitWG (rr : Fin 4) (s : Fin 2 → Fin 2 → EReal) (SC : Fin 256 → Fin 1280 → EReal) : S2x256x1280.Idx → Elt Ideal .bf16 := fun y => unitW v rr s SC (y 1) (y 2)

/-- The unit's sink terms, by the index of the buffer. -/
def unitSkG (rr : Fin 4) (s : Fin 2 → Fin 2 → EReal) (SC : Fin 256 → Fin 1280 → EReal) : S2x256x128.Idx → Elt Ideal .f32 := fun y => unitSk v rr s SC (y 1) (y 2)

section
variable (L : List (View.Piece (Elt Ideal) S2x256x1280 .f32)) (b : ℕ) (hb : b < 2) (rr : Fin 4)
  (SC : Fin 256 → Fin 1280 → EReal) (hS : ∀ (r : Fin 256) (c : Fin 1280), View.canon L (ix3 (⟨b, hb⟩ : Fin 2) r c) = SC r c) (s : Fin 2 → Fin 2 → EReal)

include hS in
/-- A masked score of the window. -/
theorem maskL_apply (r0 : ℕ) (e : Fin 2) (hr : r0 + 64 ≤ 256) (hd : r0 % 128 + 64 ≤ 128) (r : Fin 64) (k : Fin 384) :
    k0_pay21 (F := Ideal) (chL v L b hb r0 e hr e.isLt) (dLd v rr (r0 % 128) rr.isLt hd) (ix2 r k) = mS v rr SC ⟨r0 + r, by omega⟩ e ⟨k, by omega⟩ := by
  unfold chL
  rw [pay_mask, dLd_apply, sChunk_apply, hS, dist_near]
  have hq : r0 % 128 + r.val = (r0 + r.val) % 128 := by omega
  unfold mS
  simp only [hq, k.isLt, true_and]
  by_cases h : near (512 * half v.n + (128 * rr + (r0 + r.val) % 128)) (start v.n rr + k)
  · rw [if_pos h, if_neg (not_not.mpr h)]
    rfl
  · rw [if_neg h, if_pos h]
    rfl

include hS in
/-- A score of the context. -/
theorem chC_apply (r0 : ℕ) (e : Fin 2) (hr : r0 + 64 ≤ 256) (r : Fin 64) (k : Fin 256) :
    chC (F := Ideal) v L b hb r0 e hr e.isLt (ix2 r k) = mS v rr SC ⟨r0 + r, by omega⟩ e ⟨384 + k, by omega⟩ := by
  unfold chC
  rw [sChunk_apply, hS]
  unfold mS
  rw [if_neg (fun h => absurd h.1 (by show ¬ 384 + k.val < 384; omega))]
  exact congrArg (SC _) (Fin.ext (by show 640 * e.val + 384 + k.val = 640 * e.val + (384 + k.val); omega))

include hS in
/-- The maximum of a row of 64. -/
theorem max_apply (σ : EReal) (r0 : ℕ) (e : Fin 2) (hr : r0 + 64 ≤ 256) (hd : r0 % 128 + 64 ≤ 128) (r : Fin 64) :
    k0_pay22 (F := Ideal) σ (chL v L b hb r0 e hr e.isLt) (chC v L b hb r0 e hr e.isLt) (dLd v rr (r0 % 128) rr.isLt hd) (ix2 r (0 : Fin 1)) =
      kMax σ (mS v rr SC ⟨r0 + r, by omega⟩ e) := by
  rw [pay_max]
  unfold kMax
  rw [fold_split, max_assoc]
  simp only [maskL_apply v L b hb rr SC hS, chC_apply v L b hb rr SC hS]

include hS in
/-- One store of the window's weights is a block of the unit's weights. -/
theorem wPieceL_of (r0 : ℕ) (e : Fin 2) (hr : r0 + 64 ≤ 256) (hd : r0 % 128 + 64 ≤ 128) (σ : EReal) (hσ : σ = s ⟨r0 / 128, by omega⟩ e)
    (L' : List (View.Piece (Elt Ideal) S2x256x1280 .bf16)) (hL : View.PiecesOf (unitWG v rr s SC) L') :
    View.PiecesOf (unitWG v rr s SC) (wPieceL (F := Ideal) v L b hb rr r0 e rr.isLt hr e.isLt σ hd :: L') := by
  refine ⟨fun x => ?_, hL⟩
  obtain ⟨a, r, c, rfl⟩ : ∃ (a : Fin 1) (r : Fin 64) (c : Fin 384), x = ix3 a r c := ⟨_, _, _, eq_ix3 x⟩
  have e1 : (wPieceL (F := Ideal) v L b hb rr r0 e rr.isLt hr e.isLt σ hd).1.emb (ix3 a r c) =
      (ix3 (⟨b, hb⟩ : Fin 2) (⟨r0 + r, by omega⟩ : Fin 256) (⟨640 * e + c, by omega⟩ : Fin 1280) : S2x256x1280.Idx) := by
    funext i
    fin_cases i <;> apply Fin.ext
    · show b + 1 * a.val = b
      omega
    · show r0 + 1 * r.val = r0 + r
      omega
    · show 640 * e.val + 1 * c.val = 640 * e.val + c
      omega
  rw [e1, Subsingleton.elim a 0]
  refine (pay_wL ..).trans ?_
  rw [maskL_apply v L b hb rr SC hS, max_apply v L b hb rr SC hS]
  show _ = unitW v rr s SC ⟨r0 + r, _⟩ ⟨640 * e + c, _⟩
  unfold unitW kW
  have f1 : (⟨(r0 + r.val) / 128, by omega⟩ : Fin 2) = ⟨r0 / 128, by omega⟩ := Fin.ext (by show (r0 + r.val) / 128 = r0 / 128; omega)
  have f2 : (⟨(640 * e.val + c.val) / 640, by omega⟩ : Fin 2) = e := Fin.ext (by show (640 * e.val + c.val) / 640 = e.val; omega)
  have f3 : (⟨(640 * e.val + c.val) % 640, by omega⟩ : Fin 640) = ⟨c, by omega⟩ := Fin.ext (by show (640 * e.val + c.val) % 640 = c.val; omega)
  simp only [f1, f2, f3, hσ]

include hS in
/-- One store of the context's weights is a block of the unit's weights. -/
theorem wPieceC_of (r0 : ℕ) (e : Fin 2) (hr : r0 + 64 ≤ 256) (hd : r0 % 128 + 64 ≤ 128) (σ : EReal) (hσ : σ = s ⟨r0 / 128, by omega⟩ e)
    (L' : List (View.Piece (Elt Ideal) S2x256x1280 .bf16)) (hL : View.PiecesOf (unitWG v rr s SC) L') :
    View.PiecesOf (unitWG v rr s SC) (wPieceC (F := Ideal) v L b hb rr r0 e rr.isLt hr e.isLt σ hd :: L') := by
  refine ⟨fun x => ?_, hL⟩
  obtain ⟨a, r, c, rfl⟩ : ∃ (a : Fin 1) (r : Fin 64) (c : Fin 256), x = ix3 a r c := ⟨_, _, _, eq_ix3 x⟩
  have e1 : (wPieceC (F := Ideal) v L b hb rr r0 e rr.isLt hr e.isLt σ hd).1.emb (ix3 a r c) =
      (ix3 (⟨b, hb⟩ : Fin 2) (⟨r0 + r, by omega⟩ : Fin 256) (⟨640 * e + (384 + c), by omega⟩ : Fin 1280) : S2x256x1280.Idx) := by
    funext i
    fin_cases i <;> apply Fin.ext
    · show b + 1 * a.val = b
      omega
    · show r0 + 1 * r.val = r0 + r
      omega
    · show 640 * e.val + 384 + 1 * c.val = 640 * e.val + (384 + c)
      omega
  rw [e1, Subsingleton.elim a 0]
  refine (pay_wC ..).trans ?_
  rw [chC_apply v L b hb rr SC hS, max_apply v L b hb rr SC hS]
  show _ = unitW v rr s SC ⟨r0 + r, _⟩ ⟨640 * e + (384 + c), _⟩
  unfold unitW kW
  have f1 : (⟨(r0 + r.val) / 128, by omega⟩ : Fin 2) = ⟨r0 / 128, by omega⟩ := Fin.ext (by show (r0 + r.val) / 128 = r0 / 128; omega)
  have f2 : (⟨(640 * e.val + (384 + c.val)) / 640, by omega⟩ : Fin 2) = e := Fin.ext (by show (640 * e.val + (384 + c.val)) / 640 = e.val; omega)
  have f3 : (⟨(640 * e.val + (384 + c.val)) % 640, by omega⟩ : Fin 640) = ⟨384 + c, by omega⟩ := Fin.ext (by show (640 * e.val + (384 + c.val)) % 640 = 384 + c.val; omega)
  simp only [f1, f2, f3, hσ]

include hS in
/-- The stores of 64 rows of weights are blocks of the unit's weights. -/
theorem wChunk_of (r0 : ℕ) (p : Fin 2) (hp : r0 / 128 = p) (hr : r0 + 64 ≤ 256) (hd : r0 % 128 + 64 ≤ 128)
    (L' : List (View.Piece (Elt Ideal) S2x256x1280 .bf16)) (hL : View.PiecesOf (unitWG v rr s SC) L') :
    View.PiecesOf (unitWG v rr s SC) (wChunk (F := Ideal) v L b hb rr r0 rr.isLt hr (s p 0) (s p 1) hd L') := by
  have f : (⟨r0 / 128, by omega⟩ : Fin 2) = p := Fin.ext hp
  exact wPieceC_of v L b hb rr SC hS s r0 1 hr hd _ (by rw [f]) _ <| wPieceL_of v L b hb rr SC hS s r0 1 hr hd _ (by rw [f]) _ <|
    wPieceC_of v L b hb rr SC hS s r0 0 hr hd _ (by rw [f]) _ <| wPieceL_of v L b hb rr SC hS s r0 0 hr hd _ (by rw [f]) _ hL

/-- One of the stores of 64 rows of weights covers an index in its rows. -/
theorem wChunk_mem (r0 : ℕ) (hr : r0 + 64 ≤ 256) (hd : r0 % 128 + 64 ≤ 128) (σ σ' : EReal) (L' : List (View.Piece (Elt Ideal) S2x256x1280 .bf16))
    (r : Fin 256) (c : Fin 1280) (h : (r0 ≤ r.val ∧ r.val < r0 + 64) ∨ ∃ q ∈ L', (ix3 (⟨b, hb⟩ : Fin 2) r c : S2x256x1280.Idx) ∈ q.1.set) :
    ∃ q ∈ wChunk (F := Ideal) v L b hb rr r0 rr.isLt hr σ σ' hd L', (ix3 (⟨b, hb⟩ : Fin 2) r c : S2x256x1280.Idx) ∈ q.1.set := by
  have hm : ∀ (w c0 : ℕ) (inb), r0 ≤ r.val → r.val < r0 + 64 → c0 ≤ c.val → c.val < c0 + w →
      (ix3 (⟨b, hb⟩ : Fin 2) r c : S2x256x1280.Idx) ∈ (Rect.unit (s := S2x256x1280) ![b, r0, c0] ![1, 64, w] inb).set := by
    intro w c0 inb h1 h2 h3 h4
    refine (Rect.mem_set_unit (inb := inb)).mpr fun a => ?_
    fin_cases a
    · exact ⟨le_rfl, by show b < b + 1; omega⟩
    · exact ⟨h1, h2⟩
    · exact ⟨h3, h4⟩
  unfold wChunk
  simp only [List.mem_cons, exists_eq_or_imp]
  obtain ⟨h1, h2⟩ | h := h
  · by_cases c1 : c.val < 384
    · exact .inr (.inr (.inr (.inl (hm 384 (640 * 0) (fit3 (by omega) (by omega) (by omega)) h1 h2 (by omega) (by omega)))))
    by_cases c2 : c.val < 640
    · exact .inr (.inr (.inl (hm 256 (640 * 0 + 384) (fit3 (by omega) (by omega) (by omega)) h1 h2 (by omega) (by omega))))
    by_cases c3 : c.val < 1024
    · exact .inr (.inl (hm 384 (640 * 1) (fit3 (by omega) (by omega) (by omega)) h1 h2 (by omega) (by omega)))
    · exact .inl (hm 256 (640 * 1 + 384) (fit3 (by omega) (by omega) (by omega)) h1 h2 (by omega) (by omega))
  · exact .inr (.inr (.inr (.inr h)))

include hS in
/-- After a unit's stores of weights its buffer holds the unit's weights. -/
theorem wBuf_apply (L' : List (View.Piece (Elt Ideal) S2x256x1280 .bf16)) (r : Fin 256) (c : Fin 1280) :
    View.canon (wBuf (F := Ideal) v L b hb rr rr.isLt (s 0 0) (s 0 1) (s 1 0) (s 1 1) L') (ix3 (⟨b, hb⟩ : Fin 2) r c) = unitW v rr s SC r c := by
  refine View.canon_append_of_piecesOf (unitWG v rr s SC) L' (wBuf (F := Ideal) v L b hb rr rr.isLt (s 0 0) (s 0 1) (s 1 0) (s 1 1) []) ?_ (ix3 (⟨b, hb⟩ : Fin 2) r c) ?_
  · have W := wChunk_of v L b hb rr SC hS s
    exact W 192 1 rfl _ _ _ (W 128 1 rfl _ _ _ (W 64 0 rfl _ _ _ (W 0 0 rfl _ _ _ trivial)))
  · unfold wBuf
    refine wChunk_mem v L b hb rr _ _ _ _ _ _ r c (or_iff_not_imp_left.mpr fun h1 => ?_)
    refine wChunk_mem v L b hb rr _ _ _ _ _ _ r c (or_iff_not_imp_left.mpr fun h2 => ?_)
    refine wChunk_mem v L b hb rr _ _ _ _ _ _ r c (or_iff_not_imp_left.mpr fun h3 => ?_)
    exact wChunk_mem v L b hb rr _ _ _ _ _ _ r c (.inl (by omega))

include hS in
/-- One store of sink terms is a block of the unit's sink terms. -/
theorem skPiece_of (r0 : ℕ) (p : Fin 2) (hp : r0 / 128 = p) (hr : r0 + 64 ≤ 256) (hd : r0 % 128 + 64 ≤ 128)
    (L' : List (View.Piece (Elt Ideal) S2x256x128 .f32)) (hL : View.PiecesOf (unitSkG v rr s SC) L') :
    View.PiecesOf (unitSkG v rr s SC) (skPiece (F := Ideal) v L b hb rr r0 rr.isLt hr (s p 0) (s p 1) hd :: L') := by
  refine ⟨fun x => ?_, hL⟩
  obtain ⟨a, r, l, rfl⟩ : ∃ (a : Fin 1) (r : Fin 64) (l : Fin 128), x = ix3 a r l := ⟨_, _, _, eq_ix3 x⟩
  have e0 := Rect.payAlong_consLift (d := ![256, 128]) (Rect.unit (s := S256x128) ![r0, 0] S64x128.size (fit2 hr (by omega))) ![1, 256, 128] rfl
      (fun i => by fin_cases i <;> rfl)
      (k0_pay32 (F := Ideal) (s p 1) k0_pay20 (k0_pay26 (F := Ideal) (s p 0) (k0_pay22 (F := Ideal) (s p 0) (chL v L b hb r0 0 hr (by omega)) (chC v L b hb r0 0 hr (by omega)) (dLd v rr (r0 % 128) rr.isLt hd)))
        (k0_pay22 (F := Ideal) (s p 1) (chL v L b hb r0 1 hr (by omega)) (chC v L b hb r0 1 hr (by omega)) (dLd v rr (r0 % 128) rr.isLt hd)))
      (Rect.numel_consLift (d := ![256, 128]) (Rect.unit (s := S256x128) ![r0, 0] S64x128.size (fit2 hr (by omega))) ![1, 256, 128] rfl
      (fun i => by fin_cases i <;> rfl)) (ix3 a r l) (ix2 r l) (Fin.forall_fin_two.mpr ⟨rfl, rfl⟩)
  refine e0.trans ?_
  have m0 : ∀ i : Fin 2, k0_pay22 (F := Ideal) (s p i) (chL v L b hb r0 i hr i.isLt) (chC v L b hb r0 i hr i.isLt) (dLd v rr (r0 % 128) rr.isLt hd) (ix2 r (0 : Fin 1)) =
      kMax (s p i) (mS v rr SC ⟨r0 + r, by omega⟩ i) := fun i => max_apply v L b hb rr SC hS (s p i) r0 i hr hd r
  refine (pay_sink ..).trans ?_
  refine (congrArg₂ (fun x y => if l.val < 64 then Ideal.exp2 (s p 0 - x) else Ideal.exp2 (s p 1 - y)) (m0 0) (m0 1)).trans ?_
  have e1 : (skPiece (F := Ideal) v L b hb rr r0 rr.isLt hr (s p 0) (s p 1) hd).1.emb (ix3 a r l) =
      (ix3 (⟨b, hb⟩ : Fin 2) (⟨r0 + r, by omega⟩ : Fin 256) l : S2x256x128.Idx) := by
    funext i
    fin_cases i <;> apply Fin.ext
    · show b + 0 + 1 * a.val = b
      omega
    · show 0 + r0 + 1 * r.val = r0 + r
      omega
    · show 0 + 0 + 1 * l.val = l
      omega
  rw [e1]
  show _ = unitSk v rr s SC ⟨r0 + r, _⟩ l
  unfold unitSk kW
  have f1 : (⟨(r0 + r.val) / 128, by omega⟩ : Fin 2) = p := Fin.ext (by show (r0 + r.val) / 128 = p.val; omega)
  split
  · have f2 : (⟨l.val / 64, by omega⟩ : Fin 2) = 0 := Fin.ext (by show l.val / 64 = 0; omega)
    rw [f1, f2]
  · have f2 : (⟨l.val / 64, by omega⟩ : Fin 2) = 1 := Fin.ext (by show l.val / 64 = 1; omega)
    rw [f1, f2]

include hS in
/-- After a unit's stores of sink terms its buffer holds the unit's sink terms. -/
theorem skBuf_apply (L' : List (View.Piece (Elt Ideal) S2x256x128 .f32)) (r : Fin 256) (l : Fin 128) :
    View.canon (skBuf (F := Ideal) v L b hb rr rr.isLt (s 0 0) (s 0 1) (s 1 0) (s 1 1) L') (ix3 (⟨b, hb⟩ : Fin 2) r l) = unitSk v rr s SC r l := by
  refine View.canon_append_of_piecesOf (unitSkG v rr s SC) L' (skBuf (F := Ideal) v L b hb rr rr.isLt (s 0 0) (s 0 1) (s 1 0) (s 1 1) []) ?_ (ix3 (⟨b, hb⟩ : Fin 2) r l) ?_
  · have W := skPiece_of v L b hb rr SC hS s
    exact W 192 1 rfl _ _ _ (W 128 1 rfl _ _ _ (W 64 0 rfl _ _ _ (W 0 0 rfl _ _ _ trivial)))
  have hm : ∀ (r0 : ℕ) hr σ σ' hd, r0 ≤ r.val → r.val < r0 + 64 →
      (ix3 (⟨b, hb⟩ : Fin 2) r l : S2x256x128.Idx) ∈ (skPiece (F := Ideal) v L b hb rr r0 rr.isLt hr σ σ' hd).1.set := by
    intro r0 hr σ σ' hd h1 h2
    have he : (ix3 (⟨b, hb⟩ : Fin 2) r l : S2x256x128.Idx) =
        (skPiece (F := Ideal) v L b hb rr r0 rr.isLt hr σ σ' hd).1.emb (ix3 (0 : Fin 1) (⟨r.val - r0, by omega⟩ : Fin 64) l) := by
      funext a
      fin_cases a <;> apply Fin.ext
      · show b = b + 0 + 1 * 0
        omega
      · show r.val = 0 + r0 + 1 * (r.val - r0)
        omega
      · show l.val = 0 + 0 + 1 * l.val
        omega
    rw [he]
    exact LoadRect.idx_mem _ _
  unfold skBuf
  simp only [List.mem_cons, exists_eq_or_imp]
  by_cases h1 : r.val < 64
  · exact .inr (.inr (.inr (.inl (hm _ _ _ _ _ (by omega) (by omega)))))
  by_cases h2 : r.val < 128
  · exact .inr (.inr (.inl (hm _ _ _ _ _ (by omega) (by omega))))
  by_cases h3 : r.val < 192
  · exact .inr (.inl (hm _ _ _ _ _ (by omega) (by omega)))
  · exact .inl (hm _ _ _ _ _ (by omega) (by omega))
end

end Cert.Kernel2Ideal.Att
-- ==== Proof.LatValue.lean ====
/- The payloads of the second call's attention stages at an index: the context's keys and values, the scores and the attention rows. -/
module

public import proofs.«01_k».proof.Proof.LatUnit
public import proofs.«01_k».proof.Proof.AttValue

@[expose] public section

set_option maxRecDepth 16384

noncomputable section

namespace Cert.Kernel2Ideal.Att

open Cert.Kernel2Ideal Cert.Kernel2Ideal.Gen Idealize.ShloMosaic Idealize.ShloMosaic.TcCoe Idealize.SL.Sem

/-- The context's keys, each head's 64 channels twice. -/
theorem pay_ck (x : Vec Ideal S1x128x256 .f32) (r k : Fin 256) :
    k0_pay6 (F := Ideal) x (ix2 r k) = x (ix3 (0 : Fin 1) (⟨64 * (r / 128) + r % 64, by omega⟩ : Fin 128) k) := by
  have h : ∀ (i : ℕ) (hi : i < 128), i = 64 * (r.val / 128) + r.val % 64 → x (ix3 (0 : Fin 1) (⟨i, hi⟩ : Fin 128) k) =
      x (ix3 (0 : Fin 1) (⟨64 * (r / 128) + r % 64, by omega⟩ : Fin 128) k) := fun i hi e => by subst e; rfl
  pointwise [k0_pay6]
  split
  · exact h _ _ (by omega)
  split
  · exact h _ _ (by omega)
  split
  · exact h _ _ (by omega)
  · exact h _ _ (by omega)

/-- The context's values, transposed, each head's 64 channels twice. -/
theorem pay_cv (x : Vec Ideal S1x128x256 .f32) (k c : Fin 256) :
    k0_pay7 (F := Ideal) x (ix2 k c) = x (ix3 (0 : Fin 1) (⟨64 * (c / 128) + c % 64, by omega⟩ : Fin 128) k) := by
  have h : ∀ (i : ℕ) (hi : i < 128), i = 64 * (c.val / 128) + c.val % 64 → x (ix3 (0 : Fin 1) (⟨i, hi⟩ : Fin 128) k) =
      x (ix3 (0 : Fin 1) (⟨64 * (c / 128) + c % 64, by omega⟩ : Fin 128) k) := fun i hi e => by subst e; rfl
  pointwise [k0_pay7]
  split
  · refine (select_lane ⟨c.val, by omega⟩ _ _).trans ?_
    show (if c.val < 64 then _ else _) = _
    split
    · exact h _ _ (by omega)
    · exact h _ _ (by omega)
  · refine (select_lane ⟨c.val - 128, by omega⟩ _ _).trans ?_
    show (if c.val - 128 < 64 then _ else _) = _
    split
    · exact h _ _ (by omega)
    · exact h _ _ (by omega)

/-- The scores' payload: the products over the 64 lanes of the column's key half. -/
theorem pay_score (qa qb : Vec Ideal S128x128 .bf16) (kt : Vec Ideal S128x384 .bf16) (ct : Vec Ideal S128x256 .bf16) (R : Fin 256) (C : Fin 1280) :
    k0_pay15 (F := Ideal) qa qb kt ct (ix3 (0 : Fin 1) R C) =
      ∑ d : Fin 64, (if h : R.val < 128 then qa (ix2 ⟨R, h⟩ (⟨64 * (C / 640) + d, by omega⟩ : Fin 128))
        else qb (ix2 (⟨R - 128, by omega⟩ : Fin 128) (⟨64 * (C / 640) + d, by omega⟩ : Fin 128))) *
        (if h : C.val % 640 < 384 then kt (ix2 (⟨64 * (C / 640) + d, by omega⟩ : Fin 128) (⟨C % 640, h⟩ : Fin 384))
          else ct (ix2 (⟨64 * (C / 640) + d, by omega⟩ : Fin 128) (⟨C % 640 - 384, by omega⟩ : Fin 256))) := by
  pointwise [k0_pay15]
  simp only [select_lane]
  refine Eq.trans (Finset.sum_congr rfl fun x _ => ?_)
    (Cert.KernelIdeal.Att.sum_lanes (fun x => if h : R.val < 128 then qa (ix2 ⟨R, h⟩ x) else qb (ix2 (⟨R - 128, by omega⟩ : Fin 128) x))
      (fun x => if h : C.val % 640 < 384 then kt (ix2 x (⟨C % 640, h⟩ : Fin 384)) else ct (ix2 x (⟨C % 640 - 384, by omega⟩ : Fin 256))) (C / 640) (by omega))
  refine congrArg (_ * ·) ?_
  have key : ∀ (i : ℕ) (hi : i < 640), i = C.val % 640 → (if h : i < 384 then kt (ix2 x (⟨i, h⟩ : Fin 384)) else ct (ix2 x (⟨i - 384, by omega⟩ : Fin 256))) =
      if h : C.val % 640 < 384 then kt (ix2 x (⟨C % 640, h⟩ : Fin 384)) else ct (ix2 x (⟨C % 640 - 384, by omega⟩ : Fin 256)) := fun i hi e => by subst e; rfl
  split
  · exact if_congr (Q := x.val / 64 = C.val / 640) (by omega) (key C.val (by omega) (by omega)) rfl
  · rw [← ite_not]
    exact if_congr (Q := x.val / 64 = C.val / 640) (by omega) (key (C.val - 640) (by omega) (by omega)) rfl

/-- The product of a unit's weights with the values, over its sum with the sink's term, at row `R` of 256 and lane `l`. -/
theorem pay_att (vl : Vec Ideal S384x128 .bf16) (vc : Vec Ideal S256x128 .bf16) (P : Vec Ideal S1x256x1280 .bf16) (K : Vec Ideal S1x256x128 .f32) (R : Fin 256) (l : Fin 128) :
    k0_pay74 (F := Ideal) (k0_pay69 vl vc) k0_pay70 k0_pay71 k0_pay72 (k0_pay73 vl vc) P K (ix2 R l) =
      Ideal.div (∑ x : Fin 640, P (ix3 (0 : Fin 1) R (⟨640 * (l / 64) + x, by omega⟩ : Fin 1280)) * k0_pay69 (F := Ideal) vl vc (ix2 x l))
        (∑ x : Fin 640, P (ix3 (0 : Fin 1) R (⟨640 * (l / 64) + x, by omega⟩ : Fin 1280)) + K (ix3 (0 : Fin 1) R l)) := by
  unfold k0_pay73
  generalize k0_pay69 (F := Ideal) vl vc = vt
  pointwise [k0_pay74, k0_pay70, k0_pay71, k0_pay72]
  simp only [select_lane]
  have sh : ∀ f : Fin 2 → Fin 640 → EReal, (∑ x, (if l.val < 64 then f 0 x else 0)) + (∑ x, (if l.val < 64 then 0 else f 1 x)) = ∑ x, f ⟨l / 64, by omega⟩ x := by
    intro f
    split
    · rw [Finset.sum_const_zero, add_zero, show (⟨l.val / 64, by omega⟩ : Fin 2) = 0 from Fin.ext (by show l.val / 64 = 0; omega)]
    · rw [Finset.sum_const_zero, zero_add, show (⟨l.val / 64, by omega⟩ : Fin 2) = 1 from Fin.ext (by show l.val / 64 = 1; omega)]
  have e : ∀ (g : Fin 640 → EReal → EReal), (∑ x : Fin 640, (if l.val < 64 then g x (P (ix3 (0 : Fin 1) R (⟨x, by omega⟩ : Fin 1280))) else 0)) +
      (∑ x : Fin 640, (if l.val < 64 then 0 else g x (P (ix3 (0 : Fin 1) R (⟨640 + x, by omega⟩ : Fin 1280))))) =
      ∑ x : Fin 640, g x (P (ix3 (0 : Fin 1) R (⟨640 * (l / 64) + x, by omega⟩ : Fin 1280))) := by
    intro g
    refine Eq.trans ?_ (sh fun h x => g x (P (ix3 (0 : Fin 1) R (⟨640 * h + x, by omega⟩ : Fin 1280))))
    simp only [Fin.val_zero, Fin.val_one, Nat.mul_zero, Nat.zero_add, Nat.mul_one]
  exact congrArg₂ Ideal.div (e fun x w => w * vt (ix2 x l)) (congrArg (· + _) (e fun x w => w))

/-- The values of the window and of the context, one above the other. -/
theorem pay_val (vl : Vec Ideal S384x128 .bf16) (vc : Vec Ideal S256x128 .bf16) (x : Fin 640) (l : Fin 128) :
    k0_pay69 (F := Ideal) vl vc (ix2 x l) = if h : x.val < 384 then vl (ix2 ⟨x, h⟩ l) else vc (ix2 (⟨x - 384, by omega⟩ : Fin 256) l) := by
  pointwise [k0_pay69]

end Cert.Kernel2Ideal.Att
-- ==== Proof.LatTile.lean ====
/- The tile of attention rows that the attention stages of a grid point of the second call leave, from the loads to the stores. -/
module

public import proofs.«01_k».proof.Proof.LatValue

@[expose] public section

set_option maxRecDepth 16384

noncomputable section

namespace Cert.Kernel2Ideal.Att

open Cert.Kernel2Ideal Cert.Kernel2Ideal.Gen Idealize.ShloMosaic Idealize.ShloMosaic.TcCoe Idealize.SL.Sem

/-- A load of a unit-stride rectangle of a whole matrix reads the matrix at the shifted index. -/
theorem ld2 {n m a b : ℕ} {e : EltTy} (arg : Memref sig .tc .vmem ⟨2, ![n, m]⟩ e) (harg : arg.IsWhole) (x : Vec Ideal ⟨2, ![n, m]⟩ e) (r c : ℕ)
    (hr : r + a ≤ n) (hc : c + b ≤ m) (i : Fin a) (j : Fin b) :
    View.readAt (Elt Ideal) arg.view (Rect.unit (s := ⟨2, ![n, m]⟩) ![r, c] (⟨2, ![a, b]⟩ : Shape).size (fit2 hr hc)).toLoadRect (harg.unread x) (ix2 i j) =
      x (ix2 (⟨r + i, by omega⟩ : Fin n) (⟨c + j, by omega⟩ : Fin m)) := by
  rw [View.readAt_apply, harg.read_unread]
  refine congrArg x ?_
  funext k
  fin_cases k <;> apply Fin.ext
  · show r + 1 * i.val = r + i
    omega
  · show c + 1 * j.val = c + j
    omega

/-- A load of a whole block of 128 by 256 reads it. -/
theorem ldc (arg : Memref sig .tc .vmem S1x128x256 .f32) (harg : arg.IsWhole) (x : Vec Ideal S1x128x256 .f32) (i : Fin 128) (k : Fin 256) :
    View.readAt (Elt Ideal) arg.view (Rect.unit (s := S1x128x256) ![0, 0, 0] S1x128x256.size (fit3 (by omega) (by omega) (by omega))).toLoadRect (harg.unread x) (ix3 (0 : Fin 1) i k) =
      x (ix3 (0 : Fin 1) i k) := by
  rw [View.readAt_apply, harg.read_unread]
  refine congrArg x ?_
  funext a
  fin_cases a <;> apply Fin.ext
  · rfl
  · show 0 + 1 * i.val = i
    omega
  · show 0 + 1 * k.val = k
    omega

/-- A rectangle of a matrix of 256 by 256, read back after one store of the whole. -/
theorem canon_whole (arg : Memref sig .tc .vmem S256x256 .bf16) (w : FVec Ideal S256x256 .bf16) (r c a b : ℕ) (hr : r + a ≤ 256) (hc : c + b ≤ 256) (i : Fin a) (j : Fin b) :
    arg.view.readCov (Val := Elt Ideal) [⟨Rect.unit (s := S256x256) ![0, 0] S256x256.size (fit2 (by omega) (by omega)), w⟩]
      (Rect.unit (s := S256x256) ![r, c] (⟨2, ![a, b]⟩ : Shape).size (fit2 hr hc)).toLoadRect (ix2 i j) =
      w (ix2 (⟨r + i, by omega⟩ : Fin 256) (⟨c + j, by omega⟩ : Fin 256)) := by
  rw [View.readCov_eq_canon']
  have h : (Rect.unit (s := S256x256) ![r, c] (⟨2, ![a, b]⟩ : Shape).size (fit2 hr hc)).toLoadRect.idx (ix2 i j) =
      (Rect.unit (s := S256x256) ![0, 0] S256x256.size (fit2 (by omega) (by omega))).emb (ix2 (⟨r + i, by omega⟩ : Fin 256) (⟨c + j, by omega⟩ : Fin 256)) := by
    funext k
    fin_cases k <;> apply Fin.ext
    · show r + 1 * i.val = 0 + 1 * (r + i.val)
      omega
    · show c + 1 * j.val = 0 + 1 * (c + j.val)
      omega
  refine (congrArg (View.canon _) h).trans ?_
  rw [View.canon_cons_emb]

variable (v : Env Ideal)

/-- A load of a sink's logit. -/
theorem sk_eq (i : ℕ) (hi : i + 1 ≤ 8) : sk (F := Ideal) v i hi = sinkLog v.x0 i hi := by
  unfold sk sinkLog
  rw [View.readAt_apply, v.harg1.read_unread]
  refine congrArg (fun z => k0_pay16 (F := Ideal) (v.x0 z)) ?_
  funext k
  fin_cases k
  apply Fin.ext
  show i + 1 * 0 = i
  omega

/-- A load of the context's keys. -/
theorem ckLd_apply (r : ℕ) (hr : r + 128 ≤ 256) (i : Fin 128) (k : Fin 256) :
    ckLd (F := Ideal) v r hr (ix2 i k) = v.x4 (ix3 (0 : Fin 1) (⟨64 * ((r + i) / 128) + (r + i) % 64, by omega⟩ : Fin 128) k) := by
  unfold ckLd cktPieces
  refine (canon_whole v.arg23 _ r 0 128 256 hr (by omega) i k).trans ((pay_ck _ _ _).trans ((ldc v.arg5 v.harg5 v.x4 _ _).trans (congrArg (fun z => v.x4 (ix3 _ _ z)) (Fin.ext ?_))))
  show 0 + k.val = k.val
  omega

/-- A load of the context's values. -/
theorem cvLd_apply (c : ℕ) (hc : c + 128 ≤ 256) (k : Fin 256) (j : Fin 128) :
    cvLd (F := Ideal) v c hc (ix2 k j) = v.x5 (ix3 (0 : Fin 1) (⟨64 * ((c + j) / 128) + (c + j) % 64, by omega⟩ : Fin 128) k) := by
  unfold cvLd cvdPieces
  refine (canon_whole v.arg24 _ 0 c 256 128 (by omega) hc k j).trans ((pay_cv _ _ _).trans ((ldc v.arg6 v.harg6 v.x5 _ _).trans (congrArg (fun z => v.x5 (ix3 _ _ z)) (Fin.ext ?_))))
  show 0 + k.val = k.val
  omega

/-- The same key by other names. -/
theorem key_congr {rr rr' : ℕ} {hr : rr < 4} {hr' : rr' < 4} {c c' : Fin 256} {k k' : Fin 640} (e : rr = rr') (f : c.val = c'.val) (g : k.val = k'.val) :
    key v rr hr c k = key v rr' hr' c' k' := by
  subst e
  rw [Fin.ext f, Fin.ext g]

/-- The same value by other names. -/
theorem val_congr {rr rr' : ℕ} {hr : rr < 4} {hr' : rr' < 4} {c c' : Fin 256} {k : Fin 640} (e : rr = rr') (f : c.val = c'.val) :
    val v rr hr c k = val v rr' hr' c' k := by
  subst e
  rw [Fin.ext f]

/-- The scores of a unit: query block `rr` of four, head group `g` of two; row `R` is query head pair `R / 128` of the group, column `C` key half `C / 640`. -/
def uSc (rr : Fin 4) (g : Fin 2) (R : Fin 256) (C : Fin 1280) : EReal :=
  score v ⟨128 * rr + R % 128, by omega⟩ ⟨4 * g + 2 * (R / 128) + C / 640, by omega⟩ ⟨C % 640, by omega⟩

/-- The scores that a unit stores. -/
theorem sc_apply (rr : Fin 4) (g : Fin 2) (R : Fin 256) (C : Fin 1280) :
    sc (F := Ideal) v rr g rr.isLt g.isLt (ix3 (0 : Fin 1) R C) = uSc v rr g R C := by
  have hst := start_le v.n v.hn rr rr.isLt
  unfold sc
  rw [pay_score]
  unfold uSc score qLd kLd
  refine Finset.sum_congr rfl fun d _ => congrArg₂ (· * ·) ?_ ?_
  · split
    · refine (ld2 v.arg2 v.harg2 v.x1 _ _ (by omega) (by omega) ⟨R, by assumption⟩ ⟨64 * (C / 640) + d, by omega⟩).trans (at2 v.x1 ?_ ?_)
      · show 128 * rr.val + R.val = 128 * rr.val + R.val % 128
        omega
      · show 256 * g.val + (64 * (C.val / 640) + d.val) = 64 * (4 * g.val + 2 * (R.val / 128) + C.val / 640) + d.val
        omega
    · refine (ld2 v.arg2 v.harg2 v.x1 _ _ (by omega) (by omega) ⟨R - 128, by omega⟩ ⟨64 * (C / 640) + d, by omega⟩).trans (at2 v.x1 ?_ ?_)
      · show 128 * rr.val + (R.val - 128) = 128 * rr.val + R.val % 128
        omega
      · show 256 * g.val + 128 + (64 * (C.val / 640) + d.val) = 64 * (4 * g.val + 2 * (R.val / 128) + C.val / 640) + d.val
        omega
  · refine Eq.trans ?_ (key_congr v (rr := rr) (hr := rr.isLt) (c := ⟨128 * g + 64 * (C / 640) + d, by omega⟩) (k := ⟨C % 640, by omega⟩) ?_ ?_ rfl)
    · unfold key
      refine dite_congr rfl (fun h => ?_) (fun h => ?_)
      · refine (ld2 v.arg3 v.harg3 v.x2 _ _ (by omega) hst ⟨64 * (C / 640) + d, by omega⟩ ⟨C % 640, h⟩).trans (at2 v.x2 ?_ rfl)
        show 128 * g.val + (64 * (C.val / 640) + d.val) = 128 * g.val + 64 * (C.val / 640) + d.val
        omega
      · refine (ckLd_apply v _ _ _ _).trans (congrArg (fun z => v.x4 (ix3 _ z _)) (Fin.ext ?_))
        show 64 * ((128 * g.val + (64 * (C.val / 640) + d.val)) / 128) + (128 * g.val + (64 * (C.val / 640) + d.val)) % 64 =
          64 * ((128 * g.val + 64 * (C.val / 640) + d.val) / 128) + (128 * g.val + 64 * (C.val / 640) + d.val) % 64
        rw [Nat.add_assoc]
    · show rr.val = (128 * rr.val + R.val % 128) / 128
      omega
    · show 128 * g.val + 64 * (C.val / 640) + d.val = 64 * (2 * ((4 * g.val + 2 * (R.val / 128) + C.val / 640) / 4) + (4 * g.val + 2 * (R.val / 128) + C.val / 640) % 2) + d.val
      omega

/-- The logits of a unit's sinks. -/
def uSk (g : Fin 2) (p e : Fin 2) : EReal := sinkLog v.x0 (4 * g + 2 * p + e) (by omega)

/-- The weight that a unit keeps in half `e` of the columns. -/
theorem unitW_at (rr : Fin 4) (s : Fin 2 → Fin 2 → EReal) (SC : Fin 256 → Fin 1280 → EReal) (R : Fin 256) (e : Fin 2) (x : Fin 640) :
    unitW v rr s SC R ⟨640 * e + x, by omega⟩ = kW (s ⟨R / 128, by omega⟩ e) (mS v rr SC R e) (mS v rr SC R e x) := by
  unfold unitW
  have f2 : (⟨(640 * e.val + x.val) / 640, by omega⟩ : Fin 2) = e := Fin.ext (by show (640 * e.val + x.val) / 640 = e.val; omega)
  have f3 : (⟨(640 * e.val + x.val) % 640, by omega⟩ : Fin 640) = x := Fin.ext (by show (640 * e.val + x.val) % 640 = x.val; omega)
  simp only [f2, f3]

/-- A unit's masked scores are those of the tile. -/
theorem mS_uSc (rr : Fin 4) (g : Fin 2) (R : Fin 256) (l : Fin 128) (k : Fin 640) :
    mS v rr (uSc v rr g) R ⟨l / 64, by omega⟩ k = masked v ⟨128 * rr + R % 128, by omega⟩ k
      (score v ⟨128 * rr + R % 128, by omega⟩ ⟨(256 * g + 128 * (R / 128) + l) / 64, by omega⟩ k) := by
  unfold mS masked uSc
  have e0 : (128 * rr.val + R.val % 128) / 128 = rr.val := by omega
  have e1 : (⟨4 * g.val + 2 * (R.val / 128) + (640 * (l.val / 64) + k.val) / 640, by omega⟩ : Fin 8) = ⟨(256 * g.val + 128 * (R.val / 128) + l.val) / 64, by omega⟩ :=
    Fin.ext (by show 4 * g.val + 2 * (R.val / 128) + (640 * (l.val / 64) + k.val) / 640 = (256 * g.val + 128 * (R.val / 128) + l.val) / 64; omega)
  have e2 : (⟨(640 * (l.val / 64) + k.val) % 640, by omega⟩ : Fin 640) = k := Fin.ext (by show (640 * (l.val / 64) + k.val) % 640 = k.val; omega)
  simp only [e0, e1, e2]

/-- The rows that a unit stores: at row `R` of head pair `R / 128` and lane `l`, the attention of its head. -/
theorem att_apply (rr : Fin 4) (g : Fin 2) (P : List (View.Piece (Elt Ideal) S2x256x1280 .bf16)) (K : List (View.Piece (Elt Ideal) S2x256x128 .f32))
    (b : ℕ) (hb : b < 2)
    (hP : ∀ (r : Fin 256) (c : Fin 1280), View.canon P (ix3 (⟨b, hb⟩ : Fin 2) r c) = unitW v rr (uSk v g) (uSc v rr g) r c)
    (hK : ∀ (r : Fin 256) (c : Fin 128), View.canon K (ix3 (⟨b, hb⟩ : Fin 2) r c) = unitSk v rr (uSk v g) (uSc v rr g) r c) (R : Fin 256) (l : Fin 128) :
    att (F := Ideal) v P K b hb (vLd v rr (128 * g) rr.isLt (by omega)) (cvLd v (128 * g) (by omega)) (ix2 R l) =
      attTile v ⟨128 * rr + R % 128, by omega⟩ ⟨256 * g + 128 * (R / 128) + l, by omega⟩ := by
  have hst := start_le v.n v.hn rr rr.isLt
  unfold att
  rw [pay_att]
  have eP : ∀ (R : Fin 256) (C : Fin 1280), v.arg20.view.readCov P (bufRect b hb).toLoadRect (ix3 (0 : Fin 1) R C) = unitW v rr (uSk v g) (uSc v rr g) R C := by
    intro R C
    rw [View.readCov_eq_canon']
    refine (congrArg (View.canon P) ?_).trans (hP R C)
    funext a
    fin_cases a <;> apply Fin.ext
    · show b + 1 * 0 = b
      omega
    · show 0 + 1 * R.val = R.val
      omega
    · show 0 + 1 * C.val = C.val
      omega
  have eK : ∀ (R : Fin 256) (C : Fin 128), v.arg21.view.readCov K (skRect b hb).toLoadRect (ix3 (0 : Fin 1) R C) = unitSk v rr (uSk v g) (uSc v rr g) R C := by
    intro R C
    rw [View.readCov_eq_canon']
    refine (congrArg (View.canon K) ?_).trans (hK R C)
    funext a
    fin_cases a <;> apply Fin.ext
    · show b + 1 * 0 = b
      omega
    · show 0 + 1 * R.val = R.val
      omega
    · show 0 + 1 * C.val = C.val
      omega
  have eW : ∀ x : Fin 640, unitW v rr (uSk v g) (uSc v rr g) R ⟨640 * (l.val / 64) + x.val, by omega⟩ = _ :=
    fun x => unitW_at v rr (uSk v g) (uSc v rr g) R ⟨l / 64, by omega⟩ x
  have hM : mS v rr (uSc v rr g) R ⟨l / 64, by omega⟩ = fun k => masked v ⟨128 * rr + R % 128, by omega⟩ k
      (score v ⟨128 * rr + R % 128, by omega⟩ ⟨(256 * g + 128 * (R / 128) + l) / 64, by omega⟩ k) := funext (mS_uSc v rr g R l)
  have hU : uSk v g ⟨R.val / 128, by omega⟩ ⟨l.val / 64, by omega⟩ = sinkLog v.x0 ((256 * g + 128 * (R.val / 128) + l.val) / 64) (by omega) := by
    unfold uSk
    have hd : 4 * g.val + 2 * (R.val / 128) + l.val / 64 = (256 * g.val + 128 * (R.val / 128) + l.val) / 64 := by omega
    simp only [hd]
  have hv : ∀ x : Fin 640, k0_pay69 (F := Ideal) (vLd v rr (128 * g) rr.isLt (by omega)) (cvLd v (128 * g) (by omega)) (ix2 x l) =
      val v ((128 * rr + R % 128) / 128) (by omega) ⟨128 * ((256 * g + 128 * (R / 128) + l) / 256) + (256 * g + 128 * (R / 128) + l) % 128, by omega⟩ x := by
    intro x
    rw [pay_val]
    refine Eq.trans ?_ (val_congr v (rr := rr) (hr := rr.isLt) (c := ⟨128 * g + l, by omega⟩) ?_ ?_)
    · unfold val
      refine dite_congr rfl (fun h => ?_) (fun h => ?_)
      · exact ld2 v.arg4 v.harg4 v.x3 _ _ hst (by omega) ⟨x, h⟩ l
      · exact cvLd_apply v _ _ _ _
    · show rr.val = (128 * rr.val + R.val % 128) / 128
      omega
    · show 128 * g.val + l.val = 128 * ((256 * g.val + 128 * (R.val / 128) + l.val) / 256) + (256 * g.val + 128 * (R.val / 128) + l.val) % 128
      omega
  simp only [eP, eK, eW, hv]
  unfold unitSk
  rw [hM, hU]
  rfl

/-- What the score buffers hold when unit `k` reads them: its scores, those of the unit behind it being in the other buffer. -/
theorem S_apply (k : ℕ) (hk : k < 8) (j : ℕ) (hj : j ≤ 8) (h : j = k + 1 ∨ j = k + 2) (R : Fin 256) (C : Fin 1280) :
    View.canon (S (F := Ideal) v j hj) (ix3 (⟨k % 2, by omega⟩ : Fin 2) R C) = uSc v ⟨k / 2, by omega⟩ ⟨k % 2, by omega⟩ R C := by
  have h1 : ∀ h, View.canon (S (F := Ideal) v (k + 1) h) (ix3 (⟨k % 2, by omega⟩ : Fin 2) R C) = uSc v ⟨k / 2, by omega⟩ ⟨k % 2, by omega⟩ R C := by
    intro h
    unfold S
    rw [canon_buf]
    exact sc_apply v ⟨k / 2, by omega⟩ ⟨k % 2, by omega⟩ R C
  obtain rfl | rfl := h
  · exact h1 _
  · unfold S
    rw [canon_skip ((k + 1) % 2) (k % 2) (by omega) (by omega) (by omega)]
    exact h1 _

/-- The weights of unit `k`. -/
theorem P_apply (k : ℕ) (hk : k + 1 ≤ 8) (R : Fin 256) (C : Fin 1280) : View.canon (P (F := Ideal) v (k + 1) hk) (ix3 (⟨k % 2, by omega⟩ : Fin 2) R C) =
    unitW v ⟨k / 2, by omega⟩ (uSk v ⟨k % 2, by omega⟩) (uSc v ⟨k / 2, by omega⟩ ⟨k % 2, by omega⟩) R C := by
  unfold P
  simp only [sk_eq]
  exact wBuf_apply v _ (k % 2) (by omega) ⟨k / 2, by omega⟩ _ (S_apply v k hk (min (k + 2) 8) (by omega) (by omega)) (uSk v ⟨k % 2, by omega⟩) _ R C

/-- The sink terms of unit `k`. -/
theorem K_apply (k : ℕ) (hk : k + 1 ≤ 8) (R : Fin 256) (l : Fin 128) : View.canon (K (F := Ideal) v (k + 1) hk) (ix3 (⟨k % 2, by omega⟩ : Fin 2) R l) =
    unitSk v ⟨k / 2, by omega⟩ (uSk v ⟨k % 2, by omega⟩) (uSc v ⟨k / 2, by omega⟩ ⟨k % 2, by omega⟩) R l := by
  unfold K
  simp only [sk_eq]
  exact skBuf_apply v _ (k % 2) (by omega) ⟨k / 2, by omega⟩ _ (S_apply v k hk (min (k + 2) 8) (by omega) (by omega)) (uSk v ⟨k % 2, by omega⟩) _ R l

/-- The tile of attention rows, by the index of the buffer. -/
def attTileG : S512x512.Idx → Elt Ideal .bf16 := fun y => attTile v (y 0) (y 1)

/-- The two stores of a unit's rows are blocks of the tile. -/
theorem attStores_of (rr : Fin 4) (g : Fin 2) (o : FVec Ideal S256x128 .f32)
    (ho : ∀ (R : Fin 256) (l : Fin 128), o (ix2 R l) = attTile v ⟨128 * rr + R % 128, by omega⟩ ⟨256 * g + 128 * (R / 128) + l, by omega⟩)
    (hr : 128 * rr.val + 128 ≤ 512) (hc : 256 * g.val + 256 ≤ 512) (L' : List (View.Piece (Elt Ideal) S512x512 .bf16))
    (hL : View.PiecesOf (attTileG v) L') : View.PiecesOf (attTileG v) (attStores (F := Ideal) o (128 * rr) (256 * g) hr hc L') := by
  refine ⟨fun x => ?_, fun x => ?_, hL⟩
  · obtain ⟨i, l, rfl⟩ : ∃ (i : Fin 128) (l : Fin 128), x = ix2 i l := ⟨_, _, eq_ix2 (n0 := 128) (n1 := 128) x⟩
    have e : shapeCast S128x128 (truncf .bf16 (extractStridedSlice S128x128 ![128, 0] o slices_S256x128_o128_0_S128x128) bitsLt_bf16_f32) shapeCasts_S128x128_S128x128 (ix2 i l) =
        o (ix2 (⟨128 + i, by omega⟩ : Fin 256) l) := by
      pointwise []
    refine e.trans ((ho _ l).trans (congrArg₂ (attTile v) (Fin.ext ?_) (Fin.ext ?_)))
    · show 128 * rr.val + (128 + i.val) % 128 = 128 * rr.val + 1 * i.val
      omega
    · show 256 * g.val + 128 * ((128 + i.val) / 128) + l.val = 256 * g.val + 128 + 1 * l.val
      omega
  · obtain ⟨i, l, rfl⟩ : ∃ (i : Fin 128) (l : Fin 128), x = ix2 i l := ⟨_, _, eq_ix2 (n0 := 128) (n1 := 128) x⟩
    have e : shapeCast S128x128 (truncf .bf16 (extractStridedSlice S128x128 ![0, 0] o slices_S256x128_o0_0_S128x128) bitsLt_bf16_f32) shapeCasts_S128x128_S128x128 (ix2 i l) =
        o (ix2 (⟨i, by omega⟩ : Fin 256) l) := by
      pointwise []
    refine e.trans ((ho _ l).trans (congrArg₂ (attTile v) (Fin.ext ?_) (Fin.ext ?_)))
    · show 128 * rr.val + i.val % 128 = 128 * rr.val + 1 * i.val
      omega
    · show 256 * g.val + 128 * (i.val / 128) + l.val = 256 * g.val + 1 * l.val
      omega

/-- One of a unit's two stores covers an index in its rows and columns. -/
theorem attStores_mem (o : FVec Ideal S256x128 .f32) (r c : ℕ) (hr : r + 128 ≤ 512) (hc : c + 256 ≤ 512) (L' : List (View.Piece (Elt Ideal) S512x512 .bf16))
    (R C : Fin 512) (h : (r ≤ R.val ∧ R.val < r + 128 ∧ c ≤ C.val ∧ C.val < c + 256) ∨ ∃ p ∈ L', (ix2 R C : S512x512.Idx) ∈ p.1.set) :
    ∃ p ∈ attStores (F := Ideal) o r c hr hc L', (ix2 R C : S512x512.Idx) ∈ p.1.set := by
  unfold attStores
  simp only [List.mem_cons, exists_eq_or_imp]
  obtain ⟨h1, h2, h3, h4⟩ | h := h
  · by_cases h5 : C.val < c + 128
    · refine .inr (.inl ((Rect.mem_set_unit (inb := fit2 hr (by omega))).mpr fun a => ?_))
      fin_cases a
      · exact ⟨h1, h2⟩
      · exact ⟨h3, h5⟩
    · refine .inl ((Rect.mem_set_unit (inb := fit2 hr (by omega))).mpr fun a => ?_)
      fin_cases a
      · exact ⟨h1, h2⟩
      · exact ⟨by show c + 128 ≤ C.val; omega, by show C.val < c + 128 + 128; omega⟩
  · exact .inr (.inr h)

/-- The stores of the first `k` units are blocks of the tile. -/
theorem attPieces_of (k : ℕ) (hk : k ≤ 8) : View.PiecesOf (attTileG v) (attPieces (F := Ideal) v k hk) := by
  induction k with
  | zero => trivial
  | succ k ih =>
    exact attStores_of v ⟨k / 2, by omega⟩ ⟨k % 2, by omega⟩ _
      (att_apply v ⟨k / 2, by omega⟩ ⟨k % 2, by omega⟩ _ _ (k % 2) (by omega) (P_apply v k hk) (K_apply v k hk)) _ _ _ (ih (by omega))

/-- They cover the rows and columns of the first `k` units. -/
theorem attPieces_mem (k : ℕ) (hk : k ≤ 8) (R C : Fin 512) (h : 2 * (R.val / 128) + C.val / 256 < k) :
    ∃ p ∈ attPieces (F := Ideal) v k hk, (ix2 R C : S512x512.Idx) ∈ p.1.set := by
  induction k with
  | zero => omega
  | succ k ih =>
    unfold attPieces
    refine attStores_mem _ _ _ _ _ _ R C ?_
    by_cases h' : 2 * (R.val / 128) + C.val / 256 = k
    · exact .inl (by omega)
    · exact .inr (ih (by omega) (by omega))

/-- The stores of a grid point's attention stages leave the tile of attention rows. -/
theorem attPieces_apply (R C : Fin 512) : View.canon (attPieces (F := Ideal) v 8 le_rfl) (ix2 R C) = attTile v R C :=
  (congrArg (fun L => View.canon L (ix2 R C)) (List.append_nil _).symm).trans
    (View.canon_append_of_piecesOf (attTileG v) [] (attPieces (F := Ideal) v 8 le_rfl) (attPieces_of v 8 le_rfl) (ix2 R C) (attPieces_mem v 8 le_rfl R C (by omega)))

end Cert.Kernel2Ideal.Att
-- ==== Proof.LatTailTile.lean ====
/- The output tile of a grid point's tail in the second call, row by row. -/
module

public import proofs.«01_k».proof.Proof.LatTailPieces
public import proofs.«01_k».proof.Proof.TailSpec
public import proofs.«01_k».proof.Proof.LatTile

@[expose] public section

set_option maxRecDepth 16384

noncomputable section

namespace Cert.Kernel2Ideal.Tail

open Cert.Kernel2Ideal Cert.Kernel2Ideal.Gen Cert.Kernel2Ideal.Att Idealize.ShloMosaic Idealize.ShloMosaic.TcCoe Idealize.SL.Sem

/-- The residual's payload at an index. -/
theorem pay_x1 (v11 : Vec Ideal S1x1024 .f32) (v15 : Vec Ideal S256x512 .bf16) (v16 : Vec Ideal S512x1024 .bf16) (v18 : Vec Ideal S256x512 .bf16)
    (v19 : Vec Ideal S512x1024 .bf16) (v21 : Vec Ideal S256x1024 .bf16) (v24 : Vec Ideal S256x1024 .bf16) (v28 : Vec Ideal S256x1024 .f32)
    (v30 : Vec Ideal S1024x1024 .bf16) (r : Fin 256) (n : Fin 1024) :
    k0_pay499 (F := Ideal) v11 v15 v16 v18 v19 v21 v24 v28 v30 (ix2 r n) =
      v28 (ix2 r n) + v11 (ix2 (0 : Fin 1) n) * ∑ k : Fin 1024, (v21 (ix2 r k) * (∑ j : Fin 512, v15 (ix2 r j) * v16 (ix2 j k)) +
        v24 (ix2 r k) * ∑ j : Fin 512, v18 (ix2 r j) * v19 (ix2 j k)) * v30 (ix2 k n) := by
  pointwise [k0_pay499]

/-- The sum of squares at a row. -/
theorem msq_apply (v : FVec Ideal S256x1024 .f32) (r : Fin 256) :
    msq (F := Ideal) v (ix2 r (0 : Fin 1)) = ∑ k : Fin 1024, v (ix2 r k) * v (ix2 r k) := by
  pointwise [msq]

/-- The normalization's payload at an index. -/
theorem pay_norm (v12 v13 : Vec Ideal S1x1024 .f32) (v34 : FVec Ideal S256x1024 .f32) (v39 : FVec Ideal S256x1 .f32) (v45 : Vec Ideal S1x1024 .f32)
    (r : Fin 256) (n : Fin 1024) :
    k0_pay502 (F := Ideal) v12 v13 v34 v39 k0_pay501 v45 (ix2 r n) =
      v34 (ix2 r n) * Ideal.rsqrt (Ideal.div (v39 (ix2 r (0 : Fin 1))) (Ideal.ofBits .f32 1149239296#32) + Ideal.ofBits .f32 897988541#32) * v45 (ix2 (0 : Fin 1) n) * (1 + v13 (ix2 (0 : Fin 1) n)) +
        v12 (ix2 (0 : Fin 1) n) := by
  pointwise [k0_pay502, k0_pay501]

/-- An activation's payload at an index. -/
theorem pay_act (v96 : FVec Ideal S512x1024 .bf16) (v161 v163 : Vec Ideal S1024x256 .bf16) (r : Fin 512) (n : Fin 256) :
    k0_pay698 (F := Ideal) v96 v161 v163 (ix2 r n) =
      (∑ k : Fin 1024, v96 (ix2 r k) * v161 (ix2 k n)) * Ideal.div 1 (1 + Ideal.exp (0 - ∑ k : Fin 1024, v96 (ix2 r k) * v161 (ix2 k n))) *
        ∑ k : Fin 1024, v96 (ix2 r k) * v163 (ix2 k n) := by
  pointwise [k0_pay698]

/-- The output's payload at an index. -/
theorem pay_out (v14 : Vec Ideal S1x1024 .f32) (v95 : FVec Ideal S512x1024 .f32) (a : Vec Ideal S512x2816 .bf16) (wd : Vec Ideal S2816x1024 .bf16)
    (r : Fin 512) (n : Fin 1024) :
    k0_pay5 (F := Ideal) v14 v95 a wd (ix2 r n) = v95 (ix2 r n) + v14 (ix2 (0 : Fin 1) n) * ∑ c : Fin 2816, a (ix2 r c) * wd (ix2 c n) := by
  pointwise [k0_pay5]

/-- A tail's load at an index. -/
theorem ld_apply {n m : ℕ} {e : EltTy} (a b : ℕ) (arg : Memref sig .tc .vmem ⟨2, ![n, m]⟩ e) (harg : arg.IsWhole) (x : Vec Ideal ⟨2, ![n, m]⟩ e) (r c : ℕ)
    (hr : r + a ≤ n) (hc : c + b ≤ m) (i : Fin a) (j : Fin b) :
    ld (F := Ideal) a b arg harg x r c hr hc (ix2 i j) = x (ix2 (⟨r + i, by omega⟩ : Fin n) (⟨c + j, by omega⟩ : Fin m)) :=
  ld2 arg harg x r c hr hc i j

/-- Two halves of 256 rows, one above the other: a row of the lower half. -/
theorem cat_apply {e : EltTy} (f : Fin 512 → Fin 1024 → Elt Ideal e) (a b : Vec Ideal S256x1024 e) (ha : ∀ (i : Fin 256) (n : Fin 1024), a (ix2 i n) = f ⟨i, by omega⟩ n)
    (hb : ∀ (i : Fin 256) (n : Fin 1024), b (ix2 i n) = f ⟨256 + i, by omega⟩ n) (r : Fin 512) (n : Fin 1024) :
    concatenate S512x1024 0 [⟨S256x1024, a⟩, ⟨S256x1024, b⟩] concatenates_S256x1024_S256x1024_S512x1024_d0 (ix2 r n) = f r n := by
  pointwise []
  split
  · exact ha _ n
  · refine (hb _ n).trans (congrArg (f · n) (Fin.ext ?_))
    show 256 + (r.val - 256) = r.val
    omega

variable (arg7 : Memref sig .tc .vmem S512x1024 .f32) (harg7 : arg7.IsWhole) (arg8 : Memref sig .tc .vmem S8x6144 .f32)
  (harg8 : arg8.IsWhole) (arg9 : Memref sig .tc .vmem S512x512 .bf16) (harg9 : arg9.IsWhole)
  (arg10 : Memref sig .tc .vmem S512x2048 .bf16) (harg10 : arg10.IsWhole) (arg11 : Memref sig .tc .vmem S1x1024 .f32) (harg11 : arg11.IsWhole)
  (arg12 : Memref sig .tc .vmem S512x1024 .bf16) (harg12 : arg12.IsWhole)
  (arg13 : Memref sig .tc .vmem S512x1024 .bf16) (harg13 : arg13.IsWhole) (arg14 : Memref sig .tc .vmem S1024x1024 .bf16)
  (harg14 : arg14.IsWhole) (arg15 : Memref sig .tc .vmem S1024x5632 .bf16) (harg15 : arg15.IsWhole)
  (arg16 : Memref sig .tc .vmem S2816x1024 .bf16) (harg16 : arg16.IsWhole) (arg18 : Memref sig .tc .vmem S512x512 .bf16) (harg18 : arg18.IsWhole)
  (arg25 : Memref sig .tc .vmem S512x2816 .bf16)
  (x6 : Vec Ideal S512x1024 .f32) (x7 : Vec Ideal S8x6144 .f32) (x8 : Vec Ideal S512x512 .bf16)
  (x9 : Vec Ideal S512x2048 .bf16) (x10 : Vec Ideal S1x1024 .f32) (x11 : Vec Ideal S512x1024 .bf16) (x12 : Vec Ideal S512x1024 .bf16)
  (x13 : Vec Ideal S1024x1024 .bf16) (x14 : Vec Ideal S1024x5632 .bf16) (x15 : Vec Ideal S2816x1024 .bf16) (xs0 : Vec Ideal S512x512 .bf16)

/-- The row of the modulation block that a grid point reads. -/
def mr (q : ℕ) (hm : mrow q + 1 ≤ 8) : Fin 8 := ⟨mrow q, hm⟩

/-- What the rows of a tile share: a row of the modulation block, the gain and the weights. -/
def par (M : Fin 8) (x7 : Vec Ideal S8x6144 .f32) (x10 : Vec Ideal S1x1024 .f32) (x11 x12 : Vec Ideal S512x1024 .bf16)
    (x13 : Vec Ideal S1024x1024 .bf16) (x14 : Vec Ideal S1024x5632 .bf16) (x15 : Vec Ideal S2816x1024 .bf16) : Row.Par where
  md n := x7 (ix2 M n)
  g2 n := x10 (ix2 (0 : Fin 1) n)
  wf k n := x11 (ix2 k n)
  wao k n := x12 (ix2 k n)
  wout k n := x13 (ix2 k n)
  wup k n := x14 (ix2 k n)
  wdn k n := x15 (ix2 k n)

/-- Row `r` of a tile. -/
def row (r : Fin 512) : Row.Row where
  x n := x6 (ix2 r n)
  mx n := x8 (ix2 r n)
  a n := xs0 (ix2 r n)
  gt n := x9 (ix2 r n)

variable (q : ℕ) (hm : mrow q + 1 ≤ 8)

/-- The residual of half a tile is the rows'. -/
theorem x1h_apply (r : ℕ) (hr : r + 256 ≤ 512) (i : Fin 256) (n : Fin 1024) :
    x1h (F := Ideal) arg7 harg7 arg8 harg8 arg9 harg9 arg10 harg10 arg12 harg12 arg13 harg13 arg14 harg14 arg18 harg18 x6 x7 x8 x9 x11 x12 x13 xs0 q hm r hr (ix2 i n) =
      Row.x1 (par (mr q hm) x7 x10 x11 x12 x13 x14 x15) (row x6 x8 x9 xs0 ⟨r + i, by omega⟩) n := by
  unfold x1h
  rw [pay_x1]
  simp only [ld_apply, Nat.zero_add, Row.x1, par, row]
  rfl

/-- The normalized rows of half a tile. -/
theorem hbh_apply (r : ℕ) (hr : r + 256 ≤ 512) (i : Fin 256) (n : Fin 1024) :
    hbh (F := Ideal) arg7 harg7 arg8 harg8 arg9 harg9 arg10 harg10 arg11 harg11 arg12 harg12 arg13 harg13 arg14 harg14 arg18 harg18 x6 x7 x8 x9 x10 x11 x12 x13 xs0 q hm r hr (ix2 i n) =
      Row.norm (par (mr q hm) x7 x10 x11 x12 x13 x14 x15) (Row.x1 (par (mr q hm) x7 x10 x11 x12 x13 x14 x15) (row x6 x8 x9 xs0 ⟨r + i, by omega⟩)) n := by
  unfold hbh
  rw [pay_norm, msq_apply]
  simp only [x1h_apply (x10 := x10) (x14 := x14) (x15 := x15)]
  unfold Row.norm
  simp only [ld_apply, Nat.zero_add]
  rfl

/-- The normalized rows of the tile. -/
theorem hbt_apply (r : Fin 512) (n : Fin 1024) :
    hbt (F := Ideal) arg7 harg7 arg8 harg8 arg9 harg9 arg10 harg10 arg11 harg11 arg12 harg12 arg13 harg13 arg14 harg14 arg18 harg18 x6 x7 x8 x9 x10 x11 x12 x13 xs0 q hm (ix2 r n) =
      Row.norm (par (mr q hm) x7 x10 x11 x12 x13 x14 x15) (Row.x1 (par (mr q hm) x7 x10 x11 x12 x13 x14 x15) (row x6 x8 x9 xs0 r)) n := by
  unfold hbt
  refine cat_apply (e := .bf16) (fun r n => Row.norm (par (mr q hm) x7 x10 x11 x12 x13 x14 x15) (Row.x1 (par (mr q hm) x7 x10 x11 x12 x13 x14 x15) (row x6 x8 x9 xs0 r)) n) _ _ (fun i n => ?_) (fun i n => ?_) r n
  · refine (hbh_apply (x14 := x14) (x15 := x15) ..).trans ?_
    simp only [Nat.zero_add]
  · exact hbh_apply (x14 := x14) (x15 := x15) ..

/-- The residual of the tile. -/
theorem x1t_apply (r : Fin 512) (n : Fin 1024) :
    x1t (F := Ideal) arg7 harg7 arg8 harg8 arg9 harg9 arg10 harg10 arg12 harg12 arg13 harg13 arg14 harg14 arg18 harg18 x6 x7 x8 x9 x11 x12 x13 xs0 q hm (ix2 r n) =
      Row.x1 (par (mr q hm) x7 x10 x11 x12 x13 x14 x15) (row x6 x8 x9 xs0 r) n := by
  unfold x1t k0_pay505
  refine cat_apply (e := .f32) (fun r n => Row.x1 (par (mr q hm) x7 x10 x11 x12 x13 x14 x15) (row x6 x8 x9 xs0 r) n) _ _ (fun i n => ?_) (fun i n => ?_) r n
  · refine (x1h_apply (x10 := x10) (x14 := x14) (x15 := x15) ..).trans ?_
    simp only [Nat.zero_add]
  · exact x1h_apply (x10 := x10) (x14 := x14) (x15 := x15) ..

/-- The activations by the index of their buffer, from the normalized rows `h`. -/
def actG (h : Fin 512 → Fin 1024 → EReal) : S512x2816.Idx → Elt Ideal .bf16 := fun y => Row.act (par (mr q hm) x7 x10 x11 x12 x13 x14 x15) (h (y 0)) (y 1)

/-- A store of activations is a block of them. -/
theorem actPiece_of (h : Fin 512 → Fin 1024 → EReal) (hb : FVec Ideal S512x1024 .bf16) (hh : ∀ (r : Fin 512) (n : Fin 1024), hb (ix2 r n) = h r n) (k : ℕ) (hk : k < 11)
    (L' : List (View.Piece (Elt Ideal) S512x2816 .bf16)) (hL : View.PiecesOf (actG x7 x10 x11 x12 x13 x14 x15 q hm h) L') :
    View.PiecesOf (actG x7 x10 x11 x12 x13 x14 x15 q hm h) (actPiece (F := Ideal) arg15 harg15 x14 hb k hk :: L') := by
  refine ⟨fun x => ?_, hL⟩
  obtain ⟨r, c, rfl⟩ : ∃ (r : Fin 512) (c : Fin 256), x = ix2 r c := ⟨_, _, eq_ix2 (n0 := 512) (n1 := 256) x⟩
  have hi : (actRect k hk).emb (ix2 r c) = (ix2 r (⟨256 * k + c, by omega⟩ : Fin 2816) : S512x2816.Idx) := by
    funext a
    fin_cases a <;> apply Fin.ext
    · show 0 + 1 * r.val = r.val
      omega
    · show 256 * k + 1 * c.val = 256 * k + c.val
      omega
  show k0_pay698 (F := Ideal) hb _ _ (ix2 r c) = actG x7 x10 x11 x12 x13 x14 x15 q hm h ((actRect k hk).emb (ix2 r c))
  rw [hi, pay_act]
  simp only [ld_apply, Nat.zero_add, hh, Nat.add_assoc]
  rfl

/-- The activation buffer after the eleven stores. -/
theorem actPieces_apply (h : Fin 512 → Fin 1024 → EReal) (hb : FVec Ideal S512x1024 .bf16) (hh : ∀ (r : Fin 512) (n : Fin 1024), hb (ix2 r n) = h r n) (r : Fin 512) (c : Fin 2816) :
    View.canon (actPieces (F := Ideal) arg15 harg15 x14 hb) (ix2 r c) = Row.act (par (mr q hm) x7 x10 x11 x12 x13 x14 x15) (h r) c := by
  refine (congrArg (fun L => View.canon L (ix2 r c)) (List.append_nil _).symm).trans
    (View.canon_append_of_piecesOf (actG x7 x10 x11 x12 x13 x14 x15 q hm h) [] (actPieces (F := Ideal) arg15 harg15 x14 hb) ?_ (ix2 r c) ?_)
  · unfold actPieces
    iterate 11 refine actPiece_of (hh := hh) (hL := ?_) ..
    trivial
  · have hm : ∀ (k : ℕ) (hk : k < 11), c.val / 256 = k → (ix2 r c : S512x2816.Idx) ∈ (actPiece (F := Ideal) arg15 harg15 x14 hb k hk).1.set := by
      intro k hk hc
      refine (Rect.mem_set_unit (inb := fit2 (by omega) (by omega))).mpr fun a => ?_
      fin_cases a
      · exact ⟨Nat.zero_le _, by show r.val < 0 + 512; omega⟩
      · exact ⟨by show 256 * k ≤ c.val; omega, by show c.val < 256 * k + 256; omega⟩
    have hk : c.val / 256 < 11 := by omega
    refine ⟨actPiece (F := Ideal) arg15 harg15 x14 hb (c.val / 256) hk, ?_, hm _ hk rfl⟩
    unfold actPieces
    generalize c.val / 256 = k at hk
    interval_cases k <;> simp

/-- The output tile is the rows' tails. -/
theorem outT_apply (r : Fin 512) (n : Fin 1024) :
    outT (F := Ideal) arg7 harg7 arg8 harg8 arg9 harg9 arg10 harg10 arg11 harg11 arg12 harg12 arg13 harg13 arg14 harg14 arg15 harg15 arg16 harg16 arg18 harg18 arg25 x6 x7 x8 x9 x10 x11 x12 x13 x14 x15 xs0 q hm (ix2 r n) =
      Row.tail (par (mr q hm) x7 x10 x11 x12 x13 x14 x15) (row x6 x8 x9 xs0 r) n := by
  unfold outT
  rw [pay_out, x1t_apply (x10 := x10) (x14 := x14) (x15 := x15), View.readCov_eq_canon']
  have ha : ∀ c : Fin 2816, View.canon (actPieces (F := Ideal) arg15 harg15 x14 (hbt (F := Ideal) arg7 harg7 arg8 harg8 arg9 harg9 arg10 harg10 arg11 harg11 arg12 harg12 arg13 harg13 arg14 harg14 arg18 harg18 x6 x7 x8 x9 x10 x11 x12 x13 xs0 q hm))
      ((Rect.unit (s := S512x2816) ![0, 0] S512x2816.size (fit2 (by omega) (by omega))).toLoadRect.idx (ix2 r c)) =
      Row.act (par (mr q hm) x7 x10 x11 x12 x13 x14 x15) (Row.norm (par (mr q hm) x7 x10 x11 x12 x13 x14 x15) (Row.x1 (par (mr q hm) x7 x10 x11 x12 x13 x14 x15) (row x6 x8 x9 xs0 r))) c := by
    intro c
    refine (congrArg (View.canon _) ?_).trans (actPieces_apply arg15 harg15 x7 x10 x11 x12 x13 x14 x15 q hm
      (fun r => Row.norm (par (mr q hm) x7 x10 x11 x12 x13 x14 x15) (Row.x1 (par (mr q hm) x7 x10 x11 x12 x13 x14 x15) (row x6 x8 x9 xs0 r))) _ (fun r n => hbt_apply (x14 := x14) (x15 := x15) ..) r c)
    funext a
    fin_cases a <;> apply Fin.ext
    · show 0 + 1 * r.val = r.val
      omega
    · show 0 + 1 * c.val = c.val
      omega
  refine congrArg (Row.x1 (par (mr q hm) x7 x10 x11 x12 x13 x14 x15) (row x6 x8 x9 xs0 r) n + ·) (congrArg₂ (· * ·) ?_ (Finset.sum_congr rfl fun c _ => congrArg₂ (· * ·) (ha c) ?_))
  · exact ld2 arg8 harg8 x7 (mrow q) 5120 hm (by omega) 0 n
  · refine (ld2 arg16 harg16 x15 0 0 (by omega) (by omega) c n).trans ?_
    simp only [Nat.zero_add]
    rfl

/-- What the store of the output leaves. -/
theorem outPieces_apply (r : Fin 512) (n : Fin 1024) :
    View.canon (outPieces (F := Ideal) arg7 harg7 arg8 harg8 arg9 harg9 arg10 harg10 arg11 harg11 arg12 harg12 arg13 harg13 arg14 harg14 arg15 harg15 arg16 harg16 arg18 harg18 arg25 x6 x7 x8 x9 x10 x11 x12 x13 x14 x15 xs0 q hm) (ix2 r n) =
      Row.tail (par (mr q hm) x7 x10 x11 x12 x13 x14 x15) (row x6 x8 x9 xs0 r) n := by
  unfold outPieces
  have h : (ix2 r n : S512x1024.Idx) = (Rect.unit (s := S512x1024) ![0, 0] S512x1024.size (fit2 (by omega) (by omega))).emb (ix2 r n) := by
    funext a
    fin_cases a <;> apply Fin.ext
    · show r.val = 0 + 1 * r.val
      omega
    · show n.val = 0 + 1 * n.val
      omega
  rw [h, View.canon_cons_emb]
  exact outT_apply ..

end Cert.Kernel2Ideal.Tail
-- ==== Proof.LatRunA.lean ====
/- The generated run's lists of attention rows are the attention stages' stores, in the two cases that have attention stages. -/
module

public import proofs.«01_k».proof.Proof.LatPieces
public import proofs.«01_k».proof.Proof.Gen.Kernel2Ideal.Frame.RunA

@[expose] public section

set_option maxRecDepth 65536
set_option maxHeartbeats 4000000

noncomputable section

namespace Cert.Kernel2Ideal.Att

open Cert.Kernel2Ideal Cert.Kernel2Ideal.Gen Idealize.ShloMosaic Idealize.ShloMosaic.TcCoe Idealize.SL.Sem

variable {F : FTy → Type} [FloatOps F] [Named F]
  (c : Dev nD) (i : grid0.Coords) (arg1 : Memref sig .tc .smem S8 .f32) (harg1 : arg1.IsWhole) (arg2 : Memref sig .tc .vmem S512x512 .bf16) (harg2 : arg2.IsWhole) (arg3 : Memref sig .tc .vmem S256x1024 .bf16) (harg3 : arg3.IsWhole) (arg4 : Memref sig .tc .vmem S1024x256 .bf16) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S512x1024 .f32) (harg7 : arg7.IsWhole) (arg8 : Memref sig .tc .vmem S8x6144 .f32) (harg8 : arg8.IsWhole) (arg9 : Memref sig .tc .vmem S512x512 .bf16) (harg9 : arg9.IsWhole) (arg10 : Memref sig .tc .vmem S512x2048 .bf16) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x512 .bf16) (harg18 : arg18.IsWhole) (arg19 : Memref sig .tc .vmem S2x256x1280 .f32) (harg19 : arg19.IsWhole) (arg20 : Memref sig .tc .vmem S2x256x1280 .bf16) (harg20 : arg20.IsWhole) (arg21 : Memref sig .tc .vmem S2x256x128 .f32) (harg21 : arg21.IsWhole) (arg22 : Memref sig .tc .vmem S4x128x384 .i32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S512x2816 .bf16) (harg25 : arg25.IsWhole) (x0 : Vec F S8 .f32) (x1 : Vec F S512x512 .bf16) (x2 : Vec F S256x1024 .bf16) (x3 : Vec F S1024x256 .bf16) (x4 : Vec F S1x128x256 .f32) (x5 : Vec F S1x128x256 .f32) (x6 : Vec F S512x1024 .f32) (x7 : Vec F S8x6144 .f32) (x8 : Vec F S512x512 .bf16) (x9 : Vec F S512x2048 .bf16) (x10 : Vec F S1x1024 .f32) (x11 : Vec F S512x1024 .bf16) (x12 : Vec F S512x1024 .bf16) (x13 : Vec F S1024x1024 .bf16) (x14 : Vec F S1024x5632 .bf16) (x15 : Vec F S2816x1024 .bf16)

/-- In case A the run leaves exactly these stores of attention rows. -/
theorem att_eq_A (hc0 : cond0_0 i) (hc1 : ¬cond0_1 i) (hc2 : ¬cond0_2 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15).2.1 =
      attPieces (F := F) ⟨(i 0).val, (i 0).isLt, arg1, harg1, arg2, harg2, arg3, harg3, arg4, harg4, arg5, harg5, arg6, harg6, arg19, arg20, arg21, arg22, arg23, arg24, x0, x1, x2, x3, x4, x5⟩ 8 le_rfl := rfl

end Cert.Kernel2Ideal.Att
-- ==== Proof.LatRunB.lean ====
/- The generated run's lists of attention rows are the attention stages' stores, in the two cases that have attention stages. -/
module

public import proofs.«01_k».proof.Proof.LatPieces
public import proofs.«01_k».proof.Proof.Gen.Kernel2Ideal.Frame.RunB

@[expose] public section

set_option maxRecDepth 65536

noncomputable section

set_option maxHeartbeats 4000000
namespace Cert.Kernel2Ideal.Att

open Cert.Kernel2Ideal Cert.Kernel2Ideal.Gen Idealize.ShloMosaic Idealize.ShloMosaic.TcCoe Idealize.SL.Sem

variable {F : FTy → Type} [FloatOps F] [Named F]
  (c : Dev nD) (i : grid0.Coords) (arg1 : Memref sig .tc .smem S8 .f32) (harg1 : arg1.IsWhole) (arg2 : Memref sig .tc .vmem S512x512 .bf16) (harg2 : arg2.IsWhole) (arg3 : Memref sig .tc .vmem S256x1024 .bf16) (harg3 : arg3.IsWhole) (arg4 : Memref sig .tc .vmem S1024x256 .bf16) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S512x1024 .f32) (harg7 : arg7.IsWhole) (arg8 : Memref sig .tc .vmem S8x6144 .f32) (harg8 : arg8.IsWhole) (arg9 : Memref sig .tc .vmem S512x512 .bf16) (harg9 : arg9.IsWhole) (arg10 : Memref sig .tc .vmem S512x2048 .bf16) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x512 .bf16) (harg18 : arg18.IsWhole) (arg19 : Memref sig .tc .vmem S2x256x1280 .f32) (harg19 : arg19.IsWhole) (arg20 : Memref sig .tc .vmem S2x256x1280 .bf16) (harg20 : arg20.IsWhole) (arg21 : Memref sig .tc .vmem S2x256x128 .f32) (harg21 : arg21.IsWhole) (arg22 : Memref sig .tc .vmem S4x128x384 .i32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S512x2816 .bf16) (harg25 : arg25.IsWhole) (x0 : Vec F S8 .f32) (x1 : Vec F S512x512 .bf16) (x2 : Vec F S256x1024 .bf16) (x3 : Vec F S1024x256 .bf16) (x4 : Vec F S1x128x256 .f32) (x5 : Vec F S1x128x256 .f32) (x6 : Vec F S512x1024 .f32) (x7 : Vec F S8x6144 .f32) (x8 : Vec F S512x512 .bf16) (x9 : Vec F S512x2048 .bf16) (x10 : Vec F S1x1024 .f32) (x11 : Vec F S512x1024 .bf16) (x12 : Vec F S512x1024 .bf16) (x13 : Vec F S1024x1024 .bf16) (x14 : Vec F S1024x5632 .bf16) (x15 : Vec F S2816x1024 .bf16) (xs0 : Vec F S512x512 .bf16)

/-- In case B the run leaves exactly these stores of attention rows. -/
theorem att_eq_B (hc0 : ¬cond0_0 i) (hc1 : cond0_1 i) (hc2 : ¬cond0_2 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).2.1 =
      attPieces (F := F) ⟨(i 0).val, (i 0).isLt, arg1, harg1, arg2, harg2, arg3, harg3, arg4, harg4, arg5, harg5, arg6, harg6, arg19, arg20, arg21, arg22, arg23, arg24, x0, x1, x2, x3, x4, x5⟩ 8 le_rfl := rfl

end Cert.Kernel2Ideal.Att
-- ==== Proof.LatWindow.lean ====
/- A query that reads a window of the keys: the attention over the window is the attention over all keys with the others masked. -/
module

public import proofs.«01_k».proof.Proof.LatSpec

@[expose] public section

noncomputable section

namespace Cert.Kernel2Ideal.Att

open Cert.Kernel2Ideal Cert.Kernel2Ideal.Gen Idealize.ShloMosaic Idealize.ShloMosaic.TcCoe Idealize.SL.Sem

theorem exp2_bot : Ideal.exp2 (⊥ : EReal) = 0 := rfl

/-- The weight of a masked key is zero. -/
theorem kW_bot {n : ℕ} (s : EReal) (S : Fin n → EReal) : kW s S ⊥ = 0 := by
  unfold kW
  rw [sub_eq_add_neg, EReal.bot_add, exp2_bot]

/-- The maximum over a window is the maximum over all keys where those outside are masked. -/
theorem kMax_window {n N : ℕ} (e : Fin n → Fin N) (s : EReal) (G : Fin N → EReal) (hG : ∀ j, j ∉ Set.range e → G j = ⊥) :
    kMax s (fun k => G (e k)) = kMax s G := by
  unfold kMax
  refine congrArg (max s) (le_antisymm ?_ ?_)
  · exact Finset.sup_le (s := Finset.univ) (f := fun k => G (e k)) fun k _ => Finset.le_sup (s := Finset.univ) (f := G) (Finset.mem_univ (e k))
  · refine Finset.sup_le (s := Finset.univ) (f := G) fun j _ => ?_
    by_cases h : j ∈ Set.range e
    · obtain ⟨k, rfl⟩ := h
      exact Finset.le_sup (s := Finset.univ) (f := fun k => G (e k)) (Finset.mem_univ k)
    · rw [hG j h]
      exact bot_le

/-- The attention over a window is the attention over all keys where those outside are masked. -/
theorem kHead_window {n N : ℕ} (e : Fin n → Fin N) (he : Function.Injective e) (s : EReal) (G V : Fin N → EReal) (hG : ∀ j, j ∉ Set.range e → G j = ⊥) :
    kHead s (fun k => G (e k)) (fun k => V (e k)) = kHead s G V := by
  have hw : ∀ x, kW s (fun k => G (e k)) x = kW s G x := fun x => by
    unfold kW
    rw [kMax_window e s G hG]
  unfold kHead
  simp only [hw]
  refine congrArg₂ Ideal.div (Fintype.sum_of_injective e he _ _ (fun j hj => ?_) fun _ => rfl)
    (congrArg (· + kW s G s) (Fintype.sum_of_injective e he _ _ (fun j hj => ?_) fun _ => rfl))
  · rw [hG j hj, kW_bot, zero_mul]
  · rw [hG j hj, kW_bot]

end Cert.Kernel2Ideal.Att
-- ==== Proof.LatIdealFrame.lean ====
/- The frame of `Kernel2Ideal`: what its output and the carried attention rows hold after each grid point, the obligation of the body at each
   point, the run of the program, and that it ends without fault with its arguments and counters as they were. -/
module

public import proofs.«01_k».proof.Proof.LatIdealRunC
public import Idealize.ShloMosaic.Lib.Claim

@[expose] public section

-- the covers are checked along long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Pieces

variable (c : Dev nD) (i : grid0.Coords) (arg1 : Memref sig .tc .smem S8 .f32) (harg1 : arg1.IsWhole) (arg2 : Memref sig .tc .vmem S512x512 .bf16) (harg2 : arg2.IsWhole) (arg3 : Memref sig .tc .vmem S256x1024 .bf16) (harg3 : arg3.IsWhole) (arg4 : Memref sig .tc .vmem S1024x256 .bf16) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S512x1024 .f32) (harg7 : arg7.IsWhole) (arg8 : Memref sig .tc .vmem S8x6144 .f32) (harg8 : arg8.IsWhole) (arg9 : Memref sig .tc .vmem S512x512 .bf16) (harg9 : arg9.IsWhole) (arg10 : Memref sig .tc .vmem S512x2048 .bf16) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x512 .bf16) (harg18 : arg18.IsWhole) (arg19 : Memref sig .tc .vmem S2x256x1280 .f32) (harg19 : arg19.IsWhole) (arg20 : Memref sig .tc .vmem S2x256x1280 .bf16) (harg20 : arg20.IsWhole) (arg21 : Memref sig .tc .vmem S2x256x128 .f32) (harg21 : arg21.IsWhole) (arg22 : Memref sig .tc .vmem S4x128x384 .i32) (harg22 : arg22.IsWhole) (arg23 : Memref sig .tc .vmem S256x256 .bf16) (harg23 : arg23.IsWhole) (arg24 : Memref sig .tc .vmem S256x256 .bf16) (harg24 : arg24.IsWhole) (arg25 : Memref sig .tc .vmem S512x2816 .bf16) (harg25 : arg25.IsWhole)

section

variable (hc0 : cond0_0 i) (hc1 : ¬cond0_1 i) (hc2 : ¬cond0_2 i)
  (x0 : Vec F S8 .f32) (x1 : Vec F S512x512 .bf16) (x2 : Vec F S256x1024 .bf16) (x3 : Vec F S1024x256 .bf16) (x4 : Vec F S1x128x256 .f32) (x5 : Vec F S1x128x256 .f32) (x6 : Vec F S512x1024 .f32) (x7 : Vec F S8x6144 .f32) (x8 : Vec F S512x512 .bf16) (x9 : Vec F S512x2048 .bf16) (x10 : Vec F S1x1024 .f32) (x11 : Vec F S512x1024 .bf16) (x12 : Vec F S512x1024 .bf16) (x13 : Vec F S1024x1024 .bf16) (x14 : Vec F S1024x5632 .bf16) (x15 : Vec F S2816x1024 .bf16)

/-- What case A leaves in the output's staging buffer, which it does not store to. -/
def out0_A_16 : Vec F S512x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15).1)

/-- The pieces case A stores to the carried scratch cover it. -/
theorem scover0_A_0 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15).2.1, y ∈ pc.1.set :=
  View.cover_of_tiledL (_ : List (View.Piece (Elt F) S512x512 .bf16)) S128x128.size (by sl_kernel_rfl) y

/-- What case A leaves in the carried scratch. -/
def sout0_A_0 : Vec F S512x512 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15).2.1)

end

section

variable (hc0 : ¬cond0_0 i) (hc1 : cond0_1 i) (hc2 : ¬cond0_2 i)
  (x0 : Vec F S8 .f32) (x1 : Vec F S512x512 .bf16) (x2 : Vec F S256x1024 .bf16) (x3 : Vec F S1024x256 .bf16) (x4 : Vec F S1x128x256 .f32) (x5 : Vec F S1x128x256 .f32) (x6 : Vec F S512x1024 .f32) (x7 : Vec F S8x6144 .f32) (x8 : Vec F S512x512 .bf16) (x9 : Vec F S512x2048 .bf16) (x10 : Vec F S1x1024 .f32) (x11 : Vec F S512x1024 .bf16) (x12 : Vec F S512x1024 .bf16) (x13 : Vec F S1024x1024 .bf16) (x14 : Vec F S1024x5632 .bf16) (x15 : Vec F S2816x1024 .bf16) (xs0 : Vec F S512x512 .bf16)

/-- The pieces case B stores to the output cover its block. -/
theorem cover0_B_16 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).1, y ∈ pc.1.set :=
  View.cover_of_tiledL (_ : List (View.Piece (Elt F) S512x1024 .f32)) S512x1024.size (by sl_kernel_rfl) y

/-- What case B leaves in the output's staging buffer. -/
def out0_B_16 : Vec F S512x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).1)

/-- The pieces case B stores to the carried scratch cover it. -/
theorem scover0_B_0 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).2.1, y ∈ pc.1.set :=
  View.cover_of_tiledL (_ : List (View.Piece (Elt F) S512x512 .bf16)) S128x128.size (by sl_kernel_rfl) y

/-- What case B leaves in the carried scratch. -/
def sout0_B_0 : Vec F S512x512 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).2.1)

end

section

variable (hc0 : ¬cond0_0 i) (hc1 : ¬cond0_1 i) (hc2 : cond0_2 i)
  (x0 : Vec F S8 .f32) (x1 : Vec F S512x512 .bf16) (x2 : Vec F S256x1024 .bf16) (x3 : Vec F S1024x256 .bf16) (x4 : Vec F S1x128x256 .f32) (x5 : Vec F S1x128x256 .f32) (x6 : Vec F S512x1024 .f32) (x7 : Vec F S8x6144 .f32) (x8 : Vec F S512x512 .bf16) (x9 : Vec F S512x2048 .bf16) (x10 : Vec F S1x1024 .f32) (x11 : Vec F S512x1024 .bf16) (x12 : Vec F S512x1024 .bf16) (x13 : Vec F S1024x1024 .bf16) (x14 : Vec F S1024x5632 .bf16) (x15 : Vec F S2816x1024 .bf16) (xs0 : Vec F S512x512 .bf16)

/-- The pieces case C stores to the output cover its block. -/
theorem cover0_C_16 (y : S512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).1, y ∈ pc.1.set :=
  View.cover_of_tiledL (_ : List (View.Piece (Elt F) S512x1024 .f32)) S512x1024.size (by sl_kernel_rfl) y

/-- What case C leaves in the output's staging buffer. -/
def out0_C_16 : Vec F S512x1024 .f32 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 xs0).1)

end

end Pieces

/-! ## What the outputs hold after each point -/

/-- What a point of case A leaves in the output's staging buffer and in the carried scratch. -/
def left_A (c : Dev nD) (t : Fin cfg0.N) (h0 : t.val % 17 = 0) (h1 : ¬(1 ≤ t.val % 17 ∧ t.val % 17 ≤ 15)) (h2 : ¬t.val % 17 = 16) :
    Vec F S512x1024 .f32 × Vec F S512x512 .bf16 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-- What a point of case B leaves in the output's staging buffer and in the carried scratch, over what the point before left in the scratch. -/
def left_B (c : Dev nD) (t : Fin cfg0.N) (h0 : ¬t.val % 17 = 0) (h1 : (1 ≤ t.val % 17 ∧ t.val % 17 ≤ 15)) (h2 : ¬t.val % 17 = 16) (acc : Vec F S512x512 .bf16) :
    Vec F S512x1024 .f32 × Vec F S512x512 .bf16 :=
  (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc)

/-- What a point of case C leaves in the output's staging buffer and in the carried scratch, over what the point before left in the scratch. -/
def left_C (c : Dev nD) (t : Fin cfg0.N) (h0 : ¬t.val % 17 = 0) (h1 : ¬(1 ≤ t.val % 17 ∧ t.val % 17 ≤ 15)) (h2 : t.val % 17 = 16) (acc : Vec F S512x512 .bf16) :
    Vec F S512x1024 .f32 × Vec F S512x512 .bf16 :=
  (out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc, acc)

/-- What the output's staging buffer and the carried scratch hold after the body at position `n`: what the point's case leaves, over what the
    point before left in the scratch. -/
def outsAt0 (c : Dev nD) : (n : ℕ) → n < cfg0.N → Vec F S512x1024 .f32 × Vec F S512x512 .bf16
  | 0, hn => left_A m c ⟨0, hn⟩ (Nat.zero_mod _) (by dsimp only; omega) (by dsimp only; omega)
  | n + 1, hn =>
    if h0 : (n + 1) % 17 = 0 then
      if h1 : (1 ≤ (n + 1) % 17 ∧ (n + 1) % 17 ≤ 15) then
        False.elim (by have hN : n + 1 < 17 := lt_of_lt_of_eq hn (show cfg0.N = 17 from N_0); omega)
      else
        if h2 : (n + 1) % 17 = 16 then
          False.elim (by have hN : n + 1 < 17 := lt_of_lt_of_eq hn (show cfg0.N = 17 from N_0); omega)
        else
          left_A m c ⟨n + 1, hn⟩ h0 h1 h2
    else
      if h1 : (1 ≤ (n + 1) % 17 ∧ (n + 1) % 17 ≤ 15) then
        if h2 : (n + 1) % 17 = 16 then
          False.elim (by have hN : n + 1 < 17 := lt_of_lt_of_eq hn (show cfg0.N = 17 from N_0); omega)
        else
          left_B m c ⟨n + 1, hn⟩ h0 h1 h2 (outsAt0 c n (Nat.lt_of_succ_lt hn)).2
      else
        if h2 : (n + 1) % 17 = 16 then
          left_C m c ⟨n + 1, hn⟩ h0 h1 h2 (outsAt0 c n (Nat.lt_of_succ_lt hn)).2
        else
          False.elim (by have hN : n + 1 < 17 := lt_of_lt_of_eq hn (show cfg0.N = 17 from N_0); omega)

/-- `outsAt0` at a point of case A: that case's contents. -/
theorem outsAt0_A (c : Dev nD) (t : Fin cfg0.N) (h0 : t.val % 17 = 0) (h1 : ¬(1 ≤ t.val % 17 ∧ t.val % 17 ≤ 15)) (h2 : ¬t.val % 17 = 16) :
    outsAt0 m c t.val t.isLt = left_A m c t h0 h1 h2 := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 17 = 0) (h1 : (1 ≤ t.val % 17 ∧ t.val % 17 ≤ 15)) (h2 : ¬t.val % 17 = 16) :
    outsAt0 m c t.val t.isLt = left_B m c t h0 h1 h2 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 17 = 0) (h1 : ¬(1 ≤ t.val % 17 ∧ t.val % 17 ≤ 15)) (h2 : t.val % 17 = 16) :
    outsAt0 m c t.val t.isLt = left_C m c t h0 h1 h2 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨_ + 17, h⟩ => absurd h (Nat.not_lt.2 (Nat.le_add_left _ _))
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body leaves of each input: its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, ← after0_0 m c t]
theorem leaves0_1 (c : Dev nD) (t : Fin cfg0.N) : (dats m 0 c).leavesExact 1 t = owns (c : Thread nD τ) (ms0_1 t) fullShare (iblk m c 1 t) := by
  unfold Dat.leavesExact; rw [liveAt0_1 t, ← after0_1 m c t]
theorem leaves0_2 (c : Dev nD) (t : Fin cfg0.N) : (dats m 0 c).leavesExact 2 t = owns (c : Thread nD τ) (ms0_2 t) fullShare (iblk m c 2 t) := by
  unfold Dat.leavesExact; rw [liveAt0_2 t, ← after0_2 m c t]
theorem leaves0_3 (c : Dev nD) (t : Fin cfg0.N) : (dats m 0 c).leavesExact 3 t = owns (c : Thread nD τ) (ms0_3 t) fullShare (iblk m c 3 t) := by
  unfold Dat.leavesExact; rw [liveAt0_3 t, ← after0_3 m c t]
theorem leaves0_4 (c : Dev nD) (t : Fin cfg0.N) : (dats m 0 c).leavesExact 4 t = owns (c : Thread nD τ) (ms0_4 t) fullShare (iblk m c 4 t) := by
  unfold Dat.leavesExact; rw [liveAt0_4 t, ← after0_4 m c t]
theorem leaves0_5 (c : Dev nD) (t : Fin cfg0.N) : (dats m 0 c).leavesExact 5 t = owns (c : Thread nD τ) (ms0_5 t) fullShare (iblk m c 5 t) := by
  unfold Dat.leavesExact; rw [liveAt0_5 t, ← after0_5 m c t]
theorem leaves0_6 (c : Dev nD) (t : Fin cfg0.N) : (dats m 0 c).leavesExact 6 t = owns (c : Thread nD τ) (ms0_6 t) fullShare (iblk m c 6 t) := by
  unfold Dat.leavesExact; rw [liveAt0_6 t, ← after0_6 m c t]
theorem leaves0_7 (c : Dev nD) (t : Fin cfg0.N) : (dats m 0 c).leavesExact 7 t = owns (c : Thread nD τ) (ms0_7 t) fullShare (iblk m c 7 t) := by
  unfold Dat.leavesExact; rw [liveAt0_7 t, ← after0_7 m c t]
theorem leaves0_8 (c : Dev nD) (t : Fin cfg0.N) : (dats m 0 c).leavesExact 8 t = owns (c : Thread nD τ) (ms0_8 t) fullShare (iblk m c 8 t) := by
  unfold Dat.leavesExact; rw [liveAt0_8 t, ← after0_8 m c t]
theorem leaves0_9 (c : Dev nD) (t : Fin cfg0.N) : (dats m 0 c).leavesExact 9 t = owns (c : Thread nD τ) (ms0_9 t) fullShare (iblk m c 9 t) := by
  unfold Dat.leavesExact; rw [liveAt0_9 t, ← after0_9 m c t]
theorem leaves0_10 (c : Dev nD) (t : Fin cfg0.N) : (dats m 0 c).leavesExact 10 t = owns (c : Thread nD τ) (ms0_10 t) fullShare (iblk m c 10 t) := by
  unfold Dat.leavesExact; rw [liveAt0_10 t, ← after0_10 m c t]
theorem leaves0_11 (c : Dev nD) (t : Fin cfg0.N) : (dats m 0 c).leavesExact 11 t = owns (c : Thread nD τ) (ms0_11 t) fullShare (iblk m c 11 t) := by
  unfold Dat.leavesExact; rw [liveAt0_11 t, ← after0_11 m c t]
theorem leaves0_12 (c : Dev nD) (t : Fin cfg0.N) : (dats m 0 c).leavesExact 12 t = owns (c : Thread nD τ) (ms0_12 t) fullShare (iblk m c 12 t) := by
  unfold Dat.leavesExact; rw [liveAt0_12 t, ← after0_12 m c t]
theorem leaves0_13 (c : Dev nD) (t : Fin cfg0.N) : (dats m 0 c).leavesExact 13 t = owns (c : Thread nD τ) (ms0_13 t) fullShare (iblk m c 13 t) := by
  unfold Dat.leavesExact; rw [liveAt0_13 t, ← after0_13 m c t]
theorem leaves0_14 (c : Dev nD) (t : Fin cfg0.N) : (dats m 0 c).leavesExact 14 t = owns (c : Thread nD τ) (ms0_14 t) fullShare (iblk m c 14 t) := by
  unfold Dat.leavesExact; rw [liveAt0_14 t, ← after0_14 m c t]
theorem leaves0_15 (c : Dev nD) (t : Fin cfg0.N) : (dats m 0 c).leavesExact 15 t = owns (c : Thread nD τ) (ms0_15 t) fullShare (iblk m c 15 t) := by
  unfold Dat.leavesExact; rw [liveAt0_15 t, ← after0_15 m c t]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 28800000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  by_cases h0 : t.val % 17 = 0
  · by_cases h1 : (1 ≤ t.val % 17 ∧ t.val % 17 ≤ 15)
    · exfalso; omega
    · by_cases h2 : t.val % 17 = 16
      · exfalso; omega
      · rw [leaves0_0, leaves0_1, leaves0_2, leaves0_3, leaves0_4, leaves0_5, leaves0_6, leaves0_7, leaves0_8, leaves0_9, leaves0_10, leaves0_11, leaves0_12, leaves0_13, leaves0_14, leaves0_15]
        rw [Dat.leavesExact_idle (dats m 0 c) 16 t (idleAt0_16_A t ((hcond0_0 t).mpr h0) (fun h => h1 ((hcond0_1 t).mp h)) (fun h => h2 ((hcond0_2 t).mp h))) (noFlush0_16_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold left_A sout0_A_0; (try dsimp only)
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, H8, H9, H10, H11, H12, H13, H14, H15, H16, ⟨%es0, HS0⟩, ⟨%fT1, HS1⟩, ⟨%fT2, HS2⟩, HS3, ⟨%fT4, HS4⟩, ⟨%fT5, HS5⟩, ⟨%fT6, HS6⟩, HS7⟩
          isplitl [HS0 HS1 HS2 HS3 HS4 HS5 HS6 HS7 Hg]
          · isplitl [HS0 HS1 HS2 HS3 HS4 HS5 HS6 HS7]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · iexists _; unfold owns; iexists _; isplitr
                swap; · iexact HS2
                ipureintro; rfl
              isplitl [HS3]
              · iexact HS3
              isplitl [HS4]
              · iexists _; unfold owns; iexists _; isplitr
                swap; · iexact HS4
                ipureintro; rfl
              isplitl [HS5]
              · iexists _; unfold owns; iexists _; isplitr
                swap; · iexact HS5
                ipureintro; rfl
              isplitl [HS6]
              · iexists _; unfold owns; iexists _; isplitr
                swap; · iexact HS6
                ipureintro; rfl
              iexact HS7
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          iexists _; iexact H16
        · exfalso; have hN : t.val < 17 := lt_of_lt_of_eq t.isLt (show cfg0.N = 17 from N_0); omega
  · by_cases h1 : (1 ≤ t.val % 17 ∧ t.val % 17 ≤ 15)
    · by_cases h2 : t.val % 17 = 16
      · exfalso; omega
      · rw [leaves0_0, leaves0_1, leaves0_2, leaves0_3, leaves0_4, leaves0_5, leaves0_6, leaves0_7, leaves0_8, leaves0_9, leaves0_10, leaves0_11, leaves0_12, leaves0_13, leaves0_14, leaves0_15]
        rw [show (dats m 0 c).leavesExact 16 t = owns (c : Thread nD τ) (ms0_16 t) fullShare ((dats m 0 c).after 16 t) from by
      unfold Dat.leavesExact; rw [liveAt0_16_B t (fun h => h0 ((hcond0_0 t).mp h)) ((hcond0_1 t).mpr h1) (fun h => h2 ((hcond0_2 t).mp h))], after0_16]
        by_cases hz : t.val = 0
        · exfalso; have hN : t.val < 17 := lt_of_lt_of_eq t.isLt (show cfg0.N = 17 from N_0); omega
        · rw [PhiS_castSucc m c t, PhiS_pos m c _ _ hz]
          rw [outsAt0_B m c t h0 h1 h2]
          unfold left_B out0_B_16 sout0_B_0; (try dsimp only)
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, H8, H9, H10, H11, H12, H13, H14, H15, ⟨%e16, H16⟩, ⟨%es0, HS0⟩, ⟨%fT1, HS1⟩, ⟨%fT2, HS2⟩, HS3, ⟨%fT4, HS4⟩, ⟨%fT5, HS5⟩, ⟨%fT6, HS6⟩, ⟨%fT7, HS7⟩⟩
          isplitl [HS0 HS1 HS2 HS3 HS4 HS5 HS6 HS7 Hg]
          · isplitl [HS0 HS1 HS2 HS3 HS4 HS5 HS6 HS7]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · iexists _; unfold owns; iexists _; isplitr
                swap; · iexact HS2
                ipureintro; rfl
              isplitl [HS3]
              · iexact HS3
              isplitl [HS4]
              · iexists _; unfold owns; iexists _; isplitr
                swap; · iexact HS4
                ipureintro; rfl
              isplitl [HS5]
              · iexists _; unfold owns; iexists _; isplitr
                swap; · iexact HS5
                ipureintro; rfl
              isplitl [HS6]
              · iexists _; unfold owns; iexists _; isplitr
                swap; · iexact HS6
                ipureintro; rfl
              iexists _; unfold owns; iexists _; isplitr
              swap; · iexact HS7
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 17 = 16
      · rw [leaves0_0, leaves0_1, leaves0_2, leaves0_3, leaves0_4, leaves0_5, leaves0_6, leaves0_7, leaves0_8, leaves0_9, leaves0_10, leaves0_11, leaves0_12, leaves0_13, leaves0_14, leaves0_15]
        rw [show (dats m 0 c).leavesExact 16 t = owns (c : Thread nD τ) (ms0_16 t) fullShare ((dats m 0 c).after 16 t) from by
      unfold Dat.leavesExact; rw [liveAt0_16_C t (fun h => h0 ((hcond0_0 t).mp h)) (fun h => h1 ((hcond0_1 t).mp h)) ((hcond0_2 t).mpr h2)], after0_16]
        by_cases hz : t.val = 0
        · exfalso; have hN : t.val < 17 := lt_of_lt_of_eq t.isLt (show cfg0.N = 17 from N_0); omega
        · rw [PhiS_castSucc m c t, PhiS_pos m c _ _ hz]
          rw [outsAt0_C m c t h0 h1 h2]
          unfold left_C out0_C_16; (try dsimp only)
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, H8, H9, H10, H11, H12, H13, H14, H15, ⟨%e16, H16⟩, HS0, HS1, HS2, HS3, HS4, HS5, HS6, ⟨%fT7, HS7⟩⟩
          isplitl [HS0 HS1 HS2 HS3 HS4 HS5 HS6 HS7 Hg]
          · isplitl [HS0 HS1 HS2 HS3 HS4 HS5 HS6 HS7]
            · isplitl [HS0]
              · iexact HS0
              isplitl [HS1]
              · iexact HS1
              isplitl [HS2]
              · iexact HS2
              isplitl [HS3]
              · iexact HS3
              isplitl [HS4]
              · iexact HS4
              isplitl [HS5]
              · iexact HS5
              isplitl [HS6]
              · iexact HS6
              iexists _; unfold owns; iexists _; isplitr
              swap; · iexact HS7
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 17 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel2Ideal.Gen

end
-- ==== Proof.LatIdealValue.lean ====
/- The second call's run, with its output array named. -/
module

public import proofs.«01_k».proof.Proof.LatIdealFrame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The output array after the run. -/
theorem post16 (r : PUnit × MemSt nD τ sig (Elt F)) (h : Pipeline.FramePost cfgs (dats m) 0 (V m) r) (c : Dev nD) :
    r.2.mem ((c : Thread nD τ).loc main_v0) = (dats m 0 c).arrAt 16 cfg0.N :=
  (h c).1 16

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

/-- The run, its output array named and its arguments unchanged. -/
theorem run_blocks : θ_run defs (onTc (τ := τ) (main (F := F))) ⟨m, fun _ => 0, ρ⟩ fun r => ∀ c : Dev nD,
      r.2.mem ((c : Thread nD τ).loc main_v0) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post16 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.Kernel2Ideal.Value

end
-- ==== Proof.LatIdealArray.lean ====
/- The second call's output array: every entry is the layer's tail of its row, over the attention of that row, in the global arrays. -/
module

public import proofs.«01_k».proof.Proof.LatTailRunB
public import proofs.«01_k».proof.Proof.LatTailRunC
public import proofs.«01_k».proof.Proof.LatTailTile
public import proofs.«01_k».proof.Proof.LatRunA
public import proofs.«01_k».proof.Proof.LatRunB
public import proofs.«01_k».proof.Proof.LatWindow
public import proofs.«01_k».proof.Proof.LatIdealValue

@[expose] public section

set_option maxRecDepth 16384

noncomputable section

namespace Cert.Kernel2Ideal.Arr

open Cert.Kernel2Ideal Cert.Kernel2Ideal.Gen Cert.Kernel2Ideal.Att Cert.Kernel2Ideal.Tail Idealize.ShloMosaic Idealize.ShloMosaic.TcCoe Idealize.SL.Sem

/-! ## The rows of the whole arrays -/

section Global

variable (X0 : Vec Ideal S8 .f32) (X1 : Vec Ideal S8192x512 .bf16) (X2 : Vec Ideal S256x8192 .bf16) (X3 : Vec Ideal S8192x256 .bf16)
  (X4 X5 : Vec Ideal S8x128x256 .f32) (X6 : Vec Ideal S8192x1024 .f32) (X7 : Vec Ideal S16x6144 .f32) (X8 : Vec Ideal S8192x512 .bf16)
  (X9 : Vec Ideal S8192x2048 .bf16) (X10 : Vec Ideal S1x1024 .f32) (X11 : Vec Ideal S512x1024 .bf16) (X12 : Vec Ideal S512x1024 .bf16)
  (X13 : Vec Ideal S1024x1024 .bf16) (X14 : Vec Ideal S1024x5632 .bf16) (X15 : Vec Ideal S2816x1024 .bf16)

/-- Channel `c` of key `j` of the sequence of row `r`: its 1024 keys, then the 256 of the context. -/
def gKey (r : Fin 8192) (c : Fin 256) (j : Fin 1280) : EReal :=
  if h : j.val < 1024 then X2 (ix2 c (⟨1024 * (r / 1024) + j, by omega⟩ : Fin 8192))
  else X4 (ix3 (⟨r / 1024, by omega⟩ : Fin 8) (⟨64 * (c / 128) + c % 64, by omega⟩ : Fin 128) (⟨j - 1024, by omega⟩ : Fin 256))

/-- Channel `c` of the value of key `j` of the sequence of row `r`. -/
def gVal (r : Fin 8192) (c : Fin 256) (j : Fin 1280) : EReal :=
  if h : j.val < 1024 then X3 (ix2 (⟨1024 * (r / 1024) + j, by omega⟩ : Fin 8192) c)
  else X5 (ix3 (⟨r / 1024, by omega⟩ : Fin 8) (⟨64 * (c / 128) + c % 64, by omega⟩ : Fin 128) (⟨j - 1024, by omega⟩ : Fin 256))

/-- The score of query row `r` and key `j` in head `h`, not masked. -/
def gScore (r : Fin 8192) (h : Fin 8) (j : Fin 1280) : EReal :=
  ∑ d : Fin 64, X1 (ix2 r (⟨64 * h + d, by omega⟩ : Fin 512)) * gKey X2 X4 r ⟨64 * (2 * (h / 4) + h % 2) + d, by omega⟩ j

/-- A key of its sequence that a row does not reach. -/
abbrev far (r : Fin 8192) (j : Fin 1280) : Prop := j.val < 1024 ∧ ¬near (r % 1024) j

/-- The attention of row `r` in channel `c`. -/
def gAtt (r : Fin 8192) (c : Fin 512) : EReal :=
  kHead (sinkLog X0 (c / 64) (by omega)) (fun j => if far r j then ⊥ else gScore X1 X2 X4 r ⟨c / 64, by omega⟩ j)
    (gVal X3 X5 r ⟨128 * (c / 256) + c % 128, by omega⟩)

/-- What the rows of a sequence share: its row of the modulation, the gain and the weights. -/
def gPar (b : Fin 16) : Row.Par where
  md n := X7 (ix2 b n)
  g2 n := X10 (ix2 (0 : Fin 1) n)
  wf k n := X11 (ix2 k n)
  wao k n := X12 (ix2 k n)
  wout k n := X13 (ix2 k n)
  wup k n := X14 (ix2 k n)
  wdn k n := X15 (ix2 k n)

/-- Row `r` of the arrays, with the attention rows `A`. -/
def gRow (A : Fin 8192 → Fin 512 → EReal) (r : Fin 8192) : Row.Row where
  x n := X6 (ix2 r n)
  mx n := X8 (ix2 r n)
  a n := A r n
  gt n := X9 (ix2 r n)

/-- The sequence of a row. -/
def seq (r : Fin 8192) : Fin 16 := ⟨r / 1024, by omega⟩

/-- The layer's output array. -/
def gOut (A : Fin 8192 → Fin 512 → EReal) : Vec Ideal S8192x1024 .f32 := fun y =>
  Row.tail (gPar X7 X10 X11 X12 X13 X14 X15 (seq (y 0))) (gRow X6 X8 X9 A (y 0)) (y 1)

end Global

/-! ## The blocks -/

theorem idx : ∀ t : Fin cfg0.N, win0_0.index t = ![0] ∧ win0_1.index t = ![min t.val 15, 0] ∧ win0_2.index t = ![0, min t.val 15 / 2] ∧ win0_3.index t = ![min t.val 15 / 2, 0] ∧
    win0_4.index t = ![min t.val 15 / 2, 0, 0] ∧ win0_5.index t = ![min t.val 15 / 2, 0, 0] ∧
    win0_6.index t = ![t.val - 1, 0] ∧ win0_7.index t = ![0, 0] ∧ win0_8.index t = ![t.val - 1, 0] ∧ win0_9.index t = ![t.val - 1, 0] ∧
    win0_10.index t = ![0, 0] ∧ win0_11.index t = ![0, 0] ∧ win0_12.index t = ![0, 0] ∧ win0_13.index t = ![0, 0] ∧ win0_14.index t = ![0, 0] ∧ win0_15.index t = ![0, 0] ∧
    win0_16.index t = ![t.val - 1, 0] :=
  (by decide +kernel : ∀ t : Fin grid0.N, _)

variable (m : (ℓ : Loc nD τ sig) → Buf (Elt Ideal) ℓ) (c : Dev nD) (t : Fin cfg0.N)

/-- The block of each operand at a point, in its array. -/
theorem blk0 (i : Fin 8) : iblk m c 0 t (ix1 i) = m ((c : Thread nD τ).loc main_arg0) (ix1 i) := by
  blk_ext [iblk, V, idx t]

theorem blk1 (r n : Fin 512) (R : Fin 8192) (hR : R.val = 512 * min t.val 15 + r.val) : iblk m c 1 t (ix2 r n) = m ((c : Thread nD τ).loc main_arg1) (ix2 R n) := by
  blk_ext [iblk, V, idx t]

theorem blk2 (r : Fin 256) (n : Fin 1024) (R : Fin 8192) (hR : R.val = 1024 * (min t.val 15 / 2) + n.val) : iblk m c 2 t (ix2 r n) = m ((c : Thread nD τ).loc main_arg2) (ix2 r R) := by
  blk_ext [iblk, V, idx t]

theorem blk3 (r : Fin 1024) (n : Fin 256) (R : Fin 8192) (hR : R.val = 1024 * (min t.val 15 / 2) + r.val) : iblk m c 3 t (ix2 r n) = m ((c : Thread nD τ).loc main_arg3) (ix2 R n) := by
  blk_ext [iblk, V, idx t]

theorem blk4 (r : Fin 128) (n : Fin 256) (b : Fin 8) (hb : b.val = min t.val 15 / 2) : iblk m c 4 t (ix3 (0 : Fin 1) r n) = m ((c : Thread nD τ).loc main_arg4) (ix3 b r n) := by
  blk_ext [iblk, V, idx t]

theorem blk5 (r : Fin 128) (n : Fin 256) (b : Fin 8) (hb : b.val = min t.val 15 / 2) : iblk m c 5 t (ix3 (0 : Fin 1) r n) = m ((c : Thread nD τ).loc main_arg5) (ix3 b r n) := by
  blk_ext [iblk, V, idx t]

theorem blk6 (r : Fin 512) (n : Fin 1024) (R : Fin 8192) (hR : R.val = 512 * (t.val - 1) + r.val) : iblk m c 6 t (ix2 r n) = m ((c : Thread nD τ).loc main_arg6) (ix2 R n) := by
  blk_ext [iblk, V, idx t]

theorem blk8 (r : Fin 512) (n : Fin 512) (R : Fin 8192) (hR : R.val = 512 * (t.val - 1) + r.val) : iblk m c 8 t (ix2 r n) = m ((c : Thread nD τ).loc main_arg8) (ix2 R n) := by
  blk_ext [iblk, V, idx t]

theorem blk9 (r : Fin 512) (n : Fin 2048) (R : Fin 8192) (hR : R.val = 512 * (t.val - 1) + r.val) : iblk m c 9 t (ix2 r n) = m ((c : Thread nD τ).loc main_arg9) (ix2 R n) := by
  blk_ext [iblk, V, idx t]

theorem blk7 (a : Fin 8) (n : Fin 6144) (b : Fin 16) (hb : b.val = a.val) : iblk m c 7 t (ix2 a n) = m ((c : Thread nD τ).loc main_arg7) (ix2 b n) := by
  blk_ext [iblk, V, idx t]

theorem blk10 (r : Fin 1) (n : Fin 1024) : iblk m c 10 t (ix2 r n) = m ((c : Thread nD τ).loc main_arg10) (ix2 r n) := by
  blk_ext [iblk, V, idx t]

theorem blk11 (r : Fin 512) (n : Fin 1024) : iblk m c 11 t (ix2 r n) = m ((c : Thread nD τ).loc main_arg11) (ix2 r n) := by
  blk_ext [iblk, V, idx t]

theorem blk12 (r : Fin 512) (n : Fin 1024) : iblk m c 12 t (ix2 r n) = m ((c : Thread nD τ).loc main_arg12) (ix2 r n) := by
  blk_ext [iblk, V, idx t]

theorem blk13 (r : Fin 1024) (n : Fin 1024) : iblk m c 13 t (ix2 r n) = m ((c : Thread nD τ).loc main_arg13) (ix2 r n) := by
  blk_ext [iblk, V, idx t]

theorem blk14 (r : Fin 1024) (n : Fin 5632) : iblk m c 14 t (ix2 r n) = m ((c : Thread nD τ).loc main_arg14) (ix2 r n) := by
  blk_ext [iblk, V, idx t]

theorem blk15 (r : Fin 2816) (n : Fin 1024) : iblk m c 15 t (ix2 r n) = m ((c : Thread nD τ).loc main_arg15) (ix2 r n) := by
  blk_ext [iblk, V, idx t]

/-! ## The attention rows carried to the next point -/

/-- The attention rows of the arrays. -/
abbrev att : Fin 8192 → Fin 512 → EReal :=
  gAtt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The place of key `k` of a window from `st` among all keys of a row. -/
def place (st : ℕ) (hst : st + 384 ≤ 1024) (k : Fin 640) : Fin 1280 := if h : k.val < 384 then ⟨st + k, by omega⟩ else ⟨640 + k, by omega⟩

theorem place_inj (st : ℕ) (hst : st + 384 ≤ 1024) : Function.Injective (place st hst) := by
  intro a b h
  have h := congrArg Fin.val h
  unfold place at h
  apply Fin.ext
  split at h <;> split at h <;> simp only at h <;> omega

/-- A key outside the window is out of the row's reach. -/
theorem far_of_not_mem (st : ℕ) (hst : st + 384 ≤ 1024) (r : Fin 8192) (hs : st = min 640 (128 * (r.val % 1024 / 128) - 128)) (j : Fin 1280)
    (hj : j ∉ Set.range (place st hst)) : far r j := by
  by_cases h : j.val < 1024
  · refine ⟨h, fun hn => ?_⟩
    obtain ⟨h1, h2⟩ := hn
    refine hj ⟨⟨j - st, by omega⟩, ?_⟩
    apply Fin.ext
    unfold place
    rw [dif_pos (by show j.val - st < 384; omega)]
    show st + (j.val - st) = j.val
    omega
  · refine absurd ⟨⟨j - 640, by omega⟩, ?_⟩ hj
    apply Fin.ext
    unfold place
    rw [dif_neg (by show ¬j.val - 640 < 384; omega)]
    show 640 + (j.val - 640) = j.val
    omega

/-- The attention of a row over the keys of its window and the context is its attention over all keys. -/
theorem gAtt_window (X0 : Vec Ideal S8 .f32) (X1 : Vec Ideal S8192x512 .bf16) (X2 : Vec Ideal S256x8192 .bf16) (X3 : Vec Ideal S8192x256 .bf16)
    (X4 X5 : Vec Ideal S8x128x256 .f32) (st : ℕ) (hst : st + 384 ≤ 1024) (r : Fin 8192) (hs : st = min 640 (128 * (r.val % 1024 / 128) - 128)) (n : Fin 512) :
    kHead (sinkLog X0 (n / 64) (by omega)) (fun k => if far r (place st hst k) then ⊥ else gScore X1 X2 X4 r ⟨n / 64, by omega⟩ (place st hst k))
      (fun k => gVal X3 X5 r ⟨128 * (n / 256) + n % 128, by omega⟩ (place st hst k)) = gAtt X0 X1 X2 X3 X4 X5 r n := by
  unfold gAtt
  generalize sinkLog X0 (n / 64) _ = s
  generalize gVal X3 X5 r _ = w
  exact kHead_window (place st hst) (place_inj st hst) s (fun j => if far r j then ⊥ else gScore X1 X2 X4 r ⟨n / 64, by omega⟩ j) w
    fun j hj => if_pos (far_of_not_mem st hst r hs j hj)

section Tile

variable (v : Env Ideal) (hn : v.n = min t.val 15) (r : Fin 512) (R : Fin 8192) (hR : R.val = 512 * min t.val 15 + r.val)

include hn hR

/-- Where a row's window starts. -/
theorem start_row : start v.n (r / 128) = min 640 (128 * (R.val % 1024 / 128) - 128) := by
  refine (start_eq ⟨v.n, v.hn⟩ ⟨r / 128, by omega⟩).trans ?_
  simp only
  omega

variable (h1 : v.x1 = iblk m c 1 t) (h2 : v.x2 = iblk m c 2 t) (h3 : v.x3 = iblk m c 3 t) (h4 : v.x4 = iblk m c 4 t) (h5 : v.x5 = iblk m c 5 t)

include h2 h4 in
/-- The keys of a window. -/
theorem key_blk (ch : Fin 256) (k : Fin 640) : key v (r / 128) (by omega) ch k =
    gKey (m ((c : Thread nD τ).loc main_arg2)) (m ((c : Thread nD τ).loc main_arg4)) R ch (place _ (start_le v.n v.hn (r / 128) (by omega)) k) := by
  unfold key gKey place
  by_cases h : k.val < 384
  · simp only [dif_pos h]
    rw [dif_pos (by show start v.n (r / 128) + k.val < 1024; have := start_le v.n v.hn (r / 128) (by omega); omega), h2]
    exact blk2 m c t _ _ _ (by show 1024 * (R.val / 1024) + (start v.n (r / 128) + k.val) = 1024 * (min t.val 15 / 2) + (start v.n (r / 128) + k.val); omega)
  · simp only [dif_neg h]
    rw [dif_neg (by show ¬640 + k.val < 1024; omega), h4]
    refine (blk4 m c t _ _ (⟨R / 1024, by omega⟩ : Fin 8) (by show R.val / 1024 = min t.val 15 / 2; omega)).trans ?_
    refine congrArg (fun x => m ((c : Thread nD τ).loc main_arg4) (ix3 _ _ x)) (Fin.ext ?_)
    show k.val - 384 = 640 + k.val - 1024
    omega

include h3 h5 in
/-- The values of a window. -/
theorem val_blk (ch : Fin 256) (k : Fin 640) : val v (r / 128) (by omega) ch k =
    gVal (m ((c : Thread nD τ).loc main_arg3)) (m ((c : Thread nD τ).loc main_arg5)) R ch (place _ (start_le v.n v.hn (r / 128) (by omega)) k) := by
  unfold val gVal place
  by_cases h : k.val < 384
  · simp only [dif_pos h]
    rw [dif_pos (by show start v.n (r / 128) + k.val < 1024; have := start_le v.n v.hn (r / 128) (by omega); omega), h3]
    exact blk3 m c t _ _ _ (by show 1024 * (R.val / 1024) + (start v.n (r / 128) + k.val) = 1024 * (min t.val 15 / 2) + (start v.n (r / 128) + k.val); omega)
  · simp only [dif_neg h]
    rw [dif_neg (by show ¬640 + k.val < 1024; omega), h5]
    refine (blk5 m c t _ _ (⟨R / 1024, by omega⟩ : Fin 8) (by show R.val / 1024 = min t.val 15 / 2; omega)).trans ?_
    refine congrArg (fun x => m ((c : Thread nD τ).loc main_arg5) (ix3 _ _ x)) (Fin.ext ?_)
    show k.val - 384 = 640 + k.val - 1024
    omega

include h1 h2 h4 in
/-- The masked scores of a window. -/
theorem score_blk (h : Fin 8) (k : Fin 640) : masked v r k (score v r h k) =
    if far R (place _ (start_le v.n v.hn (r / 128) (by omega)) k) then ⊥
    else gScore (m ((c : Thread nD τ).loc main_arg1)) (m ((c : Thread nD τ).loc main_arg2)) (m ((c : Thread nD τ).loc main_arg4)) R h (place _ (start_le v.n v.hn (r / 128) (by omega)) k) := by
  unfold masked score gScore half
  refine if_congr (Q := far R (place _ (start_le v.n v.hn (r / 128) (by omega)) k)) ?_ rfl
    (Finset.sum_congr rfl fun d _ => congrArg₂ (· * ·) ?_ (key_blk m c t v hn r R hR h2 h4 _ _))
  · unfold far place
    split
    · dsimp only
      rw [start_row t v hn r R hR]
      omega
    · dsimp only
      omega
  · rw [h1]
    exact blk1 m c t _ _ R hR

include h1 h2 h3 h4 h5 in
/-- The tile of a point's blocks is the rows of the arrays. -/
theorem attTile_blk (h0 : v.x0 = iblk m c 0 t) (n : Fin 512) : attTile v r n = att m c R n := by
  have h0' : sinkLog v.x0 (n / 64) (by omega) = sinkLog (m ((c : Thread nD τ).loc main_arg0)) (n / 64) (by omega) := by
    rw [h0]
    exact congrArg (k0_pay16 (F := Ideal)) (blk0 m c t _)
  unfold attTile
  rw [h0', funext (score_blk m c t v hn r R hR h1 h2 h4 _), funext (val_blk m c t v hn r R hR h3 h5 _)]
  exact gAtt_window _ _ _ _ _ _ _ _ R (start_row t v hn r R hR) n

end Tile

/-- What a point before the last leaves: the attention rows of its blocks. -/
theorem carried (ht : t.val ≤ 15) (r n : Fin 512) (R : Fin 8192) (hR : R.val = 512 * t.val + r.val) : (outsAt0 m c t.val t.isLt).2 (ix2 r n) = att m c R n := by
  have hi : (grid0.coords t 0).val = min t.val 15 := by
    have h : ∀ t : Fin grid0.N, t.val ≤ 15 → (grid0.coords t 0).val = min t.val 15 := by decide +kernel
    exact h t ht
  by_cases h0 : t.val % 17 = 0
  · rw [outsAt0_A m c t h0 (by omega) (by omega)]
    dsimp only [left_A]
    unfold sout0_A_0
    rw [View.read_writes_junk_eq_canon, att_eq_A]
    exact (attPieces_apply ..).trans (attTile_blk m c t _ hi r R (by omega) rfl rfl rfl rfl rfl rfl n)
  · rw [outsAt0_B m c t h0 (by omega) (by omega)]
    dsimp only [left_B]
    unfold sout0_B_0
    rw [View.read_writes_junk_eq_canon, att_eq_B]
    exact (attPieces_apply ..).trans (attTile_blk m c t _ hi r R (by omega) rfl rfl rfl rfl rfl rfl n)

/-! ## The output -/

/-- The output array of the arrays. -/
abbrev out : Vec Ideal S8192x1024 .f32 :=
  gOut (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13))
    (m ((c : Thread nD τ).loc main_arg14)) (m ((c : Thread nD τ).loc main_arg15)) (att m c)

/-- The tail of a point's blocks over the rows carried to it is the rows of the arrays. -/
theorem tail_blk (ht : 1 ≤ t.val) (q : ℕ) (hq : q = t.val) (hm : mrow q + 1 ≤ 8) (xs : Vec Ideal S512x512 .bf16)
    (hxs : ∀ (r n : Fin 512) (R : Fin 8192), R.val = 512 * (t.val - 1) + r.val → xs (ix2 r n) = att m c R n)
    (r : Fin 512) (n : Fin 1024) (R : Fin 8192) (hR : R.val = 512 * (t.val - 1) + r.val) :
    Row.tail (par (mr q hm) (iblk m c 7 t) (iblk m c 10 t) (iblk m c 11 t) (iblk m c 12 t) (iblk m c 13 t) (iblk m c 14 t) (iblk m c 15 t))
      (row (iblk m c 6 t) (iblk m c 8 t) (iblk m c 9 t) xs r) n = out m c (ix2 R n) := by
  have hN : t.val < 17 := lt_of_lt_of_eq t.isLt N_0
  have hp : par (mr q hm) (iblk m c 7 t) (iblk m c 10 t) (iblk m c 11 t) (iblk m c 12 t) (iblk m c 13 t) (iblk m c 14 t) (iblk m c 15 t) =
      gPar (m ((c : Thread nD τ).loc main_arg7)) (m ((c : Thread nD τ).loc main_arg10)) (m ((c : Thread nD τ).loc main_arg11)) (m ((c : Thread nD τ).loc main_arg12))
        (m ((c : Thread nD τ).loc main_arg13)) (m ((c : Thread nD τ).loc main_arg14)) (m ((c : Thread nD τ).loc main_arg15)) (seq R) := by
    have hb : (seq R).val = (mr q hm).val := by
      have := mrow_eq ⟨t.val, hN⟩ ht
      simp only at this
      show R.val / 1024 = mrow q
      rw [hq, this]
      omega
    unfold par gPar
    congr 1
    · funext n; exact blk7 m c t _ n _ hb
    · funext n; exact blk10 m c t 0 n
    · funext k n; exact blk11 m c t k n
    · funext k n; exact blk12 m c t k n
    · funext k n; exact blk13 m c t k n
    · funext k n; exact blk14 m c t k n
    · funext k n; exact blk15 m c t k n
  have hr : row (iblk m c 6 t) (iblk m c 8 t) (iblk m c 9 t) xs r =
      gRow (m ((c : Thread nD τ).loc main_arg6)) (m ((c : Thread nD τ).loc main_arg8)) (m ((c : Thread nD τ).loc main_arg9)) (att m c) R := by
    unfold row gRow
    congr 1
    · funext n; exact blk6 m c t r n R hR
    · funext n; exact blk8 m c t r n R hR
    · funext n; exact hxs r n R hR
    · funext n; exact blk9 m c t r n R hR
  rw [hp, hr]
  rfl

/-- What a point after the first writes: the rows of the layer's output. -/
theorem written (ht : 1 ≤ t.val) (r : Fin 512) (n : Fin 1024) (R : Fin 8192) (hR : R.val = 512 * (t.val - 1) + r.val) :
    (outsAt0 m c t.val t.isLt).1 (ix2 r n) = out m c (ix2 R n) := by
  have hN : t.val < 17 := lt_of_lt_of_eq t.isLt N_0
  have hxs : ∀ (r n : Fin 512) (R : Fin 8192), R.val = 512 * (t.val - 1) + r.val → (outsAt0 m c (t.val - 1) (Nat.lt_of_le_of_lt (Nat.sub_le _ _) t.isLt)).2 (ix2 r n) = att m c R n :=
    fun r n R hR => carried m c ⟨t.val - 1, Nat.lt_of_le_of_lt (Nat.sub_le _ _) t.isLt⟩ (by show t.val - 1 ≤ 15; omega) r n R hR
  have hi : (grid0.coords t 0).val = t.val := (by decide +kernel : ∀ t : Fin grid0.N, (grid0.coords t 0).val = t.val) t
  have hm : mrow (grid0.coords t 0).val + 1 ≤ 8 := mrow_le _ (by omega) (by omega)
  refine Eq.trans ?_ (tail_blk m c t ht _ hi hm _ hxs r n R hR)
  by_cases h2 : t.val % 17 = 16
  · rw [outsAt0_C m c t (by omega) (by omega) h2]
    dsimp only [left_C]
    unfold out0_C_16
    rw [View.read_writes_junk_eq_canon, out_eq_C (hm := hm)]
    exact outPieces_apply ..
  · rw [outsAt0_B m c t (by omega) (by omega) h2]
    dsimp only [left_B]
    unfold out0_B_16
    rw [View.read_writes_junk_eq_canon, out_eq_B (hm := hm)]
    exact outPieces_apply ..

/-- The output array after the run. -/
theorem final : (dats m 0 c).arrAt 16 cfg0.N = out m c := by
  refine (dats m 0 c).arrAt_eq_of_covers 16 _ (by decide +kernel) fun t hf y => ?_
  have ht : 1 ≤ t.val := by
    by_contra h
    have h0 : ∀ t : Fin grid0.N, ¬1 ≤ t.val → win0_16.flush t = false := by decide +kernel
    exact absurd (hf.symm.trans (h0 t h)) (by decide)
  obtain ⟨r, n, rfl⟩ : ∃ (r : Fin 512) (n : Fin 1024), y = ix2 r n := ⟨_, _, eq_ix2 (n0 := 512) (n1 := 1024) y⟩
  have hN : t.val < 17 := lt_of_lt_of_eq t.isLt N_0
  blk_simp
  rw [after0_16]
  refine (written m c t ht r n ⟨512 * (t.val - 1) + r.val, by omega⟩ rfl).trans ?_
  blk_ext [idx t]

end Cert.Kernel2Ideal.Arr
-- ==== Proof.LatRefAtt.lean ====
/- The second reference's attention of a row in a channel: the values of its keys summed with their weights. -/
module

public import proofs.«01_k».proof.Proof.LatRefRow
public import proofs.«01_k».proof.Proof.LatIdealArray

@[expose] public section

set_option maxRecDepth 16384

noncomputable section

namespace Cert.Reference2Ideal.Row

open Cert.Reference2Ideal Cert.Reference2Ideal.Gen Cert.Reference2Ideal.Read Idealize.ShloMosaic Idealize.ShloMosaic.TcCoe Idealize.SL.Sem
open Cert.Kernel2Ideal.Att (near)
open Cert.Kernel2Ideal.Arr (gKey gVal gScore far)

variable (x0 : Vec Ideal S8 .f32) (x1 : Vec Ideal S8192x512 .bf16) (x2 : Vec Ideal S256x8192 .bf16) (x3 : Vec Ideal S8192x256 .bf16)
  (x4 x5 : Vec Ideal S8x128x256 .f32)

/-- The test of the distance of two places of a sequence. -/
theorem sle_near (q k : Fin 1024) : IntOp.cmpi .sle (IntOp.absi (IntOp.subi (BitVec.ofNat 32 q) (BitVec.ofNat 32 k))) 128#32 = if near q k then 1#1 else 0#1 := by
  have h1 : ∀ d : Fin 1024, IntOp.cmpi .sle (IntOp.absi (BitVec.ofNat 32 d.val)) 128#32 = if d.val ≤ 128 then 1#1 else 0#1 := by decide +kernel
  have h2 : ∀ d : Fin 1024, IntOp.cmpi .sle (IntOp.absi (-BitVec.ofNat 32 d.val)) 128#32 = if d.val ≤ 128 then 1#1 else 0#1 := by decide +kernel
  rcases Nat.le_total k.val q.val with h | h
  · have e : IntOp.subi (BitVec.ofNat 32 q) (BitVec.ofNat 32 k) = BitVec.ofNat 32 (q.val - k) := by
      show BitVec.ofNat 32 q - BitVec.ofNat 32 k = _
      apply BitVec.eq_of_toNat_eq
      simp only [BitVec.toNat_sub, BitVec.toNat_ofNat]
      omega
    rw [e, h1 ⟨q - k, by omega⟩]
    exact if_congr (by show q.val - k ≤ 128 ↔ near q k; unfold near; omega) rfl rfl
  · have e : IntOp.subi (BitVec.ofNat 32 q) (BitVec.ofNat 32 k) = -BitVec.ofNat 32 (k.val - q) := by
      show BitVec.ofNat 32 q - BitVec.ofNat 32 k = _
      apply BitVec.eq_of_toNat_eq
      simp only [BitVec.toNat_sub, BitVec.toNat_neg, BitVec.toNat_ofNat]
      omega
    rw [e, h2 ⟨k - q, by omega⟩]
    exact if_congr (by show k.val - q ≤ 128 ↔ near q k; unfold near; omega) rfl rfl

section

variable (a : Fin 8) (b c d : Fin 2) (q : Fin 1024)

/-- The masked scores of the keys of the sequence. -/
theorem mask_apply (k : Fin 1024) :
    val_main_v26 (F := Ideal) x1 x2 (ix6 a b c d q k) = if near q k then val_main_v25 (F := Ideal) x1 x2 (ix6 a b c d q k) else ⊥ := by
  have hn : val_main_v20 (F := Ideal) (ix2 q k) = if near q k then 1#1 else 0#1 := by
    refine Eq.trans ?_ (sle_near q k)
    pointwise [val_main_v20, val_main_v19, val_main_v18, val_main_v17, val_main_v16, val_main_v15, val_main_c]
  have hb : (id (constant (F := Ideal) S_ FTy.f32 4286578688#32) ix0 : EReal) = ⊥ := Cert.ReferenceIdeal.Row.word_bot
  pointwise [val_main_v26, val_main_call0_v1, val_main_call0_v2, val_main_call0_v0, val_main_cst_0]
  rw [hn, hb]
  split <;> rfl

/-- The maximum of a row's scores. -/
theorem max_apply : val_main_v34 (F := Ideal) x1 x2 x4 (ix5 a b c d q) = sMax (fun k : Fin 1280 => val_main_v31 (F := Ideal) x1 x2 x4 (ix6 a b c d q k)) := by
  unfold val_main_v34 sMax
  generalize val_main_v31 (F := Ideal) x1 x2 x4 = y
  rw [Host.reduce_eq_fold, Shape.ReducesTo.drop_eq_drop _ red, red.fold_filter_drop_single]
  exact congrArg₂ (fun e f => Finset.fold max e f (Finset.univ : Finset (Fin 1280))) Cert.ReferenceIdeal.Row.word_bot (funext fun k => congrArg y (lift_red a b c d q k))

/-- The sinks' logits, spread over the rows. -/
theorem sink_apply : val_main_v35 (F := Ideal) x0 (ix5 a b c d q) = x0 (ix1 (⟨b * 4 + c * 2 + d, by omega⟩ : Fin 8)) := by
  pointwise [val_main_v35, val_main_v33, val_main_v32]

/-- The larger of two arrays, entry by entry. -/
theorem larger (y z : FVec Ideal S8x2x2x2x1024 .f32) (i : S8x2x2x2x1024.Idx) : maximumf y z i = max (y i : EReal) (z i) := rfl

/-- The larger of a row's maximum and its sink's logit. -/
theorem larger_apply (i : S8x2x2x2x1024.Idx) :
    val_main_v36 (F := Ideal) x0 x1 x2 x4 i = max (val_main_v34 (F := Ideal) x1 x2 x4 i : EReal) (val_main_v35 (F := Ideal) x0 i) := by
  unfold val_main_v36
  exact larger _ _ i

/-- The maximum of a row's scores and its sink's logit. -/
theorem rMax_apply : val_main_v36 (F := Ideal) x0 x1 x2 x4 (ix5 a b c d q) =
    rMax (x0 (ix1 (⟨b * 4 + c * 2 + d, by omega⟩ : Fin 8))) (fun k => val_main_v31 (F := Ideal) x1 x2 x4 (ix6 a b c d q k)) := by
  rw [larger_apply, max_apply, sink_apply]
  unfold rMax
  rfl

/-- The sum of a row's weights. -/
theorem sum_apply : val_main_v41 (F := Ideal) x0 x1 x2 x4 (ix5 a b c d q) = ∑ k : Fin 1280, val_main_v40 (F := Ideal) x0 x1 x2 x4 (ix6 a b c d q k) := by
  unfold val_main_v41
  generalize val_main_v40 (F := Ideal) x0 x1 x2 x4 = y
  simp only [Host.reduceAdd, Ideal.hostReduceAdd_def]
  rw [Ideal.hostReduceAdd_single _ red]
  have h0 : (val_main_cst_2 (F := Ideal)) (Shape.Idx.first h_S_) = (0 : EReal) := by
    show Ideal.ofBits .f32 0x00000000#32 = 0
    simp [Ideal.ofBits, Ideal.ieee]
  rw [h0, zero_add]
  exact Finset.sum_congr rfl fun k _ => congrArg y (lift_red a b c d q k)

/-- The weights. -/
theorem weight_apply (k : Fin 1280) : val_main_v48 (F := Ideal) x0 x1 x2 x4 (ix6 a b c d q k) =
    rW (x0 (ix1 (⟨b * 4 + c * 2 + d, by omega⟩ : Fin 8))) (fun k => val_main_v31 (F := Ideal) x1 x2 x4 (ix6 a b c d q k)) k := by
  have h : ∀ k : Fin 1280, val_main_v40 (F := Ideal) x0 x1 x2 x4 (ix6 a b c d q k) =
      Ideal.exp (val_main_v31 (F := Ideal) x1 x2 x4 (ix6 a b c d q k) - val_main_v36 (F := Ideal) x0 x1 x2 x4 (ix5 a b c d q)) := by
    intro k
    pointwise [val_main_v40, val_main_v39, val_main_v38, val_main_v37]
  unfold rW
  rw [← rMax_apply]
  simp only [← h]
  rw [← sum_apply]
  pointwise [val_main_v48, val_main_v47, val_main_v46, val_main_v45, val_main_v44, val_main_v43, val_main_v42, val_main_v33, val_main_v32]

/-- The values of the sequence summed with their weights. -/
theorem seq_apply (e : Fin 64) : val_main_v51 (F := Ideal) x0 x1 x2 x3 x4 (ix6 a q b c d e) =
    ∑ k : Fin 1024, x3 (ix2 (⟨a * 1024 + k, by omega⟩ : Fin 8192) (⟨b * 128 + d * 64 + e, by omega⟩ : Fin 256)) *
      val_main_v48 (F := Ideal) x0 x1 x2 x4 (ix6 a b c d q (⟨k, by omega⟩ : Fin 1280)) := by
  pointwise [val_main_v51, val_main_v50, val_main_v49, val_main_v12, val_main_v2]

/-- The values of the context summed with their weights. -/
theorem ctxv_apply (e : Fin 64) : val_main_v54 (F := Ideal) x0 x1 x2 x4 x5 (ix6 a q b c d e) =
    ∑ k : Fin 256, x5 (ix3 a (⟨b * 64 + e, by omega⟩ : Fin 128) k) *
      val_main_v48 (F := Ideal) x0 x1 x2 x4 (ix6 a b c d q (⟨1024 + k, by omega⟩ : Fin 1280)) := by
  pointwise [val_main_v54, val_main_v53, val_main_v52, val_main_v14]

end

/-- The head of a channel. -/
abbrev hd (n : Fin 512) : Fin 8 := ⟨n / 64, by omega⟩

/-- The scores of all keys: those of the sequence, then those of the context. -/
theorem cat_apply (a : Fin 8) (b c d : Fin 2) (q : Fin 1024) (j : Fin 1280) : val_main_v31 (F := Ideal) x1 x2 x4 (ix6 a b c d q j) =
    if h : j.val < 1024 then val_main_v26 (F := Ideal) x1 x2 (ix6 a b c d q (⟨j, h⟩ : Fin 1024))
    else val_main_v30 (F := Ideal) x1 x4 (ix6 a b c d q (⟨j - 1024, by omega⟩ : Fin 256)) := by
  pointwise [val_main_v31]

/-- A key of the sequence. -/
theorem gKey_seq (r : Fin 8192) (c : Fin 256) (j : Fin 1280) (h : j.val < 1024) :
    gKey x2 x4 r c j = x2 (ix2 c (⟨1024 * (r / 1024) + j, by omega⟩ : Fin 8192)) := by
  unfold gKey
  exact dif_pos h

/-- A key of the context. -/
theorem gKey_ctx (r : Fin 8192) (c : Fin 256) (j : Fin 1280) (h : ¬j.val < 1024) : gKey x2 x4 r c j =
    x4 (ix3 (⟨r / 1024, by omega⟩ : Fin 8) (⟨64 * (c / 128) + c % 64, by omega⟩ : Fin 128) (⟨j - 1024, by omega⟩ : Fin 256)) := by
  unfold gKey
  exact dif_neg h

/-- The scores of a row. -/
theorem row_score (r : Fin 8192) (n : Fin 512) (j : Fin 1280) :
    val_main_v31 (F := Ideal) x1 x2 x4 (ix6 (⟨r / 1024, by omega⟩ : Fin 8) (⟨n / 256, by omega⟩ : Fin 2) (⟨n / 128 % 2, by omega⟩ : Fin 2) (⟨n / 64 % 2, by omega⟩ : Fin 2)
        (⟨r % 1024, by omega⟩ : Fin 1024) j) =
      if far r j then ⊥ else gScore x1 x2 x4 r (hd n) j * Ideal.log (Ideal.ofBits FTy.f32 1073741824#32) := by
  have hq : ∀ x : Fin 64, x1 (ix2 (⟨(r : ℕ) / 1024 * 1024 + r % 1024, by omega⟩ : Fin 8192) (⟨n / 256 * 256 + n / 128 % 2 * 128 + n / 64 % 2 * 64 + x, by omega⟩ : Fin 512)) =
      x1 (ix2 r (⟨64 * (hd n) + x, by omega⟩ : Fin 512)) := by
    intro x
    refine congrArg x1 (congrArg₂ ix2 (Fin.ext ?_) (Fin.ext ?_))
    · show (r : ℕ) / 1024 * 1024 + r % 1024 = r
      omega
    · show (n : ℕ) / 256 * 256 + n / 128 % 2 * 128 + n / 64 % 2 * 64 + x = 64 * (n / 64) + x
      omega
  rw [cat_apply]
  by_cases h : j.val < 1024
  · rw [dif_pos h, mask_apply]
    by_cases hn : near (r.val % 1024) j
    · rw [if_neg (fun hf : far r j => hf.2 hn)]
      refine (if_pos hn).trans ((score_apply ..).trans (congrArg (· * _) (Finset.sum_congr rfl fun x _ => (mul_comm _ _).trans (congrArg₂ (· * ·) (hq x) ?_))))
      refine Eq.trans (congrArg x2 (congrArg₂ ix2 (Fin.ext ?_) (Fin.ext ?_))) (gKey_seq x2 x4 r _ j h).symm
      · show (n : ℕ) / 256 * 128 + n / 64 % 2 * 64 + x = 64 * (2 * (n / 64 / 4) + n / 64 % 2) + x
        omega
      · show (r : ℕ) / 1024 * 1024 + j = 1024 * (r / 1024) + j
        omega
    · rw [if_pos (⟨h, hn⟩ : far r j)]
      exact if_neg hn
  · rw [dif_neg h, if_neg (fun hf : far r j => h hf.1)]
    refine (ctx_apply ..).trans (congrArg (· * _) (Finset.sum_congr rfl fun x _ => (mul_comm _ _).trans (congrArg₂ (· * ·) (hq x) ?_)))
    refine Eq.trans (congrArg (fun z => x4 (ix3 _ z _)) (Fin.ext ?_)) (gKey_ctx x2 x4 r _ j h).symm
    show (n : ℕ) / 256 * 64 + x = 64 * ((64 * (2 * (n / 64 / 4) + n / 64 % 2) + x) / 128) + (64 * (2 * (n / 64 / 4) + n / 64 % 2) + x) % 64
    omega

/-- The reference's attention of row `r` in channel `n`. -/
theorem att_apply (r : Fin 8192) (n : Fin 512) : val_main_v56 (F := Ideal) x0 x1 x2 x3 x4 x5 (ix2 r n) =
    ∑ j : Fin 1280, gVal x3 x5 r (⟨128 * (n / 256) + n % 128, by omega⟩ : Fin 256) j *
      rW (x0 (ix1 (hd n))) (fun j => if far r j then ⊥ else gScore x1 x2 x4 r (hd n) j * Ideal.log (Ideal.ofBits FTy.f32 1073741824#32)) j := by
  have hh : ∀ h : (n : ℕ) / 256 * 4 + n / 128 % 2 * 2 + n / 64 % 2 < 8, (⟨_, h⟩ : Fin 8) = hd n :=
    fun h => Fin.ext (by show (n : ℕ) / 256 * 4 + n / 128 % 2 * 2 + n / 64 % 2 = n / 64; omega)
  pointwise [val_main_v56, val_main_v55]
  rw [seq_apply, ctxv_apply]
  simp only [weight_apply, row_score, hh]
  generalize rW (x0 (ix1 (hd n))) _ = w
  refine Eq.trans ?_ (Fin.sum_univ_add (a := 1024) (b := 256) _).symm
  refine congrArg₂ (· + ·) (Finset.sum_congr rfl fun k _ => congrArg₂ (· * ·) ?_ rfl) (Finset.sum_congr rfl fun k _ => congrArg₂ (· * ·) ?_ rfl)
  · unfold gVal
    rw [dif_pos (show (Fin.castAdd 256 k).val < 1024 from k.isLt)]
    refine congrArg x3 (congrArg₂ ix2 (Fin.ext ?_) (Fin.ext ?_))
    · show (r : ℕ) / 1024 * 1024 + k = 1024 * (r / 1024) + k
      omega
    · show (n : ℕ) / 256 * 128 + n / 64 % 2 * 64 + n % 64 = 128 * (n / 256) + n % 128
      omega
  · unfold gVal
    rw [dif_neg (show ¬(Fin.natAdd 1024 k).val < 1024 by simp)]
    refine congrArg₂ (fun y z => x5 (ix3 _ y z)) (Fin.ext ?_) (Fin.ext ?_)
    · show (n : ℕ) / 256 * 64 + n % 64 = 64 * ((128 * (n / 256) + n % 128) / 128) + (128 * (n / 256) + n % 128) % 64
      omega
    · show k.val = 1024 + k.val - 1024
      omega

end Cert.Reference2Ideal.Row
-- ==== Proof.LatEq.lean ====
/- The attention of one head over masked scores, computed with powers of two, the sink's logit scaled by `(log 2)⁻¹`, is the one computed with
   the exponential, the scores scaled by `log 2`: where the scores and the sink's logit are real. The values may be infinite. -/
module

public import proofs.«01_k».proof.Proof.LatRefAtt
public import proofs.«01_k».proof.Proof.AttEq

@[expose] public section

noncomputable section

namespace Cert.LatEq

open Cert.Kernel2Ideal.Att Cert.Reference2Ideal.Row Cert.AttEq Idealize.ShloMosaic

/-- The scores that a mask leaves: negative infinity elsewhere. -/
def keep {n : ℕ} (p : Fin n → Prop) [DecidablePred p] (S : Fin n → EReal) (j : Fin n) : EReal := if p j then ⊥ else S j

/-- The maximum of a real and of finitely many masked reals is a real, and scales with them. -/
theorem fold_keep {n : ℕ} (p : Fin n → Prop) [DecidablePred p] (S : Fin n → ℝ) (s L : ℝ) (hL : 0 ≤ L) (t : Finset (Fin n)) :
    ∃ M : ℝ, max (s : EReal) (Finset.fold max ⊥ (keep p fun j => (S j : EReal)) t) = (M : EReal) ∧
      max (((s * L : ℝ) : EReal)) (Finset.fold max ⊥ (keep p fun j => (S j : EReal) * (L : EReal)) t) = ((M * L : ℝ) : EReal) := by
  classical
  induction t using Finset.induction_on with
  | empty => exact ⟨s, by rw [Finset.fold_empty, max_bot_right], by rw [Finset.fold_empty, max_bot_right]⟩
  | insert a t h ih =>
    obtain ⟨M, h1, h2⟩ := ih
    rw [Finset.fold_insert h, Finset.fold_insert h]
    by_cases hp : p a
    · refine ⟨M, ?_, ?_⟩ <;> rw [keep, if_pos hp, max_bot_left] <;> assumption
    · refine ⟨max (S a) M, ?_, ?_⟩
      · rw [keep, if_neg hp, max_left_comm, h1, coe_max]
      · rw [keep, if_neg hp, max_left_comm, h2, max_mul_of_nonneg _ _ hL, coe_max, ← EReal.coe_mul]

/-- The exponential at negative infinity. -/
theorem exp_bot (x : ℝ) : Ideal.exp ((⊥ : EReal) - (x : EReal)) = ((0 : ℝ) : EReal) := rfl

/-- The power of two at negative infinity. -/
theorem exp2_bot (x : ℝ) : Ideal.exp2 ((⊥ : EReal) - (x : EReal)) = ((0 : ℝ) : EReal) := rfl

/-- The two forms of the attention of one head agree. -/
theorem head_eq (p : Fin 1280 → Prop) [DecidablePred p] (s : ℝ) (S : Fin 1280 → ℝ) (v : Fin 1280 → EReal) :
    kHead ((s : EReal) * (((Real.log 2)⁻¹ : ℝ) : EReal)) (keep p fun j => (S j : EReal)) v =
      ∑ j, v j * rW (s : EReal) (keep p fun j => (S j : EReal) * ((Real.log 2 : ℝ) : EReal)) j := by
  have hL : 0 < Real.log 2 := Real.log_pos (by norm_num)
  obtain ⟨m, h1, h2⟩ := fold_keep p S (s * (Real.log 2)⁻¹) (Real.log 2) hL.le Finset.univ
  rw [inv_mul_cancel_right₀ hL.ne'] at h2
  have hk : kMax ((s : EReal) * (((Real.log 2)⁻¹ : ℝ) : EReal)) (keep p fun j => (S j : EReal)) = (m : EReal) := by
    unfold kMax
    rw [← EReal.coe_mul]
    exact h1
  have hr : rMax (s : EReal) (keep p fun j => (S j : EReal) * ((Real.log 2 : ℝ) : EReal)) = ((m * Real.log 2 : ℝ) : EReal) := by
    unfold rMax sMax
    rw [max_comm]
    exact h2
  have he : ∀ x : ℝ, Ideal.exp2 ((x : EReal) - (m : EReal)) = ((Real.exp (x * Real.log 2 - m * Real.log 2) : ℝ) : EReal) := by
    intro x
    rw [← EReal.coe_sub, Ideal.exp2_coe]
    congr 1
    show (2 : ℝ) ^ (x - m) = _
    rw [Real.rpow_def_of_pos (by norm_num)]
    congr 1
    ring
  obtain ⟨w, hw⟩ : ∃ w : Fin 1280 → ℝ, w = fun j => if p j then 0 else Real.exp (S j * Real.log 2 - m * Real.log 2) := ⟨_, rfl⟩
  have hw0 : ∀ j, 0 ≤ w j := fun j => by
    rw [hw]
    show 0 ≤ if p j then (0 : ℝ) else Real.exp (S j * Real.log 2 - m * Real.log 2)
    split
    · exact le_rfl
    · exact (Real.exp_pos _).le
  have hk2 : ∀ j, Ideal.exp2 (keep p (fun j => (S j : EReal)) j - (m : EReal)) = (w j : EReal) := fun j => by
    rw [hw]
    unfold keep
    by_cases hp : p j
    · simp only [if_pos hp, exp2_bot]
    · simp only [if_neg hp, he]
  have hr2 : ∀ j, Ideal.exp (keep p (fun j => (S j : EReal) * ((Real.log 2 : ℝ) : EReal)) j - ((m * Real.log 2 : ℝ) : EReal)) = (w j : EReal) := fun j => by
    rw [hw]
    unfold keep
    by_cases hp : p j
    · simp only [if_pos hp, exp_bot]
    · simp only [if_neg hp, ← EReal.coe_mul, ← EReal.coe_sub, Ideal.exp_coe]
  have hks : Ideal.exp2 ((s : EReal) * (((Real.log 2)⁻¹ : ℝ) : EReal) - (m : EReal)) = ((Real.exp (s - m * Real.log 2) : ℝ) : EReal) := by
    rw [← EReal.coe_mul, he, inv_mul_cancel_right₀ hL.ne']
  have hrs : Ideal.exp ((s : EReal) - ((m * Real.log 2 : ℝ) : EReal)) = ((Real.exp (s - m * Real.log 2) : ℝ) : EReal) := by
    rw [← EReal.coe_sub, Ideal.exp_coe]
  unfold kHead rW kW
  rw [hk, hr]
  simp only [hk2, hr2, hks, hrs]
  rw [← coe_sum, ← EReal.coe_add]
  have hpos : 0 < ∑ i, w i + Real.exp (s - m * Real.log 2) := add_pos_of_nonneg_of_pos (Finset.sum_nonneg fun j _ => hw0 j) (Real.exp_pos _)
  simp only [Ideal.div_coe hpos.ne']
  rw [sum_mul_real _ _ _ (by positivity)]
  refine Finset.sum_congr rfl fun j _ => ?_
  rw [mul_comm (w j : EReal) (v j), mul_assoc]

/-- The kernel's scaled logit of a sink. -/
theorem sinkLog_eq (x0 : Vec Ideal Cert.Kernel2Ideal.S8 .f32) (h : ℕ) (hh : h < 8) :
    sinkLog x0 h hh = x0 (ix1 (⟨h, hh⟩ : Fin 8)) * (((Real.log 2)⁻¹ : ℝ) : EReal) := by
  unfold sinkLog Cert.Kernel2Ideal.Gen.k0_pay16
  rw [IdealRules.named_const.ideal_named_scalar _ _ _ _ rfl]
  rfl

open Cert.Kernel2Ideal Cert.Kernel2Ideal.Arr in
/-- The attention of a row and channel is the reference's, where the sinks, the queries and the keys are finite. -/
theorem att_eq (x0 : Vec Ideal S8 .f32) (x1 : Vec Ideal S8192x512 .bf16) (x2 : Vec Ideal S256x8192 .bf16) (x3 : Vec Ideal S8192x256 .bf16)
    (x4 x5 : Vec Ideal S8x128x256 .f32)
    (h0 : ∀ i, (x0 i : EReal) ≠ ⊥ ∧ (x0 i : EReal) ≠ ⊤) (h1 : ∀ i, (x1 i : EReal) ≠ ⊥ ∧ (x1 i : EReal) ≠ ⊤)
    (h2 : ∀ i, (x2 i : EReal) ≠ ⊥ ∧ (x2 i : EReal) ≠ ⊤) (h4 : ∀ i, (x4 i : EReal) ≠ ⊥ ∧ (x4 i : EReal) ≠ ⊤) (r : Fin 8192) (n : Fin 512) :
    gAtt x0 x1 x2 x3 x4 x5 r n = Cert.Reference2Ideal.Read.val_main_v56 (F := Ideal) x0 x1 x2 x3 x4 x5 (ix2 r n) := by
  rw [Cert.Reference2Ideal.Row.att_apply, log_word_two]
  obtain ⟨s, hs⟩ := real_of_ne (h0 (ix1 (⟨n / 64, by omega⟩ : Fin 8)))
  choose y1 hy1 using fun i => real_of_ne (h1 i)
  have hkey : ∀ (c : Fin 256) (j : Fin 1280), ∃ y : ℝ, gKey x2 x4 r c j = (y : EReal) := by
    intro c j
    unfold gKey
    split
    · exact real_of_ne (h2 _)
    · exact real_of_ne (h4 _)
  choose y hy using hkey
  obtain ⟨S, hS⟩ : ∃ S : Fin 1280 → ℝ, ∀ j, gScore x1 x2 x4 r (hd n) j = (S j : EReal) := by
    refine ⟨fun j => ∑ d : Fin 64, y1 (ix2 r (⟨64 * (hd n) + d, by omega⟩ : Fin 512)) * y ⟨64 * (2 * ((hd n) / 4) + (hd n) % 2) + d, by omega⟩ j, fun j => ?_⟩
    unfold gScore
    simp only [hy1, hy, ← EReal.coe_mul, ← coe_sum]
  unfold gAtt
  rw [sinkLog_eq]
  generalize gVal x3 x5 r _ = v
  simp only [hS]
  rw [hs]
  exact head_eq (far r) s S v

end Cert.LatEq
-- ==== Proof.LatFinite.lean ====
/- The side conditions of the second precondition's operations, and what it says: the sinks, the queries and both kinds of keys are finite. -/
module

public import proofs.«01_k».proof.Pre_finite_scores2
public import proofs.«01_k».proof.Proof.Finite

@[expose] public section

noncomputable section

namespace Cert.Pre_finite_scores2

open Idealize.ShloMosaic Idealize.ShloMosaic.TcCoe
open Cert.Pre_finite_scores (finite_of_lt)

instance facts : Facts where
  bcast_S_S8 := by decide
  bitsLt_bf16_f32 := by decide
  bcast_S_S8192x512 := by decide
  bcast_S_S256x8192 := by decide
  bcast_S_S8x128x256 := by decide

variable (x0 : FVec Ideal S8 .f32) (x1 : FVec Ideal S8192x512 .bf16) (x2 : FVec Ideal S256x8192 .bf16) (x3 : FVec Ideal S8192x256 .bf16)
  (x4 x5 : FVec Ideal S8x128x256 .f32) (x6 : FVec Ideal S8192x1024 .f32) (x7 : FVec Ideal S16x6144 .f32) (x8 : FVec Ideal S8192x512 .bf16)
  (x9 : FVec Ideal S8192x2048 .bf16) (x10 : FVec Ideal S1x1024 .f32) (x11 : FVec Ideal S512x1024 .bf16) (x12 : FVec Ideal S512x1024 .bf16)
  (x13 : FVec Ideal S1024x1024 .bf16) (x14 : FVec Ideal S1024x5632 .bf16) (x15 : FVec Ideal S2816x1024 .bf16)

/-- Where the precondition's first array is all ones, the sinks are finite. -/
theorem finite0 (h : (fn (F := Ideal) x0 x1 x2 x3 x4 x5 x6 x7 x8 x9 x10 x11 x12 x13 x14 x15).1 = fun _ => 1#1) (i : S8.Idx) :
    (x0 i : EReal) ≠ ⊥ ∧ (x0 i : EReal) ≠ ⊤ := finite_of_lt _ (congrFun h i)

/-- Where its second array is all ones, the queries are finite. -/
theorem finite1 (h : (fn (F := Ideal) x0 x1 x2 x3 x4 x5 x6 x7 x8 x9 x10 x11 x12 x13 x14 x15).2.1 = fun _ => 1#1) (i : S8192x512.Idx) :
    (x1 i : EReal) ≠ ⊥ ∧ (x1 i : EReal) ≠ ⊤ := finite_of_lt _ (congrFun h i)

/-- Where its third array is all ones, the keys of the sequences are finite. -/
theorem finite2 (h : (fn (F := Ideal) x0 x1 x2 x3 x4 x5 x6 x7 x8 x9 x10 x11 x12 x13 x14 x15).2.2.1 = fun _ => 1#1) (i : S256x8192.Idx) :
    (x2 i : EReal) ≠ ⊥ ∧ (x2 i : EReal) ≠ ⊤ := finite_of_lt _ (congrFun h i)

/-- Where its fourth array is all ones, the keys of the contexts are finite. -/
theorem finite4 (h : (fn (F := Ideal) x0 x1 x2 x3 x4 x5 x6 x7 x8 x9 x10 x11 x12 x13 x14 x15).2.2.2 = fun _ => 1#1) (i : S8x128x256.Idx) :
    (x4 i : EReal) ≠ ⊥ ∧ (x4 i : EReal) ≠ ⊤ := finite_of_lt _ (congrFun h i)

end Cert.Pre_finite_scores2
-- ==== Proof.lean ====
/- The claims: the kernel and its idealization run to the end, leave their arguments as they were and every counter at zero; so does the
   reference; the named constant is the word it replaces at the bits; and, where the sinks, the queries and the keys are finite, the
   idealization and the reference return the same array over the extended reals. -/
module

public import proofs.«01_k».proof.Defs
public import proofs.«01_k».proof.Proof.Gen.ReferenceIdeal.Run
public import proofs.«01_k».proof.Proof.Gen.ReferenceIdeal.Read
public import proofs.«01_k».proof.Proof.WordFrame
public import proofs.«01_k».proof.Proof.AttEq
public import proofs.«01_k».proof.Proof.Finite
public import proofs.«01_k».proof.Proof.LatWordFrame
public import proofs.«01_k».proof.Proof.LatEq
public import proofs.«01_k».proof.Proof.LatFinite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's run: its arguments unchanged, and it has no counter. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's output array is the reference's result, where the sinks, the queries and the keys are finite. -/
theorem out_eq (x0 : Vec Ideal KernelIdeal.S8 .f32) (x1 : Vec Ideal KernelIdeal.S8192x512 .bf16) (x2 : Vec Ideal KernelIdeal.S256x8192 .bf16)
    (x3 : Vec Ideal KernelIdeal.S8192x256 .bf16) (x4 : Vec Ideal KernelIdeal.S8192x1024 .f32) (x5 : Vec Ideal KernelIdeal.S16x6144 .f32)
    (x6 : Vec Ideal KernelIdeal.S8192x512 .bf16) (x7 : Vec Ideal KernelIdeal.S8192x2048 .bf16) (x8 : Vec Ideal KernelIdeal.S1x1024 .f32)
    (x9 : Vec Ideal KernelIdeal.S512x1024 .bf16) (x10 : Vec Ideal KernelIdeal.S512x1024 .bf16) (x11 : Vec Ideal KernelIdeal.S1024x1024 .bf16)
    (x12 : Vec Ideal KernelIdeal.S1024x5632 .bf16) (x13 : Vec Ideal KernelIdeal.S2816x1024 .bf16)
    (h0 : ∀ i, (x0 i : EReal) ≠ ⊥ ∧ (x0 i : EReal) ≠ ⊤) (h1 : ∀ i, (x1 i : EReal) ≠ ⊥ ∧ (x1 i : EReal) ≠ ⊤)
    (h2 : ∀ i, (x2 i : EReal) ≠ ⊥ ∧ (x2 i : EReal) ≠ ⊤) :
    ReferenceIdeal.Read.val_main_v82 (F := Ideal) x0 x1 x2 x3 x4 x5 x6 x7 x8 x9 x10 x11 x12 x13 =
      KernelIdeal.Arr.gOut x4 x5 x6 x7 x8 x9 x10 x11 x12 x13 (KernelIdeal.Arr.gAtt x0 x1 x2 x3) := by
  funext y
  obtain ⟨r, n, rfl⟩ : ∃ (r : Fin 8192) (n : Fin 1024), y = ix2 r n := ⟨_, _, eq_ix2 (n0 := 8192) (n1 := 1024) y⟩
  rw [ReferenceIdeal.Row.out_apply]
  have ha : KernelIdeal.Arr.gAtt x0 x1 x2 x3 = fun r n => ReferenceIdeal.Read.val_main_v37 (F := Ideal) x0 x1 x2 x3 (ix2 r n) :=
    funext fun r => funext fun n => AttEq.att_eq x0 x1 x2 x3 h0 h1 h2 r n
  rw [ha]
  rfl

/-- The idealization and the reference return the same array. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m ρ m' ρ' hpre hagree
  refine ⟨fun c => KernelIdeal.Arr.out m c, (θ_run _ _ _).mono (fun r h c => ⟨(h c).1.trans (KernelIdeal.Arr.final m c), (h c).2⟩) (KernelIdeal.Value.run_blocks m ρ), ?_⟩
  refine (θ_run _ _ _).mono (fun r h c => ⟨(h c).1.trans ?_, (h c).2⟩) (ReferenceIdeal.Value.run (F := Ideal) m' ρ')
  rw [ReferenceIdeal.Read.val_main_v82_eq]
  obtain ⟨e0, e1, e2, e3, e4, e5, e6, e7, e8, e9, e10, e11, e12, e13⟩ := hagree c
  rw [e0, e1, e2, e3, e4, e5, e6, e7, e8, e9, e10, e11, e12, e13]
  obtain ⟨p0, p1, p2⟩ := hpre c
  exact out_eq _ _ _ _ _ _ _ _ _ _ _ _ _ _ (Pre_finite_scores.finite0 _ _ _ _ _ _ _ _ _ _ _ _ _ _ p0)
    (Pre_finite_scores.finite1 _ _ _ _ _ _ _ _ _ _ _ _ _ _ p1) (Pre_finite_scores.finite2 _ _ _ _ _ _ _ _ _ _ _ _ _ _ p2)

/-- The second reference's run: its arguments unchanged, and it has no counter. -/
theorem ref_frame2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The second kernel's output array is its reference's result, where the sinks, the queries and both kinds of keys are finite. -/
theorem out_eq2 (x0 : Vec Ideal Kernel2Ideal.S8 .f32) (x1 : Vec Ideal Kernel2Ideal.S8192x512 .bf16) (x2 : Vec Ideal Kernel2Ideal.S256x8192 .bf16)
    (x3 : Vec Ideal Kernel2Ideal.S8192x256 .bf16) (x4 x5 : Vec Ideal Kernel2Ideal.S8x128x256 .f32) (x6 : Vec Ideal Kernel2Ideal.S8192x1024 .f32)
    (x7 : Vec Ideal Kernel2Ideal.S16x6144 .f32) (x8 : Vec Ideal Kernel2Ideal.S8192x512 .bf16) (x9 : Vec Ideal Kernel2Ideal.S8192x2048 .bf16)
    (x10 : Vec Ideal Kernel2Ideal.S1x1024 .f32) (x11 : Vec Ideal Kernel2Ideal.S512x1024 .bf16) (x12 : Vec Ideal Kernel2Ideal.S512x1024 .bf16)
    (x13 : Vec Ideal Kernel2Ideal.S1024x1024 .bf16) (x14 : Vec Ideal Kernel2Ideal.S1024x5632 .bf16) (x15 : Vec Ideal Kernel2Ideal.S2816x1024 .bf16)
    (h0 : ∀ i, (x0 i : EReal) ≠ ⊥ ∧ (x0 i : EReal) ≠ ⊤) (h1 : ∀ i, (x1 i : EReal) ≠ ⊥ ∧ (x1 i : EReal) ≠ ⊤)
    (h2 : ∀ i, (x2 i : EReal) ≠ ⊥ ∧ (x2 i : EReal) ≠ ⊤) (h4 : ∀ i, (x4 i : EReal) ≠ ⊥ ∧ (x4 i : EReal) ≠ ⊤) :
    Reference2Ideal.Read.val_main_v100 (F := Ideal) x0 x1 x2 x3 x4 x5 x6 x7 x8 x9 x10 x11 x12 x13 x14 x15 =
      Kernel2Ideal.Arr.gOut x6 x7 x8 x9 x10 x11 x12 x13 x14 x15 (Kernel2Ideal.Arr.gAtt x0 x1 x2 x3 x4 x5) := by
  funext y
  obtain ⟨r, n, rfl⟩ : ∃ (r : Fin 8192) (n : Fin 1024), y = ix2 r n := ⟨_, _, eq_ix2 (n0 := 8192) (n1 := 1024) y⟩
  rw [Reference2Ideal.Row.out_apply]
  have ha : Kernel2Ideal.Arr.gAtt x0 x1 x2 x3 x4 x5 = fun r n => Reference2Ideal.Read.val_main_v56 (F := Ideal) x0 x1 x2 x3 x4 x5 (ix2 r n) :=
    funext fun r => funext fun n => LatEq.att_eq x0 x1 x2 x3 x4 x5 h0 h1 h2 h4 r n
  rw [ha]
  rfl

/-- The second idealization and its reference return the same array. -/
theorem algebraic2 : Cert.algebraic_Kernel2Ideal_Reference2Ideal_pre_finite_scores2 (hKernel2Ideal := Cert.Kernel2Ideal.Gen.facts)
    (hReference2Ideal := Cert.Reference2Ideal.Gen.facts) (hPre_finite_scores2 := Cert.Pre_finite_scores2.facts) := by
  intro m ρ m' ρ' hpre hagree
  refine ⟨fun c => Kernel2Ideal.Arr.out m c, (θ_run _ _ _).mono (fun r h c => ⟨(h c).1.trans (Kernel2Ideal.Arr.final m c), (h c).2⟩) (Kernel2Ideal.Value.run_blocks m ρ), ?_⟩
  refine (θ_run _ _ _).mono (fun r h c => ⟨(h c).1.trans ?_, (h c).2⟩) (Reference2Ideal.Value.run (F := Ideal) m' ρ')
  rw [Reference2Ideal.Read.val_main_v100_eq]
  obtain ⟨e0, e1, e2, e3, e4, e5, e6, e7, e8, e9, e10, e11, e12, e13, e14, e15⟩ := hagree c
  show Reference2Ideal.Read.val_main_v100 (F := Ideal)
      (m' ((c.tc : Thread Reference2Ideal.nD Reference2Ideal.τ).loc Reference2Ideal.main_arg0)) (m' ((c.tc : Thread Reference2Ideal.nD Reference2Ideal.τ).loc Reference2Ideal.main_arg1))
      (m' ((c.tc : Thread Reference2Ideal.nD Reference2Ideal.τ).loc Reference2Ideal.main_arg2)) (m' ((c.tc : Thread Reference2Ideal.nD Reference2Ideal.τ).loc Reference2Ideal.main_arg3))
      (m' ((c.tc : Thread Reference2Ideal.nD Reference2Ideal.τ).loc Reference2Ideal.main_arg4)) (m' ((c.tc : Thread Reference2Ideal.nD Reference2Ideal.τ).loc Reference2Ideal.main_arg5))
      (m' ((c.tc : Thread Reference2Ideal.nD Reference2Ideal.τ).loc Reference2Ideal.main_arg6)) (m' ((c.tc : Thread Reference2Ideal.nD Reference2Ideal.τ).loc Reference2Ideal.main_arg7))
      (m' ((c.tc : Thread Reference2Ideal.nD Reference2Ideal.τ).loc Reference2Ideal.main_arg8)) (m' ((c.tc : Thread Reference2Ideal.nD Reference2Ideal.τ).loc Reference2Ideal.main_arg9))
      (m' ((c.tc : Thread Reference2Ideal.nD Reference2Ideal.τ).loc Reference2Ideal.main_arg10)) (m' ((c.tc : Thread Reference2Ideal.nD Reference2Ideal.τ).loc Reference2Ideal.main_arg11))
      (m' ((c.tc : Thread Reference2Ideal.nD Reference2Ideal.τ).loc Reference2Ideal.main_arg12)) (m' ((c.tc : Thread Reference2Ideal.nD Reference2Ideal.τ).loc Reference2Ideal.main_arg13))
      (m' ((c.tc : Thread Reference2Ideal.nD Reference2Ideal.τ).loc Reference2Ideal.main_arg14)) (m' ((c.tc : Thread Reference2Ideal.nD Reference2Ideal.τ).loc Reference2Ideal.main_arg15)) = _
  rw [e0, e1, e2, e3, e4, e5, e6, e7, e8, e9, e10, e11, e12, e13, e14, e15]
  obtain ⟨p0, p1, p2, p4⟩ := hpre c
  exact out_eq2 _ _ _ _ _ _ _ _ _ _ _ _ _ _ _ _ (Pre_finite_scores2.finite0 _ _ _ _ _ _ _ _ _ _ _ _ _ _ _ _ p0) (Pre_finite_scores2.finite1 _ _ _ _ _ _ _ _ _ _ _ _ _ _ _ _ p1) (Pre_finite_scores2.finite2 _ _ _ _ _ _ _ _ _ _ _ _ _ _ _ _ p2)
    (Pre_finite_scores2.finite4 _ _ _ _ _ _ _ _ _ _ _ _ _ _ _ _ p4)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Pre_finite_scores.facts, Cert.Pre_finite_scores2.facts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    fun m ρ _ => Cert.Kernel2.Gen.frame m ρ,
    fun m ρ _ => Cert.Kernel2Ideal.Gen.frame m ρ,
    fun m ρ _ => Cert.Kernel2Ideal.Gen.frame m ρ,
    ref_frame2,
    fun m ρ _ => ref_frame2 m ρ trivial,
    IdealRules.named_const.statement Cert.KernelIdeal.κ "log2e" .f32 0x3FB8AA3B#32 _ rfl,
    algebraic,
    ⟨IdealRules.named_const.statement Cert.Kernel2Ideal.κ "log2e" .f32 0x3FB8AA3B#32 _ rfl,
      IdealRules.named_const.statement Cert.Kernel2Ideal.κ "mask" .f32 0xF149F2CA#32 _ rfl⟩,
    algebraic2⟩

end Cert.Proof

end
